-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_1)) (v1 : (c : Dev Cert.Kernel8Ideal.nD) → Buf (Elt Ideal) ((c.tc : Thread Cert.Kernel8Ideal.nD Cert.Kernel8Ideal.τ).loc Cert.Kernel8Ideal.main_v3_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_1) = v0 c
          ∧ r.2.mem ((c.tc : Thread Cert.Kernel8Ideal.nD Cert.Kernel8Ideal.τ).loc Cert.Kernel8Ideal.main_v3_4) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v3_1)) (v1 : (c : Dev Cert.Kernel9Ideal.nD) → Buf (Elt Ideal) ((c.tc : Thread Cert.Kernel9Ideal.nD Cert.Kernel9Ideal.τ).loc Cert.Kernel9Ideal.main_v3_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_1) = v0 c
          ∧ r.2.mem ((c.tc : Thread Cert.Kernel9Ideal.nD Cert.Kernel9Ideal.τ).loc Cert.Kernel9Ideal.main_v3_4) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v9_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v95) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8192x2048 : Shape := ⟨2, ![8192, 2048]⟩
abbrev S8192x16 : Shape := ⟨2, ![8192, 16]⟩
abbrev S_ : Shape := ⟨0, ![]⟩

class Facts : Prop where
  bcast_S_S8192x2048 : S_.BroadcastsInDim S8192x2048 (![] : Fin 0 → Fin S8192x2048.rank)
  bcast_S_S8192x16 : S_.BroadcastsInDim S8192x16 (![] : Fin 0 → Fin S8192x16.rank)

variable [Facts]

def fn {F : FTy → Type} [FloatOps F] (main_arg0 : FVec F S8192x2048 .f32) (main_arg1 : FVec F S8192x2048 .f32) (main_arg2 : FVec F S8192x2048 .f32) (main_arg3 : FVec F S8192x16 .f32) : IVec S8192x2048 1 × IVec S8192x2048 1 × IVec S8192x2048 1 × IVec S8192x16 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  (main_v2, main_v5, main_v8, main_v11)
-- ==== Kernel.lean ====
abbrev S8192x2048 : Shape := ⟨2, ![8192, 2048]⟩
abbrev S8192x16 : Shape := ⟨2, ![8192, 16]⟩
abbrev S_ : Shape := ⟨0, ![]⟩
abbrev S16x8192 : Shape := ⟨2, ![16, 8192]⟩
abbrev S16x8192x1 : Shape := ⟨3, ![16, 8192, 1]⟩
abbrev S16x8192x128 : Shape := ⟨3, ![16, 8192, 128]⟩
abbrev S2048x8192 : Shape := ⟨2, ![2048, 8192]⟩
abbrev S1024x128 : Shape := ⟨2, ![1024, 128]⟩
abbrev S8192x128 : Shape := ⟨2, ![8192, 128]⟩
abbrev S128x8192 : Shape := ⟨2, ![128, 8192]⟩
abbrev S1x8192x128 : Shape := ⟨3, ![1, 8192, 128]⟩
abbrev S1x2x1024x1024 : Shape := ⟨4, ![1, 2, 1024, 1024]⟩
abbrev S1x1x1024 : Shape := ⟨3, ![1, 1, 1024]⟩
abbrev S1x128x1024 : Shape := ⟨3, ![1, 128, 1024]⟩
abbrev S1x1024x128 : Shape := ⟨3, ![1, 1024, 128]⟩
abbrev S1024x1024 : Shape := ⟨2, ![1024, 1024]⟩
abbrev S1x1x1024x1024 : Shape := ⟨4, ![1, 1, 1024, 1024]⟩
abbrev S1x1024 : Shape := ⟨2, ![1, 1024]⟩
abbrev S1024 : Shape := ⟨1, ![1024]⟩
abbrev S128x1024 : Shape := ⟨2, ![128, 1024]⟩

abbrev nBuf : Space → Nat
  | .hbm => 22
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | .hbm, ⟨12, _⟩ => ⟨S8192x16, .f32⟩
  | .hbm, ⟨13, _⟩ => ⟨S8192x16, .f32⟩
  | .hbm, ⟨14, _⟩ => ⟨S8192x16, .f32⟩
  | .hbm, ⟨15, _⟩ => ⟨S16x8192, .f32⟩
  | .hbm, ⟨16, _⟩ => ⟨S16x8192x1, .f32⟩
  | .hbm, ⟨17, _⟩ => ⟨S16x8192x128, .f32⟩
  | .hbm, ⟨18, _⟩ => ⟨S8192x2048, .bf16⟩
  | .hbm, ⟨19, _⟩ => ⟨S2048x8192, .f32⟩
  | .hbm, ⟨20, _⟩ => ⟨S2048x8192, .bf16⟩
  | .hbm, ⟨21, _⟩ => ⟨S8192x2048, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S128x8192, .bf16⟩
  | .local _ .vmem, ⟨5, _⟩ => ⟨S128x8192, .bf16⟩
  | .local _ .vmem, ⟨6, _⟩ => ⟨S1x8192x128, .f32⟩
  | .local _ .vmem, ⟨7, _⟩ => ⟨S1x8192x128, .f32⟩
  | .local _ .vmem, ⟨8, _⟩ => ⟨S1024x128, .bf16⟩
  | .local _ .vmem, ⟨9, _⟩ => ⟨S1024x128, .bf16⟩
  | .local _ .vmem, ⟨10, _⟩ => ⟨S1x2x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x128x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_mult1 : BitVec 32 :=
  let c0_i32 : BitVec 32 := 0#32
  c0_i32
@[reducible] def k0_t1_loop (i : grid0.Coords) : Scf.Loop 32 :=
  let c0_i32_21 : BitVec 32 := 0#32
  let arg1 : BitVec 32 := BitVec.ofNat 32 (i 1).val
  let v27 : BitVec 32 := Scalar.subi arg1 c0_i32_21
  let c1_i32 : BitVec 32 := 1#32
  let v29 : BitVec 32 := Scalar.divsi v27 c1_i32
  let v30 : BitVec 32 := Scalar.muli v29 c1_i32
  let v31 : BitVec 32 := Scalar.addi c0_i32_21 v30
  let c1_i32_22 : BitVec 32 := 1#32
  ⟨c0_i32_21, v31, c1_i32_22⟩
def k0_mult2 (i : grid0.Coords) (k0_t1 : Fin (k0_t1_loop i).trips) : BitVec 32 :=
  let c0_i32_21 : BitVec 32 := 0#32
  let c1_i32_22 : BitVec 32 := 1#32
  let arg11 : BitVec 32 := Scf.iv c0_i32_21 c1_i32_22 k0_t1
  let c1_i32_63 : BitVec 32 := 1#32
  let v96 : BitVec 32 := Scalar.addi arg11 c1_i32_63
  let c1024_i32_64 : BitVec 32 := 1024#32
  let v97 : BitVec 32 := Scalar.muli v96 c1024_i32_64
  v97
def k0_off1 (i : grid0.Coords) (k0_t1 : Fin (k0_t1_loop i).trips) : Fin 3 → Nat :=
  let c0_65 : Index := 0#32
  let c0_i32_21 : BitVec 32 := 0#32
  let c1_i32_22 : BitVec 32 := 1#32
  let arg11 : BitVec 32 := Scf.iv c0_i32_21 c1_i32_22 k0_t1
  let c1_i32_63 : BitVec 32 := 1#32
  let v96 : BitVec 32 := Scalar.addi arg11 c1_i32_63
  let c1024_i32_64 : BitVec 32 := 1024#32
  let v97 : BitVec 32 := Scalar.muli v96 c1024_i32_64
  let v98 : BitVec 32 := v97
  let v99 : Index := Scalar.indexCast v98
  let c0_66 : Index := 0#32
  ![0, v99.toNat, 0]
def k0_off2 (i : grid0.Coords) (k0_t1 : Fin (k0_t1_loop i).trips) : Fin 2 → Nat :=
  let c0_i32_21 : BitVec 32 := 0#32
  let c1_i32_22 : BitVec 32 := 1#32
  let arg11 : BitVec 32 := Scf.iv c0_i32_21 c1_i32_22 k0_t1
  let c1_i32_63 : BitVec 32 := 1#32
  let v96 : BitVec 32 := Scalar.addi arg11 c1_i32_63
  let c1024_i32_64 : BitVec 32 := 1024#32
  let v97 : BitVec 32 := Scalar.muli v96 c1024_i32_64
  let v98 : BitVec 32 := v97
  let v102 : Index := Scalar.indexCast v98
  let c0_67 : Index := 0#32
  ![v102.toNat, 0]
def k0_off3 (i : grid0.Coords) (k0_t1 : Fin (k0_t1_loop i).trips) : Fin 4 → Nat :=
  let c0_77 : Index := 0#32
  let c0_i32_21 : BitVec 32 := 0#32
  let c1_i32_22 : BitVec 32 := 1#32
  let arg11 : BitVec 32 := Scf.iv c0_i32_21 c1_i32_22 k0_t1
  let c2_i32_71 : BitVec 32 := 2#32
  let c0_i32_72 : BitVec 32 := 0#32
  let v110 : BitVec 1 := Scalar.cmpi .eq c2_i32_71 c0_i32_72
  let c1_i32_73 : BitVec 32 := 1#32
  let v111 : BitVec 32 := Scalar.select v110 c1_i32_73 c2_i32_71
  let v112 : BitVec 32 := Scalar.remsi arg11 v111
  let c0_i32_75 : BitVec 32 := 0#32
  let v114 : BitVec 1 := Scalar.cmpi .slt v112 c0_i32_75
  let c0_i32_76 : BitVec 32 := 0#32
  let v115 : BitVec 1 := Scalar.cmpi .slt v111 c0_i32_76
  let v116 : BitVec 1 := Scalar.xori v114 v115
  let c0_i32_74 : BitVec 32 := 0#32
  let v113 : BitVec 1 := Scalar.cmpi .ne v112 c0_i32_74
  let v117 : BitVec 1 := Scalar.andi v116 v113
  let v118 : BitVec 32 := Scalar.addi v112 v111
  let v119 : BitVec 32 := Scalar.select v117 v118 v112
  let v120 : Index := Scalar.indexCast v119
  let c0_78 : Index := 0#32
  let c0_79 : Index := 0#32
  ![0, v120.toNat, 0, 0]
def k0_mult3 (i : grid0.Coords) (k0_t1 : Fin (k0_t1_loop i).trips) : BitVec 32 :=
  let c0_i32_21 : BitVec 32 := 0#32
  let c1_i32_22 : BitVec 32 := 1#32
  let arg11 : BitVec 32 := Scf.iv c0_i32_21 c1_i32_22 k0_t1
  let c1024_i32_80 : BitVec 32 := 1024#32
  let v123 : BitVec 32 := Scalar.muli arg11 c1024_i32_80
  v123
def k0_off4 (i : grid0.Coords) (k0_t1 : Fin (k0_t1_loop i).trips) : Fin 2 → Nat :=
  let c0_95 : Index := 0#32
  let c0_i32_21 : BitVec 32 := 0#32
  let c1_i32_22 : BitVec 32 := 1#32
  let arg11 : BitVec 32 := Scf.iv c0_i32_21 c1_i32_22 k0_t1
  let c1024_i32_80 : BitVec 32 := 1024#32
  let v123 : BitVec 32 := Scalar.muli arg11 c1024_i32_80
  let v124 : BitVec 32 := v123
  let v148 : Index := Scalar.indexCast v124
  ![0, v148.toNat]
def k0_off5 (i : grid0.Coords) (k0_t1 : Fin (k0_t1_loop i).trips) : Fin 4 → Nat :=
  let c0_110 : Index := 0#32
  let c0_i32_21 : BitVec 32 := 0#32
  let c1_i32_22 : BitVec 32 := 1#32
  let arg11 : BitVec 32 := Scf.iv c0_i32_21 c1_i32_22 k0_t1
  let c1_i32_103 : BitVec 32 := 1#32
  let v160 : BitVec 32 := Scalar.addi arg11 c1_i32_103
  let c2_i32_104 : BitVec 32 := 2#32
  let c0_i32_105 : BitVec 32 := 0#32
  let v161 : BitVec 1 := Scalar.cmpi .eq c2_i32_104 c0_i32_105
  let c1_i32_106 : BitVec 32 := 1#32
  let v162 : BitVec 32 := Scalar.select v161 c1_i32_106 c2_i32_104
  let v163 : BitVec 32 := Scalar.remsi v160 v162
  let c0_i32_108 : BitVec 32 := 0#32
  let v165 : BitVec 1 := Scalar.cmpi .slt v163 c0_i32_108
  let c0_i32_109 : BitVec 32 := 0#32
  let v166 : BitVec 1 := Scalar.cmpi .slt v162 c0_i32_109
  let v167 : BitVec 1 := Scalar.xori v165 v166
  let c0_i32_107 : BitVec 32 := 0#32
  let v164 : BitVec 1 := Scalar.cmpi .ne v163 c0_i32_107
  let v168 : BitVec 1 := Scalar.andi v167 v164
  let v169 : BitVec 32 := Scalar.addi v163 v162
  let v170 : BitVec 32 := Scalar.select v168 v169 v163
  let v171 : Index := Scalar.indexCast v170
  let c0_111 : Index := 0#32
  let c0_112 : Index := 0#32
  ![0, v171.toNat, 0, 0]
@[reducible] def k0_t2_loop (i : grid0.Coords) : Scf.Loop 32 :=
  let c0_i32_21 : BitVec 32 := 0#32
  let arg1 : BitVec 32 := BitVec.ofNat 32 (i 1).val
  let v27 : BitVec 32 := Scalar.subi arg1 c0_i32_21
  let c1_i32 : BitVec 32 := 1#32
  let v29 : BitVec 32 := Scalar.divsi v27 c1_i32
  let v30 : BitVec 32 := Scalar.muli v29 c1_i32
  let v31 : BitVec 32 := Scalar.addi c0_i32_21 v30
  let v28 : BitVec 32 := Scalar.addi c0_i32_21 v27
  let c1_i32_23 : BitVec 32 := 1#32
  ⟨v31, v28, c1_i32_23⟩
def k0_mult4 (i : grid0.Coords) (k0_t2 : Fin (k0_t2_loop i).trips) : BitVec 32 :=
  let c0_i32_21 : BitVec 32 := 0#32
  let arg1 : BitVec 32 := BitVec.ofNat 32 (i 1).val
  let v27 : BitVec 32 := Scalar.subi arg1 c0_i32_21
  let c1_i32 : BitVec 32 := 1#32
  let v29 : BitVec 32 := Scalar.divsi v27 c1_i32
  let v30 : BitVec 32 := Scalar.muli v29 c1_i32
  let v31 : BitVec 32 := Scalar.addi c0_i32_21 v30
  let c1_i32_23 : BitVec 32 := 1#32
  let arg11 : BitVec 32 := Scf.iv v31 c1_i32_23 k0_t2
  let c1_i32_63 : BitVec 32 := 1#32
  let v96 : BitVec 32 := Scalar.addi arg11 c1_i32_63
  let c1024_i32_64 : BitVec 32 := 1024#32
  let v97 : BitVec 32 := Scalar.muli v96 c1024_i32_64
  v97
def k0_off6 (i : grid0.Coords) (k0_t2 : Fin (k0_t2_loop i).trips) : Fin 3 → Nat :=
  let c0_65 : Index := 0#32
  let c0_i32_21 : BitVec 32 := 0#32
  let arg1 : BitVec 32 := BitVec.ofNat 32 (i 1).val
  let v27 : BitVec 32 := Scalar.subi arg1 c0_i32_21
  let c1_i32 : BitVec 32 := 1#32
  let v29 : BitVec 32 := Scalar.divsi v27 c1_i32
  let v30 : BitVec 32 := Scalar.muli v29 c1_i32
  let v31 : BitVec 32 := Scalar.addi c0_i32_21 v30
  let c1_i32_23 : BitVec 32 := 1#32
  let arg11 : BitVec 32 := Scf.iv v31 c1_i32_23 k0_t2
  let c1_i32_63 : BitVec 32 := 1#32
  let v96 : BitVec 32 := Scalar.addi arg11 c1_i32_63
  let c1024_i32_64 : BitVec 32 := 1024#32
  let v97 : BitVec 32 := Scalar.muli v96 c1024_i32_64
  let v98 : BitVec 32 := v97
  let v99 : Index := Scalar.indexCast v98
  let c0_66 : Index := 0#32
  ![0, v99.toNat, 0]
def k0_off7 (i : grid0.Coords) (k0_t2 : Fin (k0_t2_loop i).trips) : Fin 2 → Nat :=
  let c0_i32_21 : BitVec 32 := 0#32
  let arg1 : BitVec 32 := BitVec.ofNat 32 (i 1).val
  let v27 : BitVec 32 := Scalar.subi arg1 c0_i32_21
  let c1_i32 : BitVec 32 := 1#32
  let v29 : BitVec 32 := Scalar.divsi v27 c1_i32
  let v30 : BitVec 32 := Scalar.muli v29 c1_i32
  let v31 : BitVec 32 := Scalar.addi c0_i32_21 v30
  let c1_i32_23 : BitVec 32 := 1#32
  let arg11 : BitVec 32 := Scf.iv v31 c1_i32_23 k0_t2
  let c1_i32_63 : BitVec 32 := 1#32
  let v96 : BitVec 32 := Scalar.addi arg11 c1_i32_63
  let c1024_i32_64 : BitVec 32 := 1024#32
  let v97 : BitVec 32 := Scalar.muli v96 c1024_i32_64
  let v98 : BitVec 32 := v97
  let v102 : Index := Scalar.indexCast v98
  let c0_67 : Index := 0#32
  ![v102.toNat, 0]
def k0_off8 (i : grid0.Coords) (k0_t2 : Fin (k0_t2_loop i).trips) : Fin 4 → Nat :=
  let c0_77 : Index := 0#32
  let c0_i32_21 : BitVec 32 := 0#32
  let arg1 : BitVec 32 := BitVec.ofNat 32 (i 1).val
  let v27 : BitVec 32 := Scalar.subi arg1 c0_i32_21
  let c1_i32 : BitVec 32 := 1#32
  let v29 : BitVec 32 := Scalar.divsi v27 c1_i32
  let v30 : BitVec 32 := Scalar.muli v29 c1_i32
  let v31 : BitVec 32 := Scalar.addi c0_i32_21 v30
  let c1_i32_23 : BitVec 32 := 1#32
  let arg11 : BitVec 32 := Scf.iv v31 c1_i32_23 k0_t2
  let c2_i32_71 : BitVec 32 := 2#32
  let c0_i32_72 : BitVec 32 := 0#32
  let v110 : BitVec 1 := Scalar.cmpi .eq c2_i32_71 c0_i32_72
  let c1_i32_73 : BitVec 32 := 1#32
  let v111 : BitVec 32 := Scalar.select v110 c1_i32_73 c2_i32_71
  let v112 : BitVec 32 := Scalar.remsi arg11 v111
  let c0_i32_75 : BitVec 32 := 0#32
  let v114 : BitVec 1 := Scalar.cmpi .slt v112 c0_i32_75
  let c0_i32_76 : BitVec 32 := 0#32
  let v115 : BitVec 1 := Scalar.cmpi .slt v111 c0_i32_76
  let v116 : BitVec 1 := Scalar.xori v114 v115
  let c0_i32_74 : BitVec 32 := 0#32
  let v113 : BitVec 1 := Scalar.cmpi .ne v112 c0_i32_74
  let v117 : BitVec 1 := Scalar.andi v116 v113
  let v118 : BitVec 32 := Scalar.addi v112 v111
  let v119 : BitVec 32 := Scalar.select v117 v118 v112
  let v120 : Index := Scalar.indexCast v119
  let c0_78 : Index := 0#32
  let c0_79 : Index := 0#32
  ![0, v120.toNat, 0, 0]
def k0_mult5 (i : grid0.Coords) (k0_t2 : Fin (k0_t2_loop i).trips) : BitVec 32 :=
  let c0_i32_21 : BitVec 32 := 0#32
  let arg1 : BitVec 32 := BitVec.ofNat 32 (i 1).val
  let v27 : BitVec 32 := Scalar.subi arg1 c0_i32_21
  let c1_i32 : BitVec 32 := 1#32
  let v29 : BitVec 32 := Scalar.divsi v27 c1_i32
  let v30 : BitVec 32 := Scalar.muli v29 c1_i32
  let v31 : BitVec 32 := Scalar.addi c0_i32_21 v30
  let c1_i32_23 : BitVec 32 := 1#32
  let arg11 : BitVec 32 := Scf.iv v31 c1_i32_23 k0_t2
  let c1024_i32_80 : BitVec 32 := 1024#32
  let v123 : BitVec 32 := Scalar.muli arg11 c1024_i32_80
  v123
def k0_off9 (i : grid0.Coords) (k0_t2 : Fin (k0_t2_loop i).trips) : Fin 2 → Nat :=
  let c0_95 : Index := 0#32
  let c0_i32_21 : BitVec 32 := 0#32
  let arg1 : BitVec 32 := BitVec.ofNat 32 (i 1).val
  let v27 : BitVec 32 := Scalar.subi arg1 c0_i32_21
  let c1_i32 : BitVec 32 := 1#32
  let v29 : BitVec 32 := Scalar.divsi v27 c1_i32
  let v30 : BitVec 32 := Scalar.muli v29 c1_i32
  let v31 : BitVec 32 := Scalar.addi c0_i32_21 v30
  let c1_i32_23 : BitVec 32 := 1#32
  let arg11 : BitVec 32 := Scf.iv v31 c1_i32_23 k0_t2
  let c1024_i32_80 : BitVec 32 := 1024#32
  let v123 : BitVec 32 := Scalar.muli arg11 c1024_i32_80
  let v124 : BitVec 32 := v123
  let v148 : Index := Scalar.indexCast v124
  ![0, v148.toNat]
def k0_off10 (i : grid0.Coords) (k0_t2 : Fin (k0_t2_loop i).trips) : Fin 4 → Nat :=
  let c0_110 : Index := 0#32
  let c0_i32_21 : BitVec 32 := 0#32
  let arg1 : BitVec 32 := BitVec.ofNat 32 (i 1).val
  let v27 : BitVec 32 := Scalar.subi arg1 c0_i32_21
  let c1_i32 : BitVec 32 := 1#32
  let v29 : BitVec 32 := Scalar.divsi v27 c1_i32
  let v30 : BitVec 32 := Scalar.muli v29 c1_i32
  let v31 : BitVec 32 := Scalar.addi c0_i32_21 v30
  let c1_i32_23 : BitVec 32 := 1#32
  let arg11 : BitVec 32 := Scf.iv v31 c1_i32_23 k0_t2
  let c1_i32_103 : BitVec 32 := 1#32
  let v160 : BitVec 32 := Scalar.addi arg11 c1_i32_103
  let c2_i32_104 : BitVec 32 := 2#32
  let c0_i32_105 : BitVec 32 := 0#32
  let v161 : BitVec 1 := Scalar.cmpi .eq c2_i32_104 c0_i32_105
  let c1_i32_106 : BitVec 32 := 1#32
  let v162 : BitVec 32 := Scalar.select v161 c1_i32_106 c2_i32_104
  let v163 : BitVec 32 := Scalar.remsi v160 v162
  let c0_i32_108 : BitVec 32 := 0#32
  let v165 : BitVec 1 := Scalar.cmpi .slt v163 c0_i32_108
  let c0_i32_109 : BitVec 32 := 0#32
  let v166 : BitVec 1 := Scalar.cmpi .slt v162 c0_i32_109
  let v167 : BitVec 1 := Scalar.xori v165 v166
  let c0_i32_107 : BitVec 32 := 0#32
  let v164 : BitVec 1 := Scalar.cmpi .ne v163 c0_i32_107
  let v168 : BitVec 1 := Scalar.andi v167 v164
  let v169 : BitVec 32 := Scalar.addi v163 v162
  let v170 : BitVec 32 := Scalar.select v168 v169 v163
  let v171 : Index := Scalar.indexCast v170
  let c0_111 : Index := 0#32
  let c0_112 : Index := 0#32
  ![0, v171.toNat, 0, 0]
def k0_off11 (i : grid0.Coords) : Fin 4 → Nat :=
  let c0_29 : Index := 0#32
  let arg1 : BitVec 32 := BitVec.ofNat 32 (i 1).val
  let c2_i32 : BitVec 32 := 2#32
  let c0_i32_24 : BitVec 32 := 0#32
  let v32 : BitVec 1 := Scalar.cmpi .eq c2_i32 c0_i32_24
  let c1_i32_25 : BitVec 32 := 1#32
  let v33 : BitVec 32 := Scalar.select v32 c1_i32_25 c2_i32
  let v34 : BitVec 32 := Scalar.remsi arg1 v33
  let c0_i32_27 : BitVec 32 := 0#32
  let v36 : BitVec 1 := Scalar.cmpi .slt v34 c0_i32_27
  let c0_i32_28 : BitVec 32 := 0#32
  let v37 : BitVec 1 := Scalar.cmpi .slt v33 c0_i32_28
  let v38 : BitVec 1 := Scalar.xori v36 v37
  let c0_i32_26 : BitVec 32 := 0#32
  let v35 : BitVec 1 := Scalar.cmpi .ne v34 c0_i32_26
  let v39 : BitVec 1 := Scalar.andi v38 v35
  let v40 : BitVec 32 := Scalar.addi v34 v33
  let v41 : BitVec 32 := Scalar.select v39 v40 v34
  let v42 : Index := Scalar.indexCast v41
  let c0_30 : Index := 0#32
  let c0_31 : Index := 0#32
  ![0, v42.toNat, 0, 0]
def k0_mult6 (i : grid0.Coords) : BitVec 32 :=
  let arg1 : BitVec 32 := BitVec.ofNat 32 (i 1).val
  let c1024_i32 : BitVec 32 := 1024#32
  let v50 : BitVec 32 := Scalar.muli arg1 c1024_i32
  v50
def k0_off12 (i : grid0.Coords) : Fin 2 → Nat :=
  let c0_47 : Index := 0#32
  let arg1 : BitVec 32 := BitVec.ofNat 32 (i 1).val
  let c1024_i32 : BitVec 32 := 1024#32
  let v50 : BitVec 32 := Scalar.muli arg1 c1024_i32
  let v51 : BitVec 32 := v50
  let v75 : Index := Scalar.indexCast v51
  ![0, v75.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x16 : Shape := ⟨2, ![8192, 16]⟩
abbrev S8192x16x128 : Shape := ⟨3, ![8192, 16, 128]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16, .f32⟩
  | .hbm, ⟨4, _⟩ => ⟨S8192x16x128, .f32⟩
  | .hbm, ⟨5, _⟩ => ⟨S8192x16x128, .f32⟩
  | .hbm, ⟨6, _⟩ => ⟨S8192x16x128, .f32⟩
  | .hbm, ⟨7, _⟩ => ⟨S16x8192x8192, .f32⟩
  | .hbm, ⟨8, _⟩ => ⟨S_, .f32⟩
  | .hbm, ⟨9, _⟩ => ⟨S16x8192x8192, .f32⟩
  | .hbm, ⟨10, _⟩ => ⟨S16x8192x8192, .f32⟩
  | .hbm, ⟨11, _⟩ => ⟨S16x8192, .f32⟩
  | .hbm, ⟨12, _⟩ => ⟨S16x8192x1, .f32⟩
  | .hbm, ⟨13, _⟩ => ⟨S16x8192x8192, .f32⟩
  | .hbm, ⟨14, _⟩ => ⟨S16x8192x8192, .f32⟩
  | .hbm, ⟨15, _⟩ => ⟨S16x8192, .f32⟩
  | .hbm, ⟨16, _⟩ => ⟨S16x1x8192, .f32⟩
  | .hbm, ⟨17, _⟩ => ⟨S16x8192x8192, .f32⟩
  | .hbm, ⟨18, _⟩ => ⟨S16x8192x8192, .f32⟩
  | .hbm, ⟨19, _⟩ => ⟨S8192, .i32⟩
  | .hbm, ⟨20, _⟩ => ⟨S1x8192, .i32⟩
  | .hbm, ⟨21, _⟩ => ⟨S8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S16x8192x8192, .i1⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S_, .f32⟩
  | .hbm, ⟨34, _⟩ => ⟨S16x8192, .f32⟩
  | .hbm, ⟨35, _⟩ => ⟨S16x8192, .f32⟩
  | .hbm, ⟨36, _⟩ => ⟨S16x8192x1, .f32⟩
  | .hbm, ⟨37, _⟩ => ⟨S16x8192x8192, .f32⟩
  | .hbm, ⟨38, _⟩ => ⟨S16x8192x8192, .f32⟩
  | .hbm, ⟨39, _⟩ => ⟨S16x8192x8192, .f32⟩
  | .hbm, ⟨40, _⟩ => ⟨S_, .f32⟩
  | .hbm, ⟨41, _⟩ => ⟨S16x8192, .f32⟩
  | .hbm, ⟨42, _⟩ => ⟨S16x8192x1, .f32⟩
  | .hbm, ⟨43, _⟩ => ⟨S16x8192x8192, .f32⟩
  | .hbm, ⟨44, _⟩ => ⟨S16x8192x8192, .f32⟩
  | .hbm, ⟨45, _⟩ => ⟨S16x128x8192, .f32⟩
  | .hbm, ⟨46, _⟩ => ⟨S8192x16x128, .f32⟩
  | .hbm, ⟨47, _⟩ => ⟨S8192x2048, .f32⟩
  | .hbm, ⟨48, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S1x2048x4096 : Shape := ⟨3, ![1, 2048, 4096]⟩
abbrev S2048x4096 : Shape := ⟨2, ![2048, 4096]⟩
abbrev S1x2048 : Shape := ⟨2, ![1, 2048]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x4096, .f32⟩
  | .hbm, ⟨3, _⟩ => ⟨S2048x4096, .f32⟩
  | .hbm, ⟨4, _⟩ => ⟨S2048x4096, .bf16⟩
  | .hbm, ⟨5, _⟩ => ⟨S1x2048, .f32⟩
  | .hbm, ⟨6, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel2Ideal.lean ====
abbrev S8192x2048 : Shape := ⟨2, ![8192, 2048]⟩
abbrev S2048 : Shape := ⟨1, ![2048]⟩
abbrev S1x2048x4096 : Shape := ⟨3, ![1, 2048, 4096]⟩
abbrev S2048x4096 : Shape := ⟨2, ![2048, 4096]⟩
abbrev S1x2048 : Shape := ⟨2, ![1, 2048]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x4096, .f32⟩
  | .hbm, ⟨3, _⟩ => ⟨S2048x4096, .f32⟩
  | .hbm, ⟨4, _⟩ => ⟨S2048x4096, .bf16⟩
  | .hbm, ⟨5, _⟩ => ⟨S1x2048, .f32⟩
  | .hbm, ⟨6, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2048 : Shape := ⟨1, ![2048]⟩
abbrev S1x2048x4096 : Shape := ⟨3, ![1, 2048, 4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x4096 : Shape := ⟨2, ![2048, 4096]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x4096, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x4096, .f32⟩
  | .hbm, ⟨20, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S8192x2048 : Shape := ⟨2, ![8192, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x2048, .f32⟩
  | .hbm, ⟨3, _⟩ => ⟨S8192x2048, .bf16⟩
  | .hbm, ⟨4, _⟩ => ⟨S2048x2048, .f32⟩
  | .hbm, ⟨5, _⟩ => ⟨S2048x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .f32⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S1x2048x6160 : Shape := ⟨3, ![1, 2048, 6160]⟩
abbrev S2048x6160 : Shape := ⟨2, ![2048, 6160]⟩
abbrev S2048x6144 : Shape := ⟨2, ![2048, 6144]⟩
abbrev S1x2048 : Shape := ⟨2, ![1, 2048]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x6160, .f32⟩
  | .hbm, ⟨3, _⟩ => ⟨S2048x6160, .f32⟩
  | .hbm, ⟨4, _⟩ => ⟨S2048x6144, .f32⟩
  | .hbm, ⟨5, _⟩ => ⟨S2048x6144, .bf16⟩
  | .hbm, ⟨6, _⟩ => ⟨S1x2048, .f32⟩
  | .hbm, ⟨7, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
abbrev S8192x2048 : Shape := ⟨2, ![8192, 2048]⟩
abbrev S2048 : Shape := ⟨1, ![2048]⟩
abbrev S1x2048x6160 : Shape := ⟨3, ![1, 2048, 6160]⟩
abbrev S2048x6160 : Shape := ⟨2, ![2048, 6160]⟩
abbrev S2048x6144 : Shape := ⟨2, ![2048, 6144]⟩
abbrev S1x2048 : Shape := ⟨2, ![1, 2048]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x6160, .f32⟩
  | .hbm, ⟨3, _⟩ => ⟨S2048x6160, .f32⟩
  | .hbm, ⟨4, _⟩ => ⟨S2048x6144, .f32⟩
  | .hbm, ⟨5, _⟩ => ⟨S2048x6144, .bf16⟩
  | .hbm, ⟨6, _⟩ => ⟨S1x2048, .f32⟩
  | .hbm, ⟨7, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048 : Shape := ⟨1, ![2048]⟩
abbrev S1x2048x6160 : Shape := ⟨3, ![1, 2048, 6160]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x6160 : Shape := ⟨2, ![2048, 6160]⟩
abbrev S8192x6160 : Shape := ⟨2, ![8192, 6160]⟩
abbrev S8192x6144 : Shape := ⟨2, ![8192, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x6160, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x6160, .f32⟩
  | .hbm, ⟨20, _⟩ => ⟨S8192x6160, .f32⟩
  | .hbm, ⟨21, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x2048 : Shape := ⟨2, ![2048, 2048]⟩
abbrev S2048x8x2x128 : Shape := ⟨4, ![2048, 8, 2, 128]⟩
abbrev S2048x2x8x128 : Shape := ⟨4, ![2048, 2, 8, 128]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S2048x8x2x128, .f32⟩
  | .hbm, ⟨4, _⟩ => ⟨S2048x2x8x128, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S8192x2048, .bf16⟩
  | .hbm, ⟨9, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .vmem, ⟨8, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S8192x2048 : Shape := ⟨2, ![8192, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8x2x128 : Shape := ⟨4, ![8192, 8, 2, 128]⟩
abbrev S8192x2x8x128 : Shape := ⟨4, ![8192, 2, 8, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x8x2x128, .f32⟩
  | .hbm, ⟨21, _⟩ => ⟨S8192x2x8x128, .f32⟩
  | .hbm, ⟨22, _⟩ => ⟨S8192x2048, .f32⟩
  | .hbm, ⟨23, _⟩ => ⟨S8192x2048, .bf16⟩
  | .hbm, ⟨24, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel6.lean ====
abbrev S128x2048 : Shape := ⟨2, ![128, 2048]⟩
abbrev S2048 : Shape := ⟨1, ![2048]⟩
abbrev S1x2048x4096 : Shape := ⟨3, ![1, 2048, 4096]⟩
abbrev S2048x4096 : Shape := ⟨2, ![2048, 4096]⟩
abbrev S1x2048 : Shape := ⟨2, ![1, 2048]⟩
abbrev S128x4096 : Shape := ⟨2, ![128, 4096]⟩
abbrev S2048x1024 : Shape := ⟨2, ![2048, 1024]⟩
abbrev S128x1024 : Shape := ⟨2, ![128, 1024]⟩
abbrev S128 : Shape := ⟨1, ![128]⟩
abbrev S128x1 : Shape := ⟨2, ![128, 1]⟩

abbrev nBuf : Space → Nat
  | .hbm => 7
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x2048x4096, .f32⟩
  | .hbm, ⟨3, _⟩ => ⟨S2048x4096, .f32⟩
  | .hbm, ⟨4, _⟩ => ⟨S2048x4096, .bf16⟩
  | .hbm, ⟨5, _⟩ => ⟨S1x2048, .f32⟩
  | .hbm, ⟨6, _⟩ => ⟨S128x4096, .f32⟩
  | .local _ .vmem, ⟨0, _⟩ => ⟨S128x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | .local _ .vmem, ⟨6, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S128x2048 : Shape := ⟨2, ![128, 2048]⟩
abbrev S2048 : Shape := ⟨1, ![2048]⟩
abbrev S1x2048x4096 : Shape := ⟨3, ![1, 2048, 4096]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S2048x4096 : Shape := ⟨2, ![2048, 4096]⟩
abbrev S128x4096 : Shape := ⟨2, ![128, 4096]⟩

abbrev nBuf : Space → Nat
  | .hbm => 21
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x2048x4096, .f32⟩
  | .hbm, ⟨3, _⟩ => ⟨S128x2048, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x2048, .f32⟩
  | .hbm, ⟨15, _⟩ => ⟨S128x2048, .f32⟩
  | .hbm, ⟨16, _⟩ => ⟨S1x2048, .f32⟩
  | .hbm, ⟨17, _⟩ => ⟨S128x2048, .f32⟩
  | .hbm, ⟨18, _⟩ => ⟨S128x2048, .f32⟩
  | .hbm, ⟨19, _⟩ => ⟨S2048x4096, .f32⟩
  | .hbm, ⟨20, _⟩ => ⟨S128x4096, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S128x2048 : Shape := ⟨2, ![128, 2048]⟩
abbrev S2048 : Shape := ⟨1, ![2048]⟩
abbrev S1x2048x6160 : Shape := ⟨3, ![1, 2048, 6160]⟩
abbrev S2048x6160 : Shape := ⟨2, ![2048, 6160]⟩
abbrev S2048x6144 : Shape := ⟨2, ![2048, 6144]⟩
abbrev S1x2048 : Shape := ⟨2, ![1, 2048]⟩
abbrev S128x6144 : Shape := ⟨2, ![128, 6144]⟩
abbrev S2048x1024 : Shape := ⟨2, ![2048, 1024]⟩
abbrev S128x1024 : Shape := ⟨2, ![128, 1024]⟩
abbrev S128 : Shape := ⟨1, ![128]⟩
abbrev S128x1 : Shape := ⟨2, ![128, 1]⟩

abbrev nBuf : Space → Nat
  | .hbm => 8
  | .vmem => 7
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x2048x6160, .f32⟩
  | .hbm, ⟨3, _⟩ => ⟨S2048x6160, .f32⟩
  | .hbm, ⟨4, _⟩ => ⟨S2048x6144, .f32⟩
  | .hbm, ⟨5, _⟩ => ⟨S2048x6144, .bf16⟩
  | .hbm, ⟨6, _⟩ => ⟨S1x2048, .f32⟩
  | .hbm, ⟨7, _⟩ => ⟨S128x6144, .f32⟩
  | .local _ .vmem, ⟨0, _⟩ => ⟨S128x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | .local _ .vmem, ⟨6, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S128x2048 : Shape := ⟨2, ![128, 2048]⟩
abbrev S2048 : Shape := ⟨1, ![2048]⟩
abbrev S1x2048x6160 : Shape := ⟨3, ![1, 2048, 6160]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S2048x6160 : Shape := ⟨2, ![2048, 6160]⟩
abbrev S128x6160 : Shape := ⟨2, ![128, 6160]⟩
abbrev S128x6144 : Shape := ⟨2, ![128, 6144]⟩

abbrev nBuf : Space → Nat
  | .hbm => 22
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x2048x6160, .f32⟩
  | .hbm, ⟨3, _⟩ => ⟨S128x2048, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x2048, .f32⟩
  | .hbm, ⟨15, _⟩ => ⟨S128x2048, .f32⟩
  | .hbm, ⟨16, _⟩ => ⟨S1x2048, .f32⟩
  | .hbm, ⟨17, _⟩ => ⟨S128x2048, .f32⟩
  | .hbm, ⟨18, _⟩ => ⟨S128x2048, .f32⟩
  | .hbm, ⟨19, _⟩ => ⟨S2048x6160, .f32⟩
  | .hbm, ⟨20, _⟩ => ⟨S128x6160, .f32⟩
  | .hbm, ⟨21, _⟩ => ⟨S128x6144, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S128x6144 : Shape := ⟨2, ![128, 6144]⟩
abbrev S128x128 : Shape := ⟨2, ![128, 128]⟩
abbrev S128 : Shape := ⟨1, ![128]⟩
abbrev S1x128 : Shape := ⟨2, ![1, 128]⟩
abbrev S128x2048 : Shape := ⟨2, ![128, 2048]⟩
abbrev S128x1 : Shape := ⟨2, ![128, 1]⟩

abbrev nBuf : Space → Nat
  | .hbm => 13
  | .vmem => 12
  | .smem => 0
  | _ => 0

abbrev bufTy : (tb : Table) → Fin (tcTables nBuf tb) → BufTy
  | .hbm, ⟨0, _⟩ => ⟨S128x6144, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S128x2048, .bf16⟩
  | .hbm, ⟨9, _⟩ => ⟨S128x2048, .f32⟩
  | .hbm, ⟨10, _⟩ => ⟨S128x2048, .bf16⟩
  | .hbm, ⟨11, _⟩ => ⟨S128x2048, .bf16⟩
  | .hbm, ⟨12, _⟩ => ⟨S128x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x2048, .bf16⟩
  | .local _ .vmem, ⟨8, _⟩ => ⟨S128x2048, .f32⟩
  | .local _ .vmem, ⟨9, _⟩ => ⟨S128x2048, .bf16⟩
  | .local _ .vmem, ⟨10, _⟩ => ⟨S128x2048, .bf16⟩
  | .local _ .vmem, ⟨11, _⟩ => ⟨S128x128, .f32⟩
  | _, _ => ⟨S128x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference8Ideal.lean ====
abbrev S128x6144 : Shape := ⟨2, ![128, 6144]⟩
abbrev S128x128 : Shape := ⟨2, ![128, 128]⟩
abbrev S128 : Shape := ⟨1, ![128]⟩
abbrev S128x2048 : Shape := ⟨2, ![128, 2048]⟩
abbrev S128x16x128 : Shape := ⟨3, ![128, 16, 128]⟩
abbrev S_ : Shape := ⟨0, ![]⟩
abbrev S128x16 : Shape := ⟨2, ![128, 16]⟩
abbrev S128x16x1 : Shape := ⟨3, ![128, 16, 1]⟩
abbrev S1x1x128 : Shape := ⟨3, ![1, 1, 128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S128x6144, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x2048, .f32⟩
  | .hbm, ⟨6, _⟩ => ⟨S128x16x128, .f32⟩
  | .hbm, ⟨7, _⟩ => ⟨S128x16x128, .f32⟩
  | .hbm, ⟨8, _⟩ => ⟨S_, .f32⟩
  | .hbm, ⟨9, _⟩ => ⟨S128x16, .f32⟩
  | .hbm, ⟨10, _⟩ => ⟨S128x16x1, .f32⟩
  | .hbm, ⟨11, _⟩ => ⟨S_, .f32⟩
  | .hbm, ⟨12, _⟩ => ⟨S128x16x1, .f32⟩
  | .hbm, ⟨13, _⟩ => ⟨S128x16x1, .f32⟩
  | .hbm, ⟨14, _⟩ => ⟨S_, .f32⟩
  | .hbm, ⟨15, _⟩ => ⟨S128x16x1, .f32⟩
  | .hbm, ⟨16, _⟩ => ⟨S128x16x1, .f32⟩
  | .hbm, ⟨17, _⟩ => ⟨S128x16x1, .f32⟩
  | .hbm, ⟨18, _⟩ => ⟨S128x16x128, .f32⟩
  | .hbm, ⟨19, _⟩ => ⟨S128x16x128, .f32⟩
  | .hbm, ⟨20, _⟩ => ⟨S1x1x128, .f32⟩
  | .hbm, ⟨21, _⟩ => ⟨S128x16x128, .f32⟩
  | .hbm, ⟨22, _⟩ => ⟨S128x16x128, .f32⟩
  | .hbm, ⟨23, _⟩ => ⟨S1x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .i1⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S128x2048, .f32⟩
  | _, _ => ⟨S128x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v18 : Ref sig .tc := ⟨.hbm, 41, rfl⟩
abbrev main_v19 : Ref sig .tc := ⟨.hbm, 42, rfl⟩

abbrev nD : Nat := 1
abbrev τ : Topo := Topo.v7x

variable {F : FTy → Type} [FloatOps F]
-- ==== Kernel9.lean ====
abbrev S8192x6144 : Shape := ⟨2, ![8192, 6144]⟩
abbrev S8192x128 : Shape := ⟨2, ![8192, 128]⟩
abbrev S128 : Shape := ⟨1, ![128]⟩
abbrev S1x128 : Shape := ⟨2, ![1, 128]⟩
abbrev S8192x2048 : Shape := ⟨2, ![8192, 2048]⟩
abbrev S2048x8192 : Shape := ⟨2, ![2048, 8192]⟩
abbrev S16x8192x128 : Shape := ⟨3, ![16, 8192, 128]⟩
abbrev S256x2048 : Shape := ⟨2, ![256, 2048]⟩
abbrev S256x128 : Shape := ⟨2, ![256, 128]⟩
abbrev S2048x256 : Shape := ⟨2, ![2048, 256]⟩
abbrev S16x256x128 : Shape := ⟨3, ![16, 256, 128]⟩
abbrev S256 : Shape := ⟨1, ![256]⟩
abbrev S256x1 : Shape := ⟨2, ![256, 1]⟩
abbrev S128x256 : Shape := ⟨2, ![128, 256]⟩
abbrev S1x256x128 : Shape := ⟨3, ![1, 256, 128]⟩

abbrev nBuf : Space → Nat
  | .hbm => 15
  | .vmem => 26
  | .smem => 0
  | _ => 0

abbrev bufTy : (tb : Table) → Fin (tcTables nBuf tb) → BufTy
  | .hbm, ⟨0, _⟩ => ⟨S8192x6144, .f32⟩
  | .hbm, ⟨1, _⟩ => ⟨S8192x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S8192x2048, .bf16⟩
  | .hbm, ⟨9, _⟩ => ⟨S8192x2048, .f32⟩
  | .hbm, ⟨10, _⟩ => ⟨S8192x2048, .bf16⟩
  | .hbm, ⟨11, _⟩ => ⟨S2048x8192, .bf16⟩
  | .hbm, ⟨12, _⟩ => ⟨S8192x128, .f32⟩
  | .hbm, ⟨13, _⟩ => ⟨S16x8192x128, .f32⟩
  | .hbm, ⟨14, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S256x2048, .bf16⟩
  | .local _ .vmem, ⟨17, _⟩ => ⟨S2048x256, .bf16⟩
  | .local _ .vmem, ⟨18, _⟩ => ⟨S2048x256, .bf16⟩
  | .local _ .vmem, ⟨19, _⟩ => ⟨S256x128, .f32⟩
  | .local _ .vmem, ⟨20, _⟩ => ⟨S256x128, .f32⟩
  | .local _ .vmem, ⟨21, _⟩ => ⟨S16x256x128, .f32⟩
  | .local _ .vmem, ⟨22, _⟩ => ⟨S16x256x128, .f32⟩
  | .local _ .vmem, ⟨23, _⟩ => ⟨S256x2048, .f32⟩
  | .local _ .vmem, ⟨24, _⟩ => ⟨S256x2048, .f32⟩
  | .local _ .vmem, ⟨25, _⟩ => ⟨S1x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference9Ideal.lean ====
abbrev S8192x6144 : Shape := ⟨2, ![8192, 6144]⟩
abbrev S8192x128 : Shape := ⟨2, ![8192, 128]⟩
abbrev S128 : Shape := ⟨1, ![128]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S8192x2048, .f32⟩
  | .hbm, ⟨6, _⟩ => ⟨S8192x16x128, .f32⟩
  | .hbm, ⟨7, _⟩ => ⟨S8192x16x128, .f32⟩
  | .hbm, ⟨8, _⟩ => ⟨S_, .f32⟩
  | .hbm, ⟨9, _⟩ => ⟨S8192x16, .f32⟩
  | .hbm, ⟨10, _⟩ => ⟨S8192x16x1, .f32⟩
  | .hbm, ⟨11, _⟩ => ⟨S_, .f32⟩
  | .hbm, ⟨12, _⟩ => ⟨S8192x16x1, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S8192x16x1, .f32⟩
  | .hbm, ⟨18, _⟩ => ⟨S8192x16x128, .f32⟩
  | .hbm, ⟨19, _⟩ => ⟨S8192x16x128, .f32⟩
  | .hbm, ⟨20, _⟩ => ⟨S1x1x128, .f32⟩
  | .hbm, ⟨21, _⟩ => ⟨S8192x16x128, .f32⟩
  | .hbm, ⟨22, _⟩ => ⟨S8192x16x128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S_, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .i1⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x2048, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v18 : Ref sig .tc := ⟨.hbm, 41, rfl⟩
abbrev main_v19 : Ref sig .tc := ⟨.hbm, 42, rfl⟩

abbrev nD : Nat := 1
abbrev τ : Topo := Topo.v7x

variable {F : FTy → Type} [FloatOps F]
-- ==== Kernel10.lean ====
abbrev S32x4x2048 : Shape := ⟨3, ![32, 4, 2048]⟩
abbrev S32x3x2048 : Shape := ⟨3, ![32, 3, 2048]⟩
abbrev S32x2048 : Shape := ⟨2, ![32, 2048]⟩
abbrev S4x2048 : Shape := ⟨2, ![4, 2048]⟩
abbrev S2048 : Shape := ⟨1, ![2048]⟩
abbrev S8x256x256 : Shape := ⟨3, ![8, 256, 256]⟩
abbrev S32x7x2048 : Shape := ⟨3, ![32, 7, 2048]⟩
abbrev S4x32x2048 : Shape := ⟨3, ![4, 32, 2048]⟩
abbrev S7x32x2048 : Shape := ⟨3, ![7, 32, 2048]⟩
abbrev S1x2048 : Shape := ⟨2, ![1, 2048]⟩
abbrev S4x32x256 : Shape := ⟨3, ![4, 32, 256]⟩
abbrev S7x32x256 : Shape := ⟨3, ![7, 32, 256]⟩
abbrev S4x256 : Shape := ⟨2, ![4, 256]⟩
abbrev S1x256 : Shape := ⟨2, ![1, 256]⟩
abbrev S1x256x256 : Shape := ⟨3, ![1, 256, 256]⟩
abbrev S32x256 : Shape := ⟨2, ![32, 256]⟩
abbrev S1x32x256 : Shape := ⟨3, ![1, 32, 256]⟩
abbrev S256x256 : Shape := ⟨2, ![256, 256]⟩

abbrev nBuf : Space → Nat
  | .hbm => 22
  | .vmem => 24
  | .smem => 0
  | _ => 0

abbrev bufTy : (tb : Table) → Fin (tcTables nBuf tb) → BufTy
  | .hbm, ⟨0, _⟩ => ⟨S32x4x2048, .f32⟩
  | .hbm, ⟨1, _⟩ => ⟨S32x4x2048, .f32⟩
  | .hbm, ⟨2, _⟩ => ⟨S32x3x2048, .f32⟩
  | .hbm, ⟨3, _⟩ => ⟨S32x2048, .f32⟩
  | .hbm, ⟨4, _⟩ => ⟨S4x2048, .f32⟩
  | .hbm, ⟨5, _⟩ => ⟨S2048, .f32⟩
  | .hbm, ⟨6, _⟩ => ⟨S8x256x256, .f32⟩
  | .hbm, ⟨7, _⟩ => ⟨S2048, .f32⟩
  | .hbm, ⟨8, _⟩ => ⟨S8x256x256, .f32⟩
  | .hbm, ⟨9, _⟩ => ⟨S2048, .f32⟩
  | .hbm, ⟨10, _⟩ => ⟨S2048, .f32⟩
  | .hbm, ⟨11, _⟩ => ⟨S32x7x2048, .f32⟩
  | .hbm, ⟨12, _⟩ => ⟨S4x32x2048, .f32⟩
  | .hbm, ⟨13, _⟩ => ⟨S7x32x2048, .f32⟩
  | .hbm, ⟨14, _⟩ => ⟨S1x2048, .f32⟩
  | .hbm, ⟨15, _⟩ => ⟨S8x256x256, .bf16⟩
  | .hbm, ⟨16, _⟩ => ⟨S8x256x256, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S4x32x2048, .bf16⟩
  | .hbm, ⟨21, _⟩ => ⟨S32x2048, .f32⟩
  | .local _ .vmem, ⟨0, _⟩ => ⟨S4x32x256, .f32⟩
  | .local _ .vmem, ⟨1, _⟩ => ⟨S4x32x256, .f32⟩
  | .local _ .vmem, ⟨2, _⟩ => ⟨S7x32x256, .f32⟩
  | .local _ .vmem, ⟨3, _⟩ => ⟨S7x32x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S32x256, .f32⟩
  | .local _ .vmem, ⟨19, _⟩ => ⟨S32x256, .f32⟩
  | .local _ .vmem, ⟨20, _⟩ => ⟨S4x32x256, .bf16⟩
  | .local _ .vmem, ⟨21, _⟩ => ⟨S4x32x256, .bf16⟩
  | .local _ .vmem, ⟨22, _⟩ => ⟨S32x256, .f32⟩
  | .local _ .vmem, ⟨23, _⟩ => ⟨S32x256, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x32x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference10Ideal.lean ====
abbrev S32x4x2048 : Shape := ⟨3, ![32, 4, 2048]⟩
abbrev S32x3x2048 : Shape := ⟨3, ![32, 3, 2048]⟩
abbrev S32x2048 : Shape := ⟨2, ![32, 2048]⟩
abbrev S4x2048 : Shape := ⟨2, ![4, 2048]⟩
abbrev S2048 : Shape := ⟨1, ![2048]⟩
abbrev S8x256x256 : Shape := ⟨3, ![8, 256, 256]⟩
abbrev S32x7x2048 : Shape := ⟨3, ![32, 7, 2048]⟩
abbrev S1x2048 : Shape := ⟨2, ![1, 2048]⟩
abbrev S1x1x2048 : Shape := ⟨3, ![1, 1, 2048]⟩
abbrev S_ : Shape := ⟨0, ![]⟩
abbrev S32x4x8x256 : Shape := ⟨4, ![32, 4, 8, 256]⟩
abbrev S8x256x32x4 : Shape := ⟨4, ![8, 256, 32, 4]⟩
abbrev S32x1x2048 : Shape := ⟨3, ![32, 1, 2048]⟩

abbrev nBuf : Space → Nat
  | .hbm => 129
  | .vmem => 0
  | .smem => 0
  | _ => 0

abbrev hbmTy0_0 (i : Nat) : BufTy := match i % 128 with
  | 0 => ⟨S32x4x2048, .f32⟩
  | 1 => ⟨S32x4x2048, .f32⟩
  | 2 => ⟨S32x3x2048, .f32⟩
  | 3 => ⟨S32x2048, .f32⟩
  | 4 => ⟨S4x2048, .f32⟩
  | 5 => ⟨S2048, .f32⟩
  | 6 => ⟨S8x256x256, .f32⟩
  | 7 => ⟨S2048, .f32⟩
  | 8 => ⟨S8x256x256, .f32⟩
  | 9 => ⟨S2048, .f32⟩
  | 10 => ⟨S2048, .f32⟩
  | 11 => ⟨S32x7x2048, .f32⟩
  | 12 => ⟨S32x4x2048, .f32⟩
  | 13 => ⟨S1x2048, .f32⟩
  | 14 => ⟨S2048, .f32⟩
  | 15 => ⟨S1x1x2048, .f32⟩
  | 16 => ⟨S32x4x2048, .f32⟩
  | 17 => ⟨S32x4x2048, .f32⟩
  | 18 => ⟨S_, .f32⟩
  | 19 => ⟨S32x4x2048, .f32⟩
  | 20 => ⟨S32x4x2048, .f32⟩
  | 21 => ⟨S32x4x2048, .f32⟩
  | 22 => ⟨S1x2048, .f32⟩
  | 23 => ⟨S2048, .f32⟩
  | 24 => ⟨S1x1x2048, .f32⟩
  | 25 => ⟨S32x4x2048, .f32⟩
  | 26 => ⟨S32x4x2048, .f32⟩
  | 27 => ⟨S32x4x2048, .f32⟩
  | 28 => ⟨S32x4x2048, .f32⟩
  | 29 => ⟨S1x2048, .f32⟩
  | 30 => ⟨S2048, .f32⟩
  | 31 => ⟨S1x1x2048, .f32⟩
  | 32 => ⟨S32x4x2048, .f32⟩
  | 33 => ⟨S32x4x2048, .f32⟩
  | 34 => ⟨S32x4x2048, .f32⟩
  | 35 => ⟨S32x4x2048, .f32⟩
  | 36 => ⟨S1x2048, .f32⟩
  | 37 => ⟨S2048, .f32⟩
  | 38 => ⟨S1x1x2048, .f32⟩
  | 39 => ⟨S32x4x2048, .f32⟩
  | 40 => ⟨S32x4x2048, .f32⟩
  | 41 => ⟨S32x4x2048, .f32⟩
  | 42 => ⟨S1x1x2048, .f32⟩
  | 43 => ⟨S32x4x2048, .f32⟩
  | 44 => ⟨S32x4x2048, .f32⟩
  | 45 => ⟨S32x4x8x256, .f32⟩
  | 46 => ⟨S8x256x32x4, .f32⟩
  | 47 => ⟨S32x4x8x256, .f32⟩
  | 48 => ⟨S32x4x2048, .f32⟩
  | 49 => ⟨S1x1x2048, .f32⟩
  | 50 => ⟨S32x4x2048, .f32⟩
  | 51 => ⟨S32x4x2048, .f32⟩
  | 52 => ⟨S32x4x2048, .f32⟩
  | 53 => ⟨S32x4x2048, .f32⟩
  | 54 => ⟨S_, .f32⟩
  | 55 => ⟨S32x4x2048, .f32⟩
  | 56 => ⟨S32x4x2048, .f32⟩
  | 57 => ⟨S_, .f32⟩
  | 58 => ⟨S32x4x2048, .f32⟩
  | 59 => ⟨S32x4x2048, .f32⟩
  | 60 => ⟨S8x256x32x4, .f32⟩
  | 61 => ⟨S32x4x8x256, .f32⟩
  | 62 => ⟨S32x4x2048, .f32⟩
  | 63 => ⟨S1x1x2048, .f32⟩
  | 64 => ⟨S32x4x2048, .f32⟩
  | 65 => ⟨S32x4x2048, .f32⟩
  | 66 => ⟨S32x4x2048, .f32⟩
  | 67 => ⟨S32x4x2048, .f32⟩
  | 68 => ⟨S_, .f32⟩
  | 69 => ⟨S32x4x2048, .f32⟩
  | 70 => ⟨S32x4x2048, .f32⟩
  | 71 => ⟨S_, .f32⟩
  | 72 => ⟨S32x4x2048, .f32⟩
  | 73 => ⟨S32x4x2048, .f32⟩
  | 74 => ⟨S_, .f32⟩
  | 75 => ⟨S32x4x2048, .f32⟩
  | 76 => ⟨S32x4x2048, .f32⟩
  | 77 => ⟨S2048, .f32⟩
  | 78 => ⟨S_, .f32⟩
  | 79 => ⟨S2048, .f32⟩
  | 80 => ⟨S2048, .f32⟩
  | 81 => ⟨S2048, .f32⟩
  | 82 => ⟨S2048, .f32⟩
  | 83 => ⟨S2048, .i1⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S2048, .f32⟩
  | 93 => ⟨S1x1x2048, .f32⟩
  | 94 => ⟨S32x4x2048, .f32⟩
  | 95 => ⟨S32x4x2048, .f32⟩
  | 96 => ⟨S32x4x2048, .f32⟩
  | 97 => ⟨S_, .f32⟩
  | 98 => ⟨S32x4x2048, .f32⟩
  | 99 => ⟨S32x4x2048, .f32⟩
  | 100 => ⟨S32x4x2048, .f32⟩
  | 101 => ⟨S32x4x2048, .f32⟩
  | 102 => ⟨S32x4x2048, .f32⟩
  | 103 => ⟨S32x4x2048, .f32⟩
  | 104 => ⟨S32x4x2048, .f32⟩
  | 105 => ⟨S32x1x2048, .f32⟩
  | 106 => ⟨S32x2048, .f32⟩
  | 107 => ⟨S32x2048, .f32⟩
  | 108 => ⟨S32x1x2048, .f32⟩
  | 109 => ⟨S32x2048, .f32⟩
  | 110 => ⟨S32x2048, .f32⟩
  | 111 => ⟨S32x1x2048, .f32⟩
  | 112 => ⟨S32x2048, .f32⟩
  | 113 => ⟨S32x2048, .f32⟩
  | 114 => ⟨S32x1x2048, .f32⟩
  | 115 => ⟨S32x2048, .f32⟩
  | 116 => ⟨S32x2048, .f32⟩
  | 117 => ⟨S32x1x2048, .f32⟩
  | 118 => ⟨S32x2048, .f32⟩
  | 119 => ⟨S32x2048, .f32⟩
  | 120 => ⟨S32x1x2048, .f32⟩
  | 121 => ⟨S32x2048, .f32⟩
  | 122 => ⟨S32x2048, .f32⟩
  | 123 => ⟨S32x1x2048, .f32⟩
  | 124 => ⟨S32x2048, .f32⟩
  | 125 => ⟨S32x2048, .f32⟩
  | 126 => ⟨S32x1x2048, .f32⟩
  | 127 => ⟨S32x2048, .f32⟩
  | _ => ⟨S32x4x2048, .f32⟩

abbrev hbmTy0_1 (i : Nat) : BufTy := match i % 128 with
  | 0 => ⟨S32x2048, .f32⟩
  | _ => ⟨S32x4x2048, .f32⟩

abbrev hbmTy (i : Nat) : BufTy := match i / 128 with
  | 0 => hbmTy0_0 i
  | 1 => hbmTy0_1 i
  | _ => ⟨S32x4x2048, .f32⟩

abbrev bufTy : (tb : Table) → Fin (tcTables nBuf tb) → BufTy
  | .hbm, ⟨i, _⟩ => hbmTy i
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_v43 : Ref sig .tc := ⟨.hbm, 56, rfl⟩
abbrev main_cst_1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_v59 : Ref sig .tc := ⟨.hbm, 76, rfl⟩
abbrev main_call0_v0 : Ref sig .tc := ⟨.hbm, 77, rfl⟩
abbrev main_call0_call0_cst : Ref sig .tc := ⟨.hbm, 78, rfl⟩
abbrev main_call0_call0_v0 : Ref sig .tc := ⟨.hbm, 79, rfl⟩
abbrev main_call0_call0_v1 : Ref sig .tc := ⟨.hbm, 80, rfl⟩
abbrev main_call0_call0_v2 : Ref sig .tc := ⟨.hbm, 81, rfl⟩
abbrev main_call0_call0_v3 : Ref sig .tc := ⟨.hbm, 82, rfl⟩
abbrev main_call0_call0_v4 : Ref sig .tc := ⟨.hbm, 83, rfl⟩
abbrev main_call0_call0_v5 : Ref sig .tc := ⟨.hbm, 84, rfl⟩
abbrev main_call0_call0_v6 : Ref sig .tc := ⟨.hbm, 85, rfl⟩
abbrev main_call0_call0_v7 : Ref sig .tc := ⟨.hbm, 86, rfl⟩
abbrev main_call0_call0_v8 : Ref sig .tc := ⟨.hbm, 87, rfl⟩
abbrev main_call0_call0_v9 : Ref sig .tc := ⟨.hbm, 88, rfl⟩
abbrev main_call0_call0_v10 : Ref sig .tc := ⟨.hbm, 89, rfl⟩
abbrev main_call0_call0_v11 : Ref sig .tc := ⟨.hbm, 90, rfl⟩
abbrev main_call0_v1 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_5 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Proof.Flash.KernelFrame.lean ====
/-
  The frame of the flash program `Kernel`: at every grid point the body runs to its end from any scratch contents, leaves the
  four input blocks as they were, and leaves some contents in the output block (nothing is said of it here). The main loop is
  taken by its generated invariant; the remainder loop makes no trip.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic
public import Idealize.ShloMosaic.Lib.LoopRemainder

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The body from its four input blocks at given contents and everything else at some contents. -/
theorem kernelRun (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S128x8192 .bf16) (harg4 : arg4.IsWhole) (arg5 : Memref sig .tc .vmem S1x8192x128 .f32) (harg5 : arg5.IsWhole)
    (arg6 : Memref sig .tc .vmem S1024x128 .bf16) (harg6 : arg6.IsWhole) (arg7 : Memref sig .tc .vmem S1x2x1024x1024 .f32) (harg7 : arg7.IsWhole)
    (arg8 : Memref sig .tc .vmem S1x1x1024 .f32) (harg8 : arg8.IsWhole) (arg9 : Memref sig .tc .vmem S1x1x1024 .f32) (harg9 : arg9.IsWhole)
    (arg10 : Memref sig .tc .vmem S1x128x1024 .f32) (harg10 : arg10.IsWhole)
    (X2 : S1024x128.Idx → Elt F .bf16) (X3 : S8192x128.Idx → Elt F .bf16) (X4 : S128x8192.Idx → Elt F .bf16) (X5 : S1x8192x128.Idx → Elt F .f32)
    (K : PUnit → sProp 𝕄) :
    iprop(owns (c : Thread nD τ) arg2 fullShare X2 ∗ owns (c : Thread nD τ) arg3 fullShare X3
        ∗ owns (c : Thread nD τ) arg4 fullShare X4 ∗ owns (c : Thread nD τ) arg5 fullShare X5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg2 fullShare X2 ∗ owns (c : Thread nD τ) arg3 fullShare X3
            ∗ owns (c : Thread nD τ) arg4 fullShare X4 ∗ owns (c : Thread nD τ) arg5 fullShare X5
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)
            ∗ (∃ d, owns (c : Thread nD τ) arg10 fullShare d)) -∗ K ⟨⟩))
      ⊢ wp frame (wpE (defs₀ (F := F)) Variants.none c none) Set.univ
          (cc0_flash i arg2 harg2 arg3 harg3 arg4 harg4 arg5 harg5 arg6 harg6 arg7 harg7 arg8 harg8 arg9 harg9 arg10 harg10) K := by
  simp only [cc0_flash_eq_skeleton]; unfold cc0_flash_skel
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, ⟨%d10, %f10, -, H10⟩, Hk⟩
  sl_exec
  sl_step
  iapply Hk
  isplitl [H2]; · iexists _; isplitr; · (ipureintro; exact e2)
                  iexact H2
  isplitl [H3]; · iexists _; isplitr; · (ipureintro; exact e3)
                  iexact H3
  isplitl [H4]; · iexists _; isplitr; · (ipureintro; exact e4)
                  iexact H4
  isplitl [H5]; · iexists _; isplitr; · (ipureintro; exact e5)
                  iexact H5
  isplitl [H6]; · iexists _, _; isplitr; swap; · iexact H6
                  ipureintro; rfl
  isplitl [H7]; · iexists _, _; isplitr; swap; · iexact H7
                  ipureintro; rfl
  isplitl [H8]; · iexists _, _; isplitr; swap; · iexact H8
                  ipureintro; rfl
  isplitl [H9]; · iexists _, _; isplitr; swap; · iexact H9
                  ipureintro; rfl
  iexists _, _; isplitr; swap; · iexact H10
  ipureintro; rfl

/-- Windows 0 to 3 are inputs; window 4, the output, is forgotten. -/
def forgets0 : Fin 5 → Bool := fun w => w == 4

def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t
    | 4 => Pipeline.Dat.unnamed (cfg := cfg0) 4 t
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  rw [Pipeline.ΦA, scopedRest0_eq]; simp only [owns_whole]; try rfl

abbrev ms0 (t : Fin cfg0.N) : Memref sig .tc .vmem S1024x128 .bf16 := win0_0.stage (cfg0.slots t 0)
abbrev ms1 (t : Fin cfg0.N) : Memref sig .tc .vmem S8192x128 .bf16 := win0_1.stage (cfg0.slots t 1)
abbrev ms2 (t : Fin cfg0.N) : Memref sig .tc .vmem S128x8192 .bf16 := win0_2.stage (cfg0.slots t 2)
abbrev ms3 (t : Fin cfg0.N) : Memref sig .tc .vmem S1x8192x128 .f32 := win0_3.stage (cfg0.slots t 3)
abbrev ms4 (t : Fin cfg0.N) : Memref sig .tc .vmem S1024x128 .bf16 := win0_4.stage (cfg0.slots t 4)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare d))
def bodyPost (c : Dev nD) (t : Fin cfg0.N) : sProp 𝕄 :=
  iprop((dats m 0 c).Φ t.succ ∗ (dats m 0 c).owesAt () t.succ
    ∗ owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ (∃ d, owns (c : Thread nD τ) (ms4 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl)]
  iintro ⟨⟨⟨S0, S1, S2, S3⟩, Hg⟩, HO, ⟨%d0, H0⟩, ⟨%d1, H1⟩, ⟨%d2, H2⟩, ⟨%d3, H3⟩, H4⟩
  iapply (kernelRun c (grid0.coords t) (ms0 t) _ (ms1 t) _ (ms2 t) _ (ms3 t) _ (ms4 t) _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  iintro ⟨H0, H1, H2, H3, H4, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [HO]; · iexact HO
  isplitl [H0]; · iexact H0
  isplitl [H1]; · iexact H1
  isplitl [H2]; · iexact H2
  isplitl [H3]; · iexact H3
  iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every run of @main ends, with every array no window stages as launched and every counter zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments are as launched and the counters zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.Kernel.Hand

end
-- ==== Proof.Flash.Offsets.lean ====
/-
  The offsets of the flash kernel's loads and stores in closed form, and the number of trips of its main loop: at grid point
  (head, q block `b`) the loop makes `b` trips; trip `k` reads key block `k + 1` and value block `k`, slab `k % 2` of the score
  scratch, and writes slab `(k + 1) % 2`.
-/
module

public import proofs.«01_k».proof.Proof.Gen.KernelIdeal.Skeleton
public import Idealize.ShloMosaic.Lib.LoopRemainder

@[expose] public section

namespace Cert.KernelIdeal.Hand

open Cert.KernelIdeal Cert.KernelIdeal.Gen
open Idealize.ShloMosaic

/-- The loop from 0 to `b` by ones makes `b` trips. -/
theorem trips_word (b : Fin 8) :
    Scf.trips 0#32 (Scalar.addi 0#32 (Scalar.muli (Scalar.divsi (Scalar.subi (BitVec.ofNat 32 b.val) 0#32) 1#32) 1#32)) 1#32 = b.val := by
  revert b; decide

theorem t1_trips (i : grid0.Coords) : (k0_t1_loop i).trips = (i 1).val := trips_word (i 1)

theorem t1_lt (i : grid0.Coords) (k : Fin (k0_t1_loop i).trips) : k.val < 7 :=
  Nat.lt_of_lt_of_le k.isLt (by have h := t1_trips i; have h2 : (i 1).val < 8 := (i 1).isLt; omega)

section
variable (i : grid0.Coords) (k : Fin (k0_t1_loop i).trips)

theorem off1_eq : k0_off1 i k = ![0, 1024 * (k.val + 1), 0] := by
  have h : ∀ n : Fin 7, (Scalar.indexCast (Scalar.muli (Scalar.addi (Scf.iv 0#32 1#32 n.val) 1#32) 1024#32)).toNat = 1024 * (n.val + 1) := by decide
  exact congrArg (fun x => ![0, x, 0]) (h ⟨k.val, t1_lt i k⟩)

theorem off2_eq : k0_off2 i k = ![1024 * (k.val + 1), 0] := by
  have h : ∀ n : Fin 7, (Scalar.indexCast (Scalar.muli (Scalar.addi (Scf.iv 0#32 1#32 n.val) 1#32) 1024#32)).toNat = 1024 * (n.val + 1) := by decide
  exact congrArg (fun x => ![x, 0]) (h ⟨k.val, t1_lt i k⟩)

theorem off4_eq : k0_off4 i k = ![0, 1024 * k.val] := by
  have h : ∀ n : Fin 7, (Scalar.indexCast (Scalar.muli (Scf.iv 0#32 1#32 n.val) 1024#32)).toNat = 1024 * n.val := by decide
  exact congrArg (fun x => ![0, x]) (h ⟨k.val, t1_lt i k⟩)

/-- The remainder by 2 with the sign corrected, as the kernel spells it. -/
def rem2 (a : BitVec 32) : BitVec 32 :=
  let d : BitVec 32 := Scalar.select (Scalar.cmpi .eq 2#32 0#32) 1#32 2#32
  let r : BitVec 32 := Scalar.remsi a d
  Scalar.select (Scalar.andi (Scalar.xori (Scalar.cmpi .slt r 0#32) (Scalar.cmpi .slt d 0#32)) (Scalar.cmpi .ne r 0#32)) (Scalar.addi r d) r

theorem off3_eq : k0_off3 i k = ![0, k.val % 2, 0, 0] := by
  have h : ∀ n : Fin 7, (Scalar.indexCast (rem2 (Scf.iv 0#32 1#32 n.val))).toNat = n.val % 2 := by decide
  exact congrArg (fun x => ![0, x, 0, 0]) (h ⟨k.val, t1_lt i k⟩)

theorem off5_eq : k0_off5 i k = ![0, (k.val + 1) % 2, 0, 0] := by
  have h : ∀ n : Fin 7, (Scalar.indexCast (rem2 (Scalar.addi (Scf.iv 0#32 1#32 n.val) 1#32))).toNat = (n.val + 1) % 2 := by decide
  exact congrArg (fun x => ![0, x, 0, 0]) (h ⟨k.val, t1_lt i k⟩)

theorem off11_eq : k0_off11 i = ![0, (i 1).val % 2, 0, 0] := by
  have h : ∀ n : Fin 8, (Scalar.indexCast (rem2 (BitVec.ofNat 32 n.val))).toNat = n.val % 2 := by decide
  exact congrArg (fun x => ![0, x, 0, 0]) (h (i 1))

theorem off12_eq : k0_off12 i = ![0, 1024 * (i 1).val] := by
  have h : ∀ n : Fin 8, (Scalar.indexCast (Scalar.muli (BitVec.ofNat 32 n.val) 1024#32)).toNat = 1024 * n.val := by decide
  exact congrArg (fun x => ![0, x]) (h (i 1))

end

end Cert.KernelIdeal.Hand

end
-- ==== Proof.Flash.State.lean ====
/-
  The flash kernel's running state as plain functions of the blocks it reads: the scores of a key block against the query
  block, the running maximum, the running denominator and the running weighted sum after each trip of the main loop, and the
  output block.
-/
module

public import proofs.«01_k».proof.Proof.Flash.Offsets
public import Idealize.ShloMosaic.Lib.VecWindow

@[expose] public section

noncomputable section

namespace Cert.KernelIdeal.Hand

open Cert.KernelIdeal Cert.KernelIdeal.Gen
open Idealize.ShloMosaic

variable {F : FTy → Type} [FloatOps F] [Named F]

/-- Key block `j` (modulo 8) of the bias, of the keys and of the transposed values. -/
def biasBlk (X5 : S1x8192x128.Idx → Elt F .f32) (j : ℕ) : S1x1024x128.Idx → Elt F .f32 :=
  VecWindow.window X5 ![0, 1024 * (j % 8), 0] S1x1024x128.size (by intro a; have := Nat.mod_lt j (by decide : 0 < 8); fin_cases a <;> simp <;> omega)
def keyBlk (X3 : S8192x128.Idx → Elt F .bf16) (j : ℕ) : S1024x128.Idx → Elt F .bf16 :=
  VecWindow.window X3 ![1024 * (j % 8), 0] S1024x128.size (by intro a; have := Nat.mod_lt j (by decide : 0 < 8); fin_cases a <;> simp <;> omega)
def valBlk (X4 : S128x8192.Idx → Elt F .bf16) (j : ℕ) : S128x1024.Idx → Elt F .bf16 :=
  VecWindow.window X4 ![0, 1024 * (j % 8)] S128x1024.size (by intro a; have := Nat.mod_lt j (by decide : 0 < 8); fin_cases a <;> simp <;> omega)

variable (X2 : S1024x128.Idx → Elt F .bf16) (X3 : S8192x128.Idx → Elt F .bf16) (X4 : S128x8192.Idx → Elt F .bf16) (X5 : S1x8192x128.Idx → Elt F .f32)

/-- The scores of key block `j` against the query block, as the kernel stores them. -/
def scoreBlk (j : ℕ) : S1x1x1024x1024.Idx → Elt F .f32 := k0_pay29 (k0_pay5 (biasBlk X5 j) (keyBlk X3 j) X2)

/-- The running maximum before trip `k`. -/
def mAt : ℕ → (S1x1x1024.Idx → Elt F .f32)
  | 0 => k0_pay25
  | k + 1 => k0_pay14 (k0_pay8 (scoreBlk X2 X3 X5 k) (mAt k))
/-- The running denominator before trip `k`. -/
def lAt : ℕ → (S1x1x1024.Idx → Elt F .f32)
  | 0 => k0_pay26
  | k + 1 => k0_pay12 (k0_pay6 (scoreBlk X2 X3 X5 k)) (k0_pay9 (scoreBlk X2 X3 X5 k) (mAt X2 X3 X5 k)) (k0_pay10 (scoreBlk X2 X3 X5 k) (mAt X2 X3 X5 k)) (lAt k)
/-- The running weighted sum of the values before trip `k`. -/
def accAt : ℕ → (S1x128x1024.Idx → Elt F .f32)
  | 0 => k0_pay27
  | k + 1 => k0_pay13 (k0_pay6 (scoreBlk X2 X3 X5 k)) (k0_pay9 (scoreBlk X2 X3 X5 k) (mAt X2 X3 X5 k)) (k0_pay10 (scoreBlk X2 X3 X5 k) (mAt X2 X3 X5 k)) (accAt k) (valBlk X4 k)

/-- The denominator and the weighted sum after the masked block `b` on the diagonal. -/
def lEnd (b : ℕ) : S1x1x1024.Idx → Elt F .f32 :=
  k0_pay1 (k0_pay35 (scoreBlk X2 X3 X5 b) (mAt X2 X3 X5 b)) (k0_pay36 (scoreBlk X2 X3 X5 b) (mAt X2 X3 X5 b) (lAt X2 X3 X5 b))
def accEnd (b : ℕ) : S1x128x1024.Idx → Elt F .f32 :=
  k0_pay2 (k0_pay34 (scoreBlk X2 X3 X5 b) (mAt X2 X3 X5 b)) (k0_pay35 (scoreBlk X2 X3 X5 b) (mAt X2 X3 X5 b)) (accAt X2 X3 X4 X5 b) (valBlk X4 b)

/-- The output block of query block `b`. -/
def outBlk (b : ℕ) : S1024x128.Idx → Elt F .bf16 := k0_pay4 (accEnd X2 X3 X4 X5 b) (lEnd X2 X3 X5 b)

end Cert.KernelIdeal.Hand

end
-- ==== Proof.Flash.Pay.lean ====
/-
  The kernel's state over the extended reals, read at an index: scores, maximum, denominator and weighted sum of one query
  as scalar recursions.
-/
module

public import proofs.«01_k».proof.Proof.Flash.State
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.Pointwise

variable (X2 : S1024x128.Idx → Elt Ideal .bf16) (X3 : S8192x128.Idx → Elt Ideal .bf16) (X4 : S128x8192.Idx → Elt Ideal .bf16) (X5 : S1x8192x128.Idx → Elt Ideal .f32)
variable (B : S1x1024x128.Idx → Elt Ideal .f32) (Kb : S1024x128.Idx → Elt Ideal .bf16) (S : S1x1x1024x1024.Idx → Elt Ideal .f32)
  (Mx L : S1x1x1024.Idx → Elt Ideal .f32) (A : S1x128x1024.Idx → Elt Ideal .f32) (Vb : S128x1024.Idx → Elt Ideal .bf16)

theorem neg_inf : Ideal.ofBits .f32 0xFF800000#32 = ⊥ := by simp [Ideal.ofBits, Ideal.ieee]

theorem mask_eq : (Named.named (F := Ideal) κ "mask" (φ := .f32) 0xF149F2CA#32 : EReal) = ⊥ := rfl

/-- One score: the key against the query, and the key's bias on the query's lane. -/
theorem score_apply (s t : Fin 1024) :
    k0_pay29 (k0_pay5 B Kb X2) (ix4 0 0 s t) = (∑ d : Fin 128, Kb (ix2 s d) * X2 (ix2 t d)) + B (ix3 0 s ⟨t.val % 128, Nat.mod_lt _ (by decide)⟩) := by
  pointwise [k0_pay29, k0_pay5]
  congr 1
  have ht := t.isLt
  split_ifs <;> exact congrArg (fun r : Fin 128 => B (ix3 0 s r)) (Fin.ext (by simp only; omega))

/-- The new maximum. -/
theorem max_apply' (t : Fin 1024) :
    k0_pay8 S Mx (ix2 0 t) = max (Mx (ix3 0 0 t)) (Finset.univ.fold max ⊥ fun s : Fin 1024 => S (ix4 0 0 s t)) := by
  pointwise [k0_pay8, k0_pay7, k0_pay6]
  rw [neg_inf]

theorem max_apply (t : Fin 1024) :
    k0_pay14 (k0_pay8 S Mx) (ix3 0 0 t) = k0_pay8 S Mx (ix2 0 t) := by
  pointwise [k0_pay14]

theorem den_apply (t : Fin 1024) :
    k0_pay12 (k0_pay6 S) (k0_pay9 S Mx) (k0_pay10 S Mx) L (ix3 0 0 t) =
      Ideal.exp2 (Mx (ix3 0 0 t) - k0_pay8 S Mx (ix2 0 t)) * L (ix3 0 0 t) + ∑ s : Fin 1024, Ideal.exp2 (S (ix4 0 0 s t) - k0_pay8 S Mx (ix2 0 t)) := by
  pointwise [k0_pay12, k0_pay6, k0_pay7, k0_pay9, k0_pay10, k0_pay11]
  rfl

theorem num_apply (d : Fin 128) (t : Fin 1024) :
    k0_pay13 (k0_pay6 S) (k0_pay9 S Mx) (k0_pay10 S Mx) A Vb (ix3 0 d t) =
      Ideal.exp2 (Mx (ix3 0 0 t) - k0_pay8 S Mx (ix2 0 t)) * A (ix3 0 d t) + ∑ s : Fin 1024, Vb (ix2 d s) * Ideal.exp2 (S (ix4 0 0 s t) - k0_pay8 S Mx (ix2 0 t)) := by
  pointwise [k0_pay13, k0_pay6, k0_pay7, k0_pay9, k0_pay10, k0_pay11]
  rfl

/-- The masked score on the diagonal. -/
theorem masked_apply (s t : Fin 1024) :
    k0_pay31 S (ix2 s t) = if s.val ≤ t.val then S (ix4 0 0 s t) else ⊥ := by
  pointwise [k0_pay31]
  rw [WordCmp.cmpi_sle_ofNat (by omega) (by omega), WordCmp.select_decide, mask_eq]

theorem dmax_apply (t : Fin 1024) :
    k0_pay33 S Mx (ix2 0 t) = max (Mx (ix3 0 0 t)) (Finset.univ.fold max ⊥ fun s : Fin 1024 => k0_pay31 S (ix2 s t)) := by
  pointwise [k0_pay33, k0_pay32]
  rw [neg_inf]

theorem dden_apply (t : Fin 1024) :
    k0_pay1 (k0_pay35 S Mx) (k0_pay36 S Mx L) (ix3 0 0 t) =
      Ideal.exp2 (Mx (ix3 0 0 t) - k0_pay33 S Mx (ix2 0 t)) * L (ix3 0 0 t) + ∑ s : Fin 1024, Ideal.exp2 (k0_pay31 S (ix2 s t) - k0_pay33 S Mx (ix2 0 t)) := by
  pointwise [k0_pay1, k0_pay35, k0_pay36, k0_pay34, k0_pay32]
  rfl

theorem dnum_apply (d : Fin 128) (t : Fin 1024) :
    k0_pay2 (k0_pay34 S Mx) (k0_pay35 S Mx) A Vb (ix3 0 d t) =
      Ideal.exp2 (Mx (ix3 0 0 t) - k0_pay33 S Mx (ix2 0 t)) * A (ix3 0 d t) + ∑ s : Fin 1024, Vb (ix2 d s) * Ideal.exp2 (k0_pay31 S (ix2 s t) - k0_pay33 S Mx (ix2 0 t)) := by
  pointwise [k0_pay2, k0_pay35, k0_pay34, k0_pay32]
  rfl

theorem out_apply (t : Fin 1024) (d : Fin 128) : k0_pay4 A L (ix2 t d) = Ideal.div (A (ix3 0 d t)) (L (ix3 0 0 t)) := by
  pointwise [k0_pay4]

theorem init_max (t : Fin 1024) : k0_pay25 (F := Ideal) (ix3 0 0 t) = ⊥ := by
  pointwise [k0_pay25]
  exact mask_eq
theorem init_den (t : Fin 1024) : k0_pay26 (F := Ideal) (ix3 0 0 t) = 0 := by
  pointwise [k0_pay26]
theorem init_num (d : Fin 128) (t : Fin 1024) : k0_pay27 (F := Ideal) (ix3 0 d t) = 0 := by
  pointwise [k0_pay27]

end Cert.KernelIdeal.Hand

end
-- ==== Proof.Flash.Math.lean ====
/-
  The online softmax over the extended reals.  With `W` the sum of the weights seen so far and `A` their weighted sum, the
  running maximum, denominator and weighted sum hold `M`, `2 ^ (-M) * W` and `2 ^ (-M) * A` for a real `M`, or nothing has
  been seen; a step takes in a block of scores, of which some may be masked, and the quotient at the end is `A / W`.
-/
module

public import Idealize.ShloMosaic.PureOps.Ideal.Laws

@[expose] public section

noncomputable section

namespace Cert.Softmax

open Idealize.ShloMosaic

/-- `x` is a score of weight `w`, `e` giving a real score's weight: masked with weight zero, or a real. -/
def Score (e : ℝ → ℝ) (x : EReal) (w : ℝ) : Prop := (x = ⊥ ∧ w = 0) ∨ ∃ r : ℝ, x = r ∧ w = e r

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many scores and a start, none of them `⊤` and one of them real, is real. -/
theorem fold_max_real {n : ℕ} (x : Fin n → EReal) (m : EReal) (hm : m ≠ ⊤) (hx : ∀ i, x i ≠ ⊤) (h : m ≠ ⊥ ∨ ∃ i, x i ≠ ⊥) :
    ∃ M : ℝ, max m (Finset.univ.fold max ⊥ x) = M := by
  have hf : Finset.univ.fold max ⊥ x ≠ ⊤ := by
    intro e
    have h2 := (Finset.le_fold_max (b := (⊥ : EReal)) (f := x) (s := Finset.univ) (c := ⊤)).1 (le_of_eq e.symm)
    rcases h2 with h2 | ⟨i, -, h2⟩
    · simp at h2
    · exact hx i (top_le_iff.1 h2)
  have ht : max m (Finset.univ.fold max ⊥ x) ≠ ⊤ := by
    rcases max_choice m (Finset.univ.fold max ⊥ x) with e | e <;> rw [e] <;> assumption
  have hb : max m (Finset.univ.fold max ⊥ x) ≠ ⊥ := by
    intro e
    obtain ⟨e1, e2⟩ := max_eq_bot.1 e
    rcases h with h | ⟨i, h⟩
    · exact h e1
    · exact h (le_bot_iff.1 (e2 ▸ (Finset.le_fold_max (b := (⊥ : EReal)) (f := x) (s := Finset.univ) (c := x i)).2 (Or.inr ⟨i, Finset.mem_univ _, le_rfl⟩)))
  exact ⟨_, (EReal.coe_toReal ht hb).symm⟩

theorem Score.ne_top {e : ℝ → ℝ} {x : EReal} {w : ℝ} (h : Score e x w) : x ≠ ⊤ := by
  rcases h with ⟨rfl, -⟩ | ⟨r, rfl, -⟩
  · simp
  · exact EReal.coe_ne_top r

def pow2 (r : ℝ) : ℝ := Real.rpow 2 r

theorem pow2_sub (r M : ℝ) : pow2 (r - M) = pow2 (-M) * pow2 r := by
  unfold pow2
  rw [show r - M = -M + r by ring]
  exact Real.rpow_add (by norm_num) _ _

theorem pow2_pos (r : ℝ) : 0 < pow2 r := Real.rpow_pos_of_pos (by norm_num) r

theorem exp2_sub {x : EReal} {w : ℝ} (h : Score pow2 x w) (M : ℝ) : Ideal.exp2 (x - M) = ((pow2 (-M) * w : ℝ) : EReal) := by
  rcases h with ⟨rfl, rfl⟩ | ⟨r, rfl, rfl⟩
  · rw [EReal.bot_sub, mul_zero]; rfl
  · rw [← EReal.coe_sub, ← pow2_sub]; rfl

theorem exp_sub {x : EReal} {w : ℝ} (h : Score Real.exp x w) (M : ℝ) : Ideal.exp (x - M) = ((Real.exp (-M) * w : ℝ) : EReal) := by
  rcases h with ⟨rfl, rfl⟩ | ⟨r, rfl, rfl⟩
  · rw [EReal.bot_sub, mul_zero]; rfl
  · rw [← EReal.coe_sub, ← Real.exp_add, neg_add_eq_sub]; rfl

/-- What the kernel carries for one query and one lane of the values, having seen weights `W` and weighted values `A`. -/
def Inv (m l a : EReal) (W A : ℝ) : Prop :=
  (m = ⊥ ∧ l = 0 ∧ a = 0 ∧ W = 0 ∧ A = 0) ∨ ∃ M : ℝ, m = M ∧ l = ((pow2 (-M) * W : ℝ) : EReal) ∧ a = ((pow2 (-M) * A : ℝ) : EReal)

theorem Inv.init : Inv ⊥ 0 0 0 0 := Or.inl ⟨rfl, rfl, rfl, rfl, rfl⟩

theorem pow2_rescale (M M' W : ℝ) : pow2 (M - M') * (pow2 (-M) * W) = pow2 (-M') * W := by
  rw [pow2_sub]
  have : pow2 M * pow2 (-M) = 1 := by
    rw [mul_comm, ← pow2_sub, sub_self]; exact Real.rpow_zero 2
  linear_combination pow2 (-M') * W * this

/-- One block of scores taken in. -/
theorem Inv.step {n : ℕ} {m l a : EReal} {W A : ℝ} (h : Inv m l a W A) (x : Fin n → EReal) (w : Fin n → ℝ) (v : Fin n → ℝ)
    (hx : ∀ i, Score pow2 (x i) (w i)) (hne : ∃ i, x i ≠ ⊥) {m' l' a' : EReal} (hm : m' = max m (Finset.univ.fold max ⊥ x))
    (hl : l' = Ideal.exp2 (m - m') * l + ∑ i, Ideal.exp2 (x i - m')) (ha : a' = Ideal.exp2 (m - m') * a + ∑ i, (v i : EReal) * Ideal.exp2 (x i - m')) :
    Inv m' l' a' (W + ∑ i, w i) (A + ∑ i, w i * v i) := by
  have hmt : m ≠ ⊤ := by
    rcases h with ⟨rfl, -⟩ | ⟨M, rfl, -⟩
    · simp
    · exact EReal.coe_ne_top M
  obtain ⟨M', hM'⟩ := fold_max_real x m hmt (fun i => (hx i).ne_top) (Or.inr hne)
  rw [hM'] at hm
  subst hm
  have e1 : ∑ i, Ideal.exp2 (x i - M') = ((pow2 (-M') * ∑ i, w i : ℝ) : EReal) := by
    rw [Finset.mul_sum, coe_sum]; exact Finset.sum_congr rfl fun i _ => exp2_sub (hx i) M'
  have e2 : ∑ i, (v i : EReal) * Ideal.exp2 (x i - M') = ((pow2 (-M') * ∑ i, w i * v i : ℝ) : EReal) := by
    rw [Finset.mul_sum, coe_sum]
    refine Finset.sum_congr rfl fun i _ => ?_
    rw [exp2_sub (hx i) M', ← EReal.coe_mul]; congr 1; ring
  refine Or.inr ⟨M', rfl, ?_, ?_⟩
  · rw [hl, e1, mul_add, EReal.coe_add]; congr 1
    rcases h with ⟨rfl, rfl, rfl, rfl, rfl⟩ | ⟨M, rfl, rfl, rfl⟩
    · simp
    · rw [← EReal.coe_sub, show Ideal.exp2 ((M - M' : ℝ) : EReal) = ((pow2 (M - M') : ℝ) : EReal) from rfl, ← EReal.coe_mul, pow2_rescale]
  · rw [ha, e2, mul_add, EReal.coe_add]; congr 1
    rcases h with ⟨rfl, rfl, rfl, rfl, rfl⟩ | ⟨M, rfl, rfl, rfl⟩
    · simp
    · rw [← EReal.coe_sub, show Ideal.exp2 ((M - M' : ℝ) : EReal) = ((pow2 (M - M') : ℝ) : EReal) from rfl, ← EReal.coe_mul, pow2_rescale]

theorem div_coe_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem Inv.quot {m l a : EReal} {W A : ℝ} (h : Inv m l a W A) (hW : 0 < W) : Ideal.div a l = ((A / W : ℝ) : EReal) := by
  rcases h with ⟨-, -, -, rfl, -⟩ | ⟨M, -, rfl, rfl⟩
  · exact absurd hW (lt_irrefl _)
  · rw [div_coe_coe _ _ (mul_pos (pow2_pos _) hW).ne', mul_div_mul_left _ _ (pow2_pos _).ne']

/-- The plain softmax: exponentials of the shifted scores over their sum, then the weighted sum of the values. -/
theorem softmax_eq {n : ℕ} (x : Fin n → EReal) (w : Fin n → ℝ) (v : Fin n → ℝ) (hx : ∀ i, Score Real.exp (x i) (w i))
    (hne : ∃ i, x i ≠ ⊥) (hW : 0 < ∑ i, w i) {m : EReal} (hm : m = max ⊥ (Finset.univ.fold max ⊥ x)) :
    ∑ i, (v i : EReal) * Ideal.div (Ideal.exp (x i - m)) (∑ j, Ideal.exp (x j - m)) = (((∑ i, w i * v i) / ∑ i, w i : ℝ) : EReal) := by
  obtain ⟨M, hM⟩ := fold_max_real x ⊥ bot_ne_top (fun i => (hx i).ne_top) (Or.inr hne)
  rw [hM] at hm
  subst hm
  have e1 : ∑ i, Ideal.exp (x i - M) = ((Real.exp (-M) * ∑ i, w i : ℝ) : EReal) := by
    rw [Finset.mul_sum, coe_sum]; exact Finset.sum_congr rfl fun i _ => exp_sub (hx i) M
  rw [e1, Finset.sum_div, coe_sum]
  refine Finset.sum_congr rfl fun i _ => ?_
  rw [exp_sub (hx i) M, div_coe_coe _ _ (mul_pos (Real.exp_pos _) hW).ne', mul_div_mul_left _ _ (Real.exp_pos _).ne', ← EReal.coe_mul]
  congr 1; ring

end Cert.Softmax

end
-- ==== Proof.Flash.Block.lean ====
/-
  What the kernel writes for one query and one lane of the values, when its scores and values are real: the weighted sum of
  the values over the sum of the weights, over the keys up to the query.
-/
module

public import proofs.«01_k».proof.Proof.Flash.Pay
public import proofs.«01_k».proof.Proof.Flash.Math

@[expose] public section

noncomputable section

namespace Cert.KernelIdeal.Hand

open Cert.KernelIdeal Cert.KernelIdeal.Gen Cert.Softmax
open Idealize.ShloMosaic Idealize.ShloMosaic.Pointwise

variable (X2 : S1024x128.Idx → Elt Ideal .bf16) (X3 : S8192x128.Idx → Elt Ideal .bf16) (X4 : S128x8192.Idx → Elt Ideal .bf16) (X5 : S1x8192x128.Idx → Elt Ideal .f32)

/-- Block `j` of a sequence summed after its first `j` blocks. -/
theorem sum_block (f : ℕ → ℝ) (j : ℕ) :
    ∑ n ∈ Finset.range (1024 * (j + 1)), f n = ∑ n ∈ Finset.range (1024 * j), f n + ∑ i : Fin 1024, f (1024 * j + i.val) := by
  rw [show 1024 * (j + 1) = 1024 * j + 1024 by ring, Finset.sum_range_add, ← Fin.sum_univ_eq_sum_range (fun i => f (1024 * j + i))]

/-- The last block summed up to its row `t`. -/
theorem sum_block_upto (f : ℕ → ℝ) (b : ℕ) (t : Fin 1024) :
    ∑ n ∈ Finset.range (1024 * b + t.val + 1), f n
      = ∑ n ∈ Finset.range (1024 * b), f n + ∑ i : Fin 1024, if i.val ≤ t.val then f (1024 * b + i.val) else 0 := by
  rw [add_assoc, Finset.sum_range_add, Fin.sum_univ_eq_sum_range (fun i => if i ≤ t.val then f (1024 * b + i) else 0) 1024, ← Finset.sum_filter]
  congr 1
  refine Finset.sum_congr ?_ fun _ _ => rfl
  ext i; have := t.isLt; simp; omega

variable (t : Fin 1024) (d : Fin 128) (σ ν : ℕ → ℝ)
  (hS : ∀ j : ℕ, j < 8 → ∀ s : Fin 1024, scoreBlk X2 X3 X5 j (ix4 0 0 s t) = ((σ (1024 * j + s.val) : ℝ) : EReal))
  (hV : ∀ j : ℕ, j < 8 → ∀ s : Fin 1024, valBlk X4 j (ix2 d s) = ((ν (1024 * j + s.val) : ℝ) : EReal))

include hS hV in
/-- Before trip `k` the kernel has seen the keys of the first `k` blocks. -/
theorem inv_at (k : ℕ) (hk : k ≤ 8) :
    Inv (mAt X2 X3 X5 k (ix3 0 0 t)) (lAt X2 X3 X5 k (ix3 0 0 t)) (accAt X2 X3 X4 X5 k (ix3 0 d t))
      (∑ n ∈ Finset.range (1024 * k), pow2 (σ n)) (∑ n ∈ Finset.range (1024 * k), pow2 (σ n) * ν n) := by
  induction k with
  | zero =>
    simp only [mAt, lAt, accAt, Nat.mul_zero, Finset.range_zero, Finset.sum_empty]
    rw [init_max, init_den, init_num]; exact Inv.init
  | succ k ih =>
    rw [sum_block, sum_block]
    simp only [mAt, lAt, accAt]
    rw [max_apply, den_apply, num_apply]
    refine (ih (by omega)).step (fun s : Fin 1024 => scoreBlk X2 X3 X5 k (ix4 0 0 s t)) _ (fun s : Fin 1024 => ν (1024 * k + s.val)) ?_ ?_ (max_apply' _ _ t) rfl ?_
    · intro s; exact Or.inr ⟨_, hS k (by omega) s, rfl⟩
    · exact ⟨0, by rw [hS k (by omega) 0]; exact EReal.coe_ne_bot _⟩
    · congr 1; refine Finset.sum_congr rfl fun s _ => ?_
      rw [hV k (by omega) s]

include hS hV in
/-- The output block at one query and one lane. -/
theorem outBlk_apply (b : ℕ) (hb : b < 8) :
    outBlk X2 X3 X4 X5 b (ix2 t d) = (((∑ n ∈ Finset.range (1024 * b + t.val + 1), pow2 (σ n) * ν n)
      / ∑ n ∈ Finset.range (1024 * b + t.val + 1), pow2 (σ n) : ℝ) : EReal) := by
  unfold outBlk
  rw [out_apply]
  have hm := fun s : Fin 1024 => masked_apply (scoreBlk X2 X3 X5 b) s t
  have h : Inv (k0_pay33 (scoreBlk X2 X3 X5 b) (mAt X2 X3 X5 b) (ix2 0 t)) (lEnd X2 X3 X5 b (ix3 0 0 t)) (accEnd X2 X3 X4 X5 b (ix3 0 d t))
      (∑ n ∈ Finset.range (1024 * b + t.val + 1), pow2 (σ n)) (∑ n ∈ Finset.range (1024 * b + t.val + 1), pow2 (σ n) * ν n) := by
    rw [sum_block_upto, sum_block_upto]
    have e : (∑ i : Fin 1024, if i.val ≤ t.val then pow2 (σ (1024 * b + i.val)) * ν (1024 * b + i.val) else 0)
        = ∑ i : Fin 1024, (if i.val ≤ t.val then pow2 (σ (1024 * b + i.val)) else 0) * ν (1024 * b + i.val) :=
      Finset.sum_congr rfl fun i _ => by split_ifs <;> simp
    rw [e]
    unfold lEnd accEnd
    rw [dden_apply, dnum_apply]
    refine (inv_at X2 X3 X4 X5 t d σ ν hS hV b (by omega)).step (fun s : Fin 1024 => k0_pay31 (scoreBlk X2 X3 X5 b) (ix2 s t)) _ _ ?_ ?_ (dmax_apply _ _ t) rfl ?_
    · intro s
      rw [hm s, hS b hb s]
      by_cases hst : s.val ≤ t.val
      · rw [if_pos hst, if_pos hst]; exact Or.inr ⟨_, rfl, rfl⟩
      · rw [if_neg hst, if_neg hst]; exact Or.inl ⟨rfl, rfl⟩
    · exact ⟨0, by rw [hm 0, if_pos (show (0 : Fin 1024).val ≤ t.val from Nat.zero_le _), hS b hb 0]; exact EReal.coe_ne_bot _⟩
    · congr 1; refine Finset.sum_congr rfl fun s _ => ?_
      rw [hV b hb s]
  exact h.quot (Finset.sum_pos (fun n _ => pow2_pos _) ⟨0, by simp⟩)

end Cert.KernelIdeal.Hand

end
-- ==== Proof.Flash.Body.lean ====
/-
  The flash kernel's body at one grid point: from its four input blocks it leaves the output block `outBlk`. The main loop is
  run by an invariant on what the four scratch buffers read.
-/
module

public import proofs.«01_k».proof.Proof.Flash.State
public import proofs.«01_k».proof.Proof.Gen.KernelIdeal.Frame
public import Idealize.ShloMosaic.Lib.Pipeline.Frame
public import Idealize.ShloMosaic.Lib.Tactic
public import Idealize.ShloMosaic.Lib.LoopRemainder

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

/-- Slab `j` of the score scratch. -/
def slab (f : S1x2x1024x1024.Idx → Elt F .f32) (j : ℕ) : S1x1x1024x1024.Idx → Elt F .f32 :=
  VecWindow.window f ![0, j % 2, 0, 0] S1x1x1024x1024.size (by intro a; have := Nat.mod_lt j (by decide : 0 < 2); fin_cases a <;> simp <;> omega)

theorem slab_readAt (arg7 : Memref sig .tc .vmem S1x2x1024x1024 .f32) (f : BufTy.Contents (Elt F) arg7.view.ty) {off : Fin 4 → ℕ} {j : ℕ}
    (inb : ∀ a, off a + S1x1x1024x1024.size a ≤ S1x2x1024x1024.size a) (h : off = ![0, j % 2, 0, 0]) :
    arg7.view.readAt (Elt F) (Rect.unit (s := S1x2x1024x1024) off S1x1x1024x1024.size inb).toLoadRect f = slab (arg7.view.read (Elt F) f) j :=
  View.readAt_unit _ _ _ h _

section
variable (c : Dev nD) (i : grid0.Coords)
    (arg2 : Memref sig .tc .vmem S1024x128 .bf16) (harg2 : arg2.IsWhole) (arg3 : Memref sig .tc .vmem S8192x128 .bf16) (harg3 : arg3.IsWhole)
    (arg4 : Memref sig .tc .vmem S128x8192 .bf16) (harg4 : arg4.IsWhole) (arg5 : Memref sig .tc .vmem S1x8192x128 .f32) (harg5 : arg5.IsWhole)
    (arg6 : Memref sig .tc .vmem S1024x128 .bf16) (harg6 : arg6.IsWhole) (arg7 : Memref sig .tc .vmem S1x2x1024x1024 .f32) (harg7 : arg7.IsWhole)
    (arg8 : Memref sig .tc .vmem S1x1x1024 .f32) (harg8 : arg8.IsWhole) (arg9 : Memref sig .tc .vmem S1x1x1024 .f32) (harg9 : arg9.IsWhole)
    (arg10 : Memref sig .tc .vmem S1x128x1024 .f32) (harg10 : arg10.IsWhole)
    (f2 : BufTy.Contents (Elt F) arg2.view.ty) (f3 : BufTy.Contents (Elt F) arg3.view.ty)
    (f4 : BufTy.Contents (Elt F) arg4.view.ty) (f5 : BufTy.Contents (Elt F) arg5.view.ty)
    (X2 : S1024x128.Idx → Elt F .bf16) (X3 : S8192x128.Idx → Elt F .bf16) (X4 : S128x8192.Idx → Elt F .bf16) (X5 : S1x8192x128.Idx → Elt F .f32)

/-- Before trip `k`: the input blocks as they were; the score scratch's slab `k % 2` reads the scores of key block `k`, and the
    other three scratch buffers read the running state. -/
def loopI (k : ℕ) (_u : PUnit) : sProp 𝕄 :=
  iprop((arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4) ∗ (arg5.view.loc (c : Thread nD τ) ↦[arg5.view.set]{fullShare} f5)
    ∗ (∃ f, (arg7.view.loc (c : Thread nD τ) ↦[arg7.view.set]{fullShare} f) ∗ ⌜slab (arg7.view.read (Elt F) f) k = scoreBlk X2 X3 X5 k⌝)
    ∗ (∃ f, (arg8.view.loc (c : Thread nD τ) ↦[arg8.view.set]{fullShare} f) ∗ ⌜arg8.view.read (Elt F) f = mAt X2 X3 X5 k⌝)
    ∗ (∃ f, (arg9.view.loc (c : Thread nD τ) ↦[arg9.view.set]{fullShare} f) ∗ ⌜arg9.view.read (Elt F) f = lAt X2 X3 X5 k⌝)
    ∗ (∃ f, (arg10.view.loc (c : Thread nD τ) ↦[arg10.view.set]{fullShare} f) ∗ ⌜arg10.view.read (Elt F) f = accAt X2 X3 X4 X5 k⌝))

theorem trip (e2 : arg2.view.read (Elt F) f2 = X2) (e3 : arg3.view.read (Elt F) f3 = X3) (e4 : arg4.view.read (Elt F) f4 = X4) (e5 : arg5.view.read (Elt F) f5 = X5)
    (arg1 c0 v27 : BitVec 32) (k : Fin (k0_t1_loop i).trips) (u : PUnit) :
    loopI c arg2 arg3 arg4 arg5 arg7 arg8 arg9 arg10 f2 f3 f4 f5 X2 X3 X4 X5 k.val u
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg1 c0 v27 k u)
          (loopI c arg2 arg3 arg4 arg5 arg7 arg8 arg9 arg10 f2 f3 f4 f5 X2 X3 X4 X5 (k.val + 1)) := by
  unfold loopI k0_t1_body
  iintro ⟨H2, H3, H4, H5, ⟨%f7, H7, %e7⟩, ⟨%f8, H8, %e8⟩, ⟨%f9, H9, %e9⟩, ⟨%f10, H10, %e10⟩⟩
  have hk := t1_lt i k
  have hk0 : k.val % 8 = k.val := Nat.mod_eq_of_lt (by omega)
  have hk1 : (k.val + 1) % 8 = k.val + 1 := Nat.mod_eq_of_lt (by omega)
  -- what the trip's loads read
  have r2 : arg2.view.readAt (Elt F) (Rect.unit (s := S1024x128) ![0, 0] S1024x128.size inb_S1024x128_S1024x128_0_0).toLoadRect f2 = X2 :=
    (View.readAt_full _ _ _).trans e2
  have r3 : arg3.view.readAt (Elt F) (Rect.unit (s := S8192x128) (k0_off2 i k) S1024x128.size (k0_off2_inb i k)).toLoadRect f3 = keyBlk X3 (k.val + 1) := by
    subst e3; exact View.readAt_unit _ _ _ (by rw [hk1]; exact off2_eq i k) _
  have r4 : arg4.view.readAt (Elt F) (Rect.unit (s := S128x8192) (k0_off4 i k) S128x1024.size (k0_off4_inb i k)).toLoadRect f4 = valBlk X4 k.val := by
    subst e4; exact View.readAt_unit _ _ _ (by rw [hk0]; exact off4_eq i k) _
  have r5 : arg5.view.readAt (Elt F) (Rect.unit (s := S1x8192x128) (k0_off1 i k) S1x1024x128.size (k0_off1_inb i k)).toLoadRect f5 = biasBlk X5 (k.val + 1) := by
    subst e5; exact View.readAt_unit _ _ _ (by rw [hk1]; exact off1_eq i k) _
  have r7 : arg7.view.readAt (Elt F) (Rect.unit (s := S1x2x1024x1024) (k0_off3 i k) S1x1x1024x1024.size (k0_off3_inb i k)).toLoadRect f7 = scoreBlk X2 X3 X5 k.val :=
    (slab_readAt _ _ _ (off3_eq i k)).trans e7
  have r8 : arg8.view.readAt (Elt F) (Rect.unit (s := S1x1x1024) ![0, 0, 0] S1x1x1024.size inb_S1x1x1024_S1x1x1024_0_0_0).toLoadRect f8 = mAt X2 X3 X5 k.val :=
    (View.readAt_full _ _ _).trans e8
  have r9 : arg9.view.readAt (Elt F) (Rect.unit (s := S1x1x1024) ![0, 0, 0] S1x1x1024.size inb_S1x1x1024_S1x1x1024_0_0_0).toLoadRect f9 = lAt X2 X3 X5 k.val :=
    (View.readAt_full _ _ _).trans e9
  have r10 : arg10.view.readAt (Elt F) (Rect.unit (s := S1x128x1024) ![0, 0, 0] S1x128x1024.size inb_S1x128x1024_S1x128x1024_0_0_0).toLoadRect f10 = accAt X2 X3 X4 X5 k.val :=
    (View.readAt_full _ _ _).trans e10
  sl_exec
  sl_step
  isplitl [H2]; · iexact H2
  isplitl [H3]; · iexact H3
  isplitl [H4]; · iexact H4
  isplitl [H5]; · iexact H5
  isplitl [H7]
  · iexists _; isplitl [H7]; · iexact H7
    ipureintro
    unfold slab
    rw [View.read_writes_cons_put _ _ _ _ _ (off5_eq i k)]
    refine (VecWindow.window_put_same _ _ _ _ _).trans ?_
    rfl
  isplitl [H8]
  · iexists _; isplitl [H8]; · iexact H8
    ipureintro
    refine (View.read_writes_full _ _ _ _ _).trans ?_
    rfl
  isplitl [H9]
  · iexists _; isplitl [H9]; · iexact H9
    ipureintro
    refine (View.read_writes_full _ _ _ _ _).trans ?_
    rfl
  iexists _; isplitl [H10]; · iexact H10
  ipureintro
  refine (View.read_writes_full _ _ _ _ _).trans ?_
  rfl

theorem kernelRun (K : PUnit → sProp 𝕄) :
    iprop(owns (c : Thread nD τ) arg2 fullShare X2 ∗ owns (c : Thread nD τ) arg3 fullShare X3
        ∗ owns (c : Thread nD τ) arg4 fullShare X4 ∗ owns (c : Thread nD τ) arg5 fullShare X5
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d)
        ∗ (iprop(owns (c : Thread nD τ) arg2 fullShare X2 ∗ owns (c : Thread nD τ) arg3 fullShare X3
            ∗ owns (c : Thread nD τ) arg4 fullShare X4 ∗ owns (c : Thread nD τ) arg5 fullShare X5
            ∗ owns (c : Thread nD τ) arg6 fullShare (outBlk X2 X3 X4 X5 (i 1).val) ∗ (∃ d, owns (c : Thread nD τ) arg7 fullShare d)
            ∗ (∃ d, owns (c : Thread nD τ) arg8 fullShare d) ∗ (∃ d, owns (c : Thread nD τ) arg9 fullShare d)
            ∗ (∃ d, owns (c : Thread nD τ) arg10 fullShare d)) -∗ K ⟨⟩))
      ⊢ wp frame (wpE (defs₀ (F := F)) Variants.none c none) Set.univ
          (cc0_flash i arg2 harg2 arg3 harg3 arg4 harg4 arg5 harg5 arg6 harg6 arg7 harg7 arg8 harg8 arg9 harg9 arg10 harg10) K := by
  simp only [cc0_flash_eq_skeleton]; unfold cc0_flash_skel
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%d9, %f9, -, H9⟩, ⟨%d10, %f10, -, H10⟩, Hk⟩
  have s7 : ∀ f, slab (arg7.view.read (Elt F) (arg7.view.writes (Elt F) f
        [⟨Rect.unit (s := S1x2x1024x1024) ![0, 0, 0, 0] S1x1x1024x1024.size inb_S1x2x1024x1024_S1x1x1024x1024_0_0_0_0,
          k0_pay28 (arg5.view.readAt (Elt F) (Rect.unit (s := S1x8192x128) ![0, 0, 0] S1x1024x128.size inb_S1x8192x128_S1x1024x128_0_0_0).toLoadRect f5)
            (arg3.view.readAt (Elt F) (Rect.unit (s := S8192x128) ![0, 0] S1024x128.size inb_S8192x128_S1024x128_0_0).toLoadRect f3)
            (arg2.view.readAt (Elt F) (Rect.unit (s := S1024x128) ![0, 0] S1024x128.size inb_S1024x128_S1024x128_0_0).toLoadRect f2)⟩])) 0 = scoreBlk X2 X3 X5 0 := by
    intro f
    unfold slab
    rw [View.read_writes_cons_put _ _ _ _ _ rfl]
    refine (VecWindow.window_put_same _ _ _ _ _).trans ?_
    rw [View.readAt_full, e2]
    subst e3 e5
    rw [View.readAt_unit arg5.view f5 (off' := ![0, 1024 * (0 % 8), 0]) _ rfl (by intro a; fin_cases a <;> simp),
      View.readAt_unit arg3.view f3 (off' := ![1024 * (0 % 8), 0]) _ rfl (by intro a; fin_cases a <;> simp)]
    rfl
  sl_exec
  sl_for (loopI c arg2 arg3 arg4 arg5 arg7 arg8 arg9 arg10 f2 f3 f4 f5 X2 X3 X4 X5) $$ [H2 H3 H4 H5 H7 H8 H9 H10]
  case region =>
    intro k u
    exact trip c i arg2 harg2 arg3 harg3 arg4 harg4 arg5 harg5 arg6 harg6 arg7 harg7 arg8 harg8 arg9 harg9 arg10 harg10 f2 f3 f4 f5 X2 X3 X4 X5 e2 e3 e4 e5 _ _ _ k u
  · unfold loopI
    isplitl [H2]; · iexact H2
    isplitl [H3]; · iexact H3
    isplitl [H4]; · iexact H4
    isplitl [H5]; · iexact H5
    isplitl [H7]
    · iexists _; isplitl [H7]; · iexact H7
      ipureintro; exact s7 _
    isplitl [H8]
    · iexists _; isplitl [H8]; · iexact H8
      ipureintro; exact View.read_writes_full _ _ _ _ _
    isplitl [H9]
    · iexists _; isplitl [H9]; · iexact H9
      ipureintro; exact View.read_writes_full _ _ _ _ _
    iexists _; isplitl [H10]; · iexact H10
    ipureintro; exact View.read_writes_full _ _ _ _ _
  iintro %u HI
  rw [show Scf.trips (k0_t1_loop i).lb (k0_t1_loop i).ub (k0_t1_loop i).st = (i 1).val from t1_trips i]
  unfold loopI
  icases HI with ⟨H2, H3, H4, H5, ⟨%g7, H7, %e7⟩, ⟨%g8, H8, %e8⟩, ⟨%g9, H9, %e9⟩, ⟨%g10, H10, %e10⟩⟩
  have hb : (i 1).val % 8 = (i 1).val := Nat.mod_eq_of_lt (i 1).isLt
  have r4 : arg4.view.readAt (Elt F) (Rect.unit (s := S128x8192) (k0_off12 i) S128x1024.size (k0_off12_inb i)).toLoadRect f4 = valBlk X4 (i 1).val := by
    subst e4; exact View.readAt_unit _ _ _ (by rw [hb]; exact off12_eq i) _
  have r7 : arg7.view.readAt (Elt F) (Rect.unit (s := S1x2x1024x1024) (k0_off11 i) S1x1x1024x1024.size (k0_off11_inb i)).toLoadRect g7 = scoreBlk X2 X3 X5 (i 1).val :=
    (slab_readAt _ _ _ (off11_eq i)).trans e7
  have r8 : arg8.view.readAt (Elt F) (Rect.unit (s := S1x1x1024) ![0, 0, 0] S1x1x1024.size inb_S1x1x1024_S1x1x1024_0_0_0).toLoadRect g8 = mAt X2 X3 X5 (i 1).val :=
    (View.readAt_full _ _ _).trans e8
  have r9 : arg9.view.readAt (Elt F) (Rect.unit (s := S1x1x1024) ![0, 0, 0] S1x1x1024.size inb_S1x1x1024_S1x1x1024_0_0_0).toLoadRect g9 = lAt X2 X3 X5 (i 1).val :=
    (View.readAt_full _ _ _).trans e9
  have r10 : arg10.view.readAt (Elt F) (Rect.unit (s := S1x128x1024) ![0, 0, 0] S1x128x1024.size inb_S1x128x1024_S1x128x1024_0_0_0).toLoadRect g10 = accAt X2 X3 X4 X5 (i 1).val :=
    (View.readAt_full _ _ _).trans e10
  sl_exec
  sl_step
  iapply Hk
  isplitl [H2]; · iexists _; isplitr; · (ipureintro; exact e2)
                  iexact H2
  isplitl [H3]; · iexists _; isplitr; · (ipureintro; exact e3)
                  iexact H3
  isplitl [H4]; · iexists _; isplitr; · (ipureintro; exact e4)
                  iexact H4
  isplitl [H5]; · iexists _; isplitr; · (ipureintro; exact e5)
                  iexact H5
  isplitl [H6]
  · iexists _; isplitr; swap; · iexact H6
    ipureintro
    refine (View.read_writes_full _ _ _ _ _).trans ?_
    unfold outBlk
    refine congrArg₂ k0_pay4 ?_ ?_
    · exact (View.readCov_full _ _ _ _ _).trans rfl
    · exact (View.readCov_full _ _ _ _ _).trans rfl
  isplitl [H7]; · iexists _, _; isplitr; swap; · iexact H7
                  ipureintro; rfl
  isplitl [H8]; · iexists _, _; isplitr; swap; · iexact H8
                  ipureintro; rfl
  isplitl [H9]; · iexists _, _; isplitr; swap; · iexact H9
                  ipureintro; rfl
  iexists _, _; isplitr; swap; · iexact H10
  ipureintro; rfl

end

end Cert.KernelIdeal.Hand

end
-- ==== Proof.Flash.Run.lean ====
/-
  The run of the kernel's idealisation: every grid point writes `outBlk` of the blocks it read, so every run ends with the
  output array assembled from those blocks, the arguments as launched and every counter zero.
-/
module

public import proofs.«01_k».proof.Proof.Flash.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t
    | 4 => outBlk (iblk m c 0 t) (iblk m c 1 t) (iblk m c 2 t) (iblk m c 3 t) (grid0.coords t 1).val
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
          ∗ (∃ r, prngReg c r)) := by
  rw [Pipeline.ΦA, scopedRest0_eq]; simp only [owns_whole]; try rfl

abbrev ms0 (t : Fin cfg0.N) : Memref sig .tc .vmem S1024x128 .bf16 := win0_0.stage (cfg0.slots t 0)
abbrev ms1 (t : Fin cfg0.N) : Memref sig .tc .vmem S8192x128 .bf16 := win0_1.stage (cfg0.slots t 1)
abbrev ms2 (t : Fin cfg0.N) : Memref sig .tc .vmem S128x8192 .bf16 := win0_2.stage (cfg0.slots t 2)
abbrev ms3 (t : Fin cfg0.N) : Memref sig .tc .vmem S1x8192x128 .f32 := win0_3.stage (cfg0.slots t 3)
abbrev ms4 (t : Fin cfg0.N) : Memref sig .tc .vmem S1024x128 .bf16 := win0_4.stage (cfg0.slots t 4)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (iblk m c 3 t)
    ∗ owns (c : Thread nD τ) (ms4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl)]
  iintro ⟨⟨⟨S0, S1, S2, S3⟩, Hg⟩, HO, ⟨%d0, H0⟩, ⟨%d1, H1⟩, ⟨%d2, H2⟩, ⟨%d3, H3⟩, ⟨%d4, H4⟩⟩
  iapply (kernelRun c (grid0.coords t) (ms0 t) _ (ms1 t) _ (ms2 t) _ (ms3 t) _ (ms4 t) _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  isplitl [S3]; · iexact S3
  iintro ⟨H0, H1, H2, H3, H4, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [HO]; · iexact HO
  isplitl [H0]; · iexact H0
  isplitl [H1]; · iexact H1
  isplitl [H2]; · iexact H2
  isplitl [H3]; · iexact H3
  iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of @main ends, with every array no window stages as launched and every counter zero. -/
theorem run_main :
    θ_run defs (onTc (τ := τ) (main (F := F))) (s₀ m ρ)
      (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments are as launched and the counters zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Hand

end
-- ==== Proof.Flash.Entry.lean ====
/-
  The blocks the kernel reads at a grid point, in terms of the launch arguments: queries scaled and divided by `log 2`, keys,
  transposed values, and the gate's negated prefix sums divided by `log 2`.
-/
module

public import proofs.«01_k».proof.Proof.Flash.Run
public import Idealize.ShloMosaic.Lib.Pipeline.ValueKit
public import Idealize.ShloMosaic.Lib.Pipeline.Covers
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Pointwise Idealize.SL.Sem

variable (m : (ℓ : Loc nD τ sig) → Buf (Elt Ideal) ℓ) (c : Dev nD)

theorem idx0 (t : Fin cfg0.N) : win0_0.index t = ![(grid0.coords t 1).val, (grid0.coords t 0).val] := by
  revert t; decide +kernel
theorem idx1 (t : Fin cfg0.N) : win0_1.index t = ![0, (grid0.coords t 0).val] := by
  revert t; decide +kernel
theorem idx2 (t : Fin cfg0.N) : win0_2.index t = ![(grid0.coords t 0).val, 0] := by
  revert t; decide +kernel
theorem idx3 (t : Fin cfg0.N) : win0_3.index t = ![(grid0.coords t 0).val, 0, 0] := by
  revert t; decide +kernel
theorem idx4 (t : Fin cfg0.N) : win0_4.index t = ![(grid0.coords t 1).val, (grid0.coords t 0).val] := by
  revert t; decide +kernel

/-- The arguments as functions of their indices. -/
abbrev argQ : S8192x2048.Idx → EReal := m ((c : Thread nD τ).loc main_arg0)
abbrev argK : S8192x2048.Idx → EReal := m ((c : Thread nD τ).loc main_arg1)
abbrev argV : S8192x2048.Idx → EReal := m ((c : Thread nD τ).loc main_arg2)
abbrev argC : S8192x16.Idx → EReal := m ((c : Thread nD τ).loc main_arg3)

theorem entry_q (r : Fin 8192) (e : Fin 2048) : (V m c main_v5 : S8192x2048.Idx → EReal) (ix2 r e)
    = Ideal.div (argQ m c (ix2 r e) * Ideal.ofBits .f32 0x3DB504F3#32) (Ideal.log (Ideal.ofBits .f32 0x40000000#32)) := by
  entry_read
  pointwise
  try rfl

theorem entry_k (r : Fin 8192) (e : Fin 2048) : (V m c main_v12 : S8192x2048.Idx → EReal) (ix2 r e) = argK m c (ix2 r e) := by
  entry_read
  pointwise

theorem entry_v (r : Fin 8192) (e : Fin 2048) : (V m c main_v14 : S2048x8192.Idx → EReal) (ix2 e r) = argV m c (ix2 r e) := by
  entry_read
  pointwise

theorem entry_b (h : Fin 16) (r : Fin 8192) (l : Fin 128) : (V m c main_v11 : S16x8192x128.Idx → EReal) (ix3 h r l)
    = Ideal.div (-(argC m c (ix2 r h))) (Ideal.log (Ideal.ofBits .f32 0x40000000#32)) := by
  entry_read
  pointwise
  try rfl

theorem iblk_q (t : Fin cfg0.N) (r : Fin 1024) (d : Fin 128) (h1 h2) : (iblk m c 0 t : S1024x128.Idx → EReal) (ix2 r d)
    = (V m c main_v5 : S8192x2048.Idx → EReal) (ix2 ⟨1024 * (grid0.coords t 1).val + r.val, h1⟩ ⟨128 * (grid0.coords t 0).val + d.val, h2⟩) := by
  blk_ext [iblk, idx0 t]

theorem iblk_k (t : Fin cfg0.N) (r : Fin 8192) (d : Fin 128) (h2) : (iblk m c 1 t : S8192x128.Idx → EReal) (ix2 r d)
    = (V m c main_v12 : S8192x2048.Idx → EReal) (ix2 r ⟨128 * (grid0.coords t 0).val + d.val, h2⟩) := by
  blk_ext [iblk, idx1 t]

theorem iblk_v (t : Fin cfg0.N) (r : Fin 8192) (d : Fin 128) (h2) : (iblk m c 2 t : S128x8192.Idx → EReal) (ix2 d r)
    = (V m c main_v14 : S2048x8192.Idx → EReal) (ix2 ⟨128 * (grid0.coords t 0).val + d.val, h2⟩ r) := by
  blk_ext [iblk, idx2 t]

theorem iblk_b (t : Fin cfg0.N) (r : Fin 8192) (l : Fin 128) (h2) : (iblk m c 3 t : S1x8192x128.Idx → EReal) (ix3 0 r l)
    = (V m c main_v11 : S16x8192x128.Idx → EReal) (ix3 ⟨(grid0.coords t 0).val, h2⟩ r l) := by
  blk_ext [iblk, idx3 t]

end Cert.KernelIdeal.Hand

end
-- ==== Proof.Flash.Result.lean ====
/-
  The output array of the kernel's idealisation, entry by entry: for finite arguments each entry is the quotient of two sums
  over the keys up to the query's own position.
-/
module

public import proofs.«01_k».proof.Proof.Flash.Block
public import proofs.«01_k».proof.Proof.Flash.Entry

@[expose] public section

noncomputable section

namespace Cert.Softmax

open Idealize.ShloMosaic Idealize.ShloMosaic.Pointwise

theorem two_bits : Ideal.ofBits .f32 0x40000000#32 = ((2 : ℝ) : EReal) := by
  simp [Ideal.ofBits, Ideal.ieee]
  rw [← EReal.coe_mul]
  norm_num

theorem log_two : Ideal.log (Ideal.ofBits .f32 0x40000000#32) = ((Real.log 2 : ℝ) : EReal) := by
  rw [two_bits]
  show (if (2 : ℝ) ≤ 0 then (⊥ : EReal) else ((Real.log 2 : ℝ) : EReal)) = _
  rw [if_neg (by norm_num)]

theorem scale_real : ∃ r : ℝ, Ideal.ofBits .f32 0x3DB504F3#32 = (r : EReal) := by
  simp only [Ideal.ofBits]
  exact ⟨_, rfl⟩

/-- The scale as a real number. -/
def scale : ℝ := scale_real.choose
theorem scale_eq : Ideal.ofBits .f32 0x3DB504F3#32 = (scale : EReal) := scale_real.choose_spec

theorem log_two_ne : Real.log 2 ≠ 0 := (Real.log_pos (by norm_num)).ne'

/-- A row of a real matrix by its number, zero past the end. -/
def row (f : (⟨2, ![8192, 2048]⟩ : Shape).Idx → ℝ) (n : ℕ) (e : Fin 2048) : ℝ := if h : n < 8192 then f (ix2 ⟨n, h⟩ e) else 0
def gate (f : (⟨2, ![8192, 16]⟩ : Shape).Idx → ℝ) (n : ℕ) (h : Fin 16) : ℝ := if hn : n < 8192 then f (ix2 ⟨n, hn⟩ h) else 0

/-- The column of head `h`, lane `d`. -/
def col (h : Fin 16) (d : Fin 128) : Fin 2048 := ⟨128 * h.val + d.val, by omega⟩

variable (q k v : (⟨2, ![8192, 2048]⟩ : Shape).Idx → ℝ) (g : (⟨2, ![8192, 16]⟩ : Shape).Idx → ℝ)

/-- The logit of head `h`, query `t` and key `n`. -/
def logit (h : Fin 16) (t n : ℕ) : ℝ := (∑ d : Fin 128, row q t (col h d) * row k n (col h d)) * scale + gate g t h - gate g n h

/-- The attention's entry: a softmax over the keys not later than the query. -/
def entry (h : Fin 16) (t : ℕ) (d : Fin 128) : ℝ :=
  (∑ n ∈ Finset.range (t + 1), Real.exp (logit q k g h t n) * row v n (col h d)) / ∑ n ∈ Finset.range (t + 1), Real.exp (logit q k g h t n)

/-- The kernel's score, in base two and without the query's own gate. -/
def sigma (h : Fin 16) (t n : ℕ) : ℝ :=
  (∑ d : Fin 128, row k n (col h d) * (row q t (col h d) * scale / Real.log 2)) + (-(gate g n h)) / Real.log 2

theorem pow2_sigma (h : Fin 16) (t n : ℕ) : pow2 (sigma q k g h t n) = Real.exp (-(gate g t h)) * Real.exp (logit q k g h t n) := by
  unfold pow2
  rw [show Real.rpow 2 (sigma q k g h t n) = (2 : ℝ) ^ (sigma q k g h t n) from rfl, Real.rpow_def_of_pos (by norm_num), ← Real.exp_add]
  congr 1
  unfold sigma logit
  rw [mul_add, Finset.mul_sum, Finset.sum_mul, mul_div_cancel₀ _ log_two_ne]
  have : ∀ d : Fin 128, Real.log 2 * (row k n (col h d) * (row q t (col h d) * scale / Real.log 2)) = row q t (col h d) * row k n (col h d) * scale := fun d => by
    field_simp [log_two_ne]
  simp only [this]
  ring

theorem quot_sigma (h : Fin 16) (t : ℕ) (d : Fin 128) :
    (∑ n ∈ Finset.range (t + 1), pow2 (sigma q k g h t n) * row v n (col h d)) / ∑ n ∈ Finset.range (t + 1), pow2 (sigma q k g h t n)
      = entry q k v g h t d := by
  simp only [pow2_sigma, mul_assoc, ← Finset.mul_sum]
  exact mul_div_mul_left _ _ (Real.exp_pos _).ne'

end Cert.Softmax

namespace Cert.KernelIdeal.Hand

open Cert.KernelIdeal Cert.KernelIdeal.Gen
open Idealize.ShloMosaic Idealize.ShloMosaic.TcCoe Idealize.ShloMosaic.Pointwise Idealize.SL.Sem
open Cert.Softmax

section blocks
variable {F : FTy → Type} [FloatOps F] [Named F]

theorem biasBlk_apply (X : S1x8192x128.Idx → Elt F .f32) (j : ℕ) (hj : j < 8) (s : Fin 1024) (l : Fin 128) :
    biasBlk X j (ix3 0 s l) = X (ix3 0 ⟨1024 * j + s.val, by omega⟩ l) := by
  refine congrArg X (funext fun a => Fin.ext ?_)
  fin_cases a
  · rfl
  · show 1024 * (j % 8) + 1 * s.val = 1024 * j + s.val; omega
  · show 0 + 1 * l.val = l.val; omega
theorem keyBlk_apply (X : S8192x128.Idx → Elt F .bf16) (j : ℕ) (hj : j < 8) (s : Fin 1024) (d : Fin 128) :
    keyBlk X j (ix2 s d) = X (ix2 ⟨1024 * j + s.val, by omega⟩ d) := by
  refine congrArg X (funext fun a => Fin.ext ?_)
  fin_cases a
  · show 1024 * (j % 8) + 1 * s.val = 1024 * j + s.val; omega
  · show 0 + 1 * d.val = d.val; omega
theorem valBlk_apply (X : S128x8192.Idx → Elt F .bf16) (j : ℕ) (hj : j < 8) (s : Fin 1024) (d : Fin 128) :
    valBlk X j (ix2 d s) = X (ix2 d ⟨1024 * j + s.val, by omega⟩) := by
  refine congrArg X (funext fun a => Fin.ext ?_)
  fin_cases a
  · show 0 + 1 * d.val = d.val; omega
  · show 1024 * (j % 8) + 1 * s.val = 1024 * j + s.val; omega
end blocks

variable (m : (ℓ : Loc nD τ sig) → Buf (Elt Ideal) ℓ) (c : Dev nD)
variable (q k v : S8192x2048.Idx → ℝ) (g : S8192x16.Idx → ℝ)
variable (hq : ∀ i, argQ m c i = (q i : EReal)) (hk : ∀ i, argK m c i = (k i : EReal)) (hv : ∀ i, argV m c i = (v i : EReal))
  (hg : ∀ i, argC m c i = (g i : EReal))

include hq hk hg in
theorem score_real (t : Fin cfg0.N) (j : ℕ) (hj : j < 8) (s r : Fin 1024) :
    scoreBlk (iblk m c 0 t : S1024x128.Idx → EReal) (iblk m c 1 t : S8192x128.Idx → EReal) (iblk m c 3 t : S1x8192x128.Idx → EReal) j (ix4 0 0 s r)
      = ((sigma q k g (grid0.coords t 0) (1024 * (grid0.coords t 1).val + r.val) (1024 * j + s.val) : ℝ) : EReal) := by
  have h0 : (grid0.coords t 0).val < 16 := (grid0.coords t 0).isLt
  have h1 : (grid0.coords t 1).val < 8 := (grid0.coords t 1).isLt
  unfold scoreBlk
  rw [score_apply, biasBlk_apply _ _ hj, iblk_b m c t _ _ h0, entry_b, hg, log_two, ← EReal.coe_neg, div_coe_coe _ _ log_two_ne]
  unfold sigma
  rw [EReal.coe_add, coe_sum]
  congr 1
  · refine Finset.sum_congr rfl fun d _ => ?_
    rw [keyBlk_apply _ _ hj, iblk_k m c t _ _ (by omega), iblk_q m c t r d (by omega) (by omega), entry_k, entry_q, hk, hq, log_two, scale_eq, ← EReal.coe_mul,
      div_coe_coe _ _ log_two_ne, ← EReal.coe_mul]
    unfold row
    rw [dif_pos (by omega), dif_pos (by omega)]
    rfl
  · unfold gate
    rw [dif_pos (by omega)]
    rfl

include hv in
theorem value_real (t : Fin cfg0.N) (j : ℕ) (hj : j < 8) (s : Fin 1024) (d : Fin 128) :
    valBlk (iblk m c 2 t : S128x8192.Idx → EReal) j (ix2 d s) = ((row v (1024 * j + s.val) (col (grid0.coords t 0) d) : ℝ) : EReal) := by
  have h0 : (grid0.coords t 0).val < 16 := (grid0.coords t 0).isLt
  rw [valBlk_apply _ _ hj, iblk_v m c t _ _ (by omega), entry_v, hv]
  unfold row
  rw [dif_pos (by omega)]
  rfl

/-- The output array: entry `(t, 128 h + d)` is `entry` of head `h`, query `t`, lane `d`. -/
def outArr : S8192x2048.Idx → EReal := fun i =>
  ((entry q k v g ⟨(i 1).val / 128, by have h : (i 1).val < 2048 := (i 1).isLt; omega⟩ (i 0).val ⟨(i 1).val % 128, Nat.mod_lt _ (by decide)⟩ : ℝ) : EReal)

theorem outArr_at (i : S8192x2048.Idx) (h : Fin 16) (t : ℕ) (d : Fin 128) (e0 : (i 0).val = t) (e1 : (i 1).val = 128 * h.val + d.val) :
    outArr q k v g i = ((entry q k v g h t d : ℝ) : EReal) := by
  unfold outArr
  have a0 : ∀ p, (⟨(i 1).val / 128, p⟩ : Fin 16) = h := fun p => Fin.ext (by simp only; omega)
  have a1 : ∀ p, (⟨(i 1).val % 128, p⟩ : Fin 128) = d := fun p => Fin.ext (by simp only; omega)
  rw [e0, a0, a1]

include hq hk hv hg in
theorem arr_eq : (dats m 0 c).arrAt 4 cfg0.N = outArr q k v g := by
  refine (dats m 0 c).arrAt_eq_of_covers 4 _ (by decide +kernel) fun t hf y => ?_
  blk_simp
  obtain ⟨r, d, rfl⟩ : ∃ (r : Fin 1024) (d : Fin 128), y = ix2 r d := ⟨y 0, y 1, eq_ix2 y⟩
  have h0 : (grid0.coords t 0).val < 16 := (grid0.coords t 0).isLt
  have h1 : (grid0.coords t 1).val < 8 := (grid0.coords t 1).isLt
  have e0 : ((win0_4.blk t).view.emb (ix2 r d) 0).val = 1024 * (grid0.coords t 1).val + r.val := by
    show (win0_4.index t 0) * 1024 + 1 * r.val = _
    rw [idx4]; simp; omega
  have e1 : ((win0_4.blk t).view.emb (ix2 r d) 1).val = 128 * (grid0.coords t 0).val + d.val := by
    show (win0_4.index t 1) * 128 + 1 * d.val = _
    rw [idx4]; simp; omega
  refine (outBlk_apply _ _ _ _ r d (fun n => sigma q k g (grid0.coords t 0) (1024 * (grid0.coords t 1).val + r.val) n)
    (fun n => row v n (col (grid0.coords t 0) d)) (fun j hj s => score_real m c q k g hq hk hg t j hj s r)
    (fun j hj s => value_real m c v hv t j hj s d) _ h1).trans ?_
  refine (congrArg (fun x : ℝ => (x : EReal)) (quot_sigma q k v g (grid0.coords t 0) (1024 * (grid0.coords t 1).val + r.val) d)).trans ?_
  exact (outArr_at q k v g _ (grid0.coords t 0) _ d e0 e1).symm

end Cert.KernelIdeal.Hand

end
-- ==== Proof.Flash.Ref.lean ====
/-
  The reference's result, read at an index.
-/
module

public import proofs.«01_k».proof.Proof.Flash.Result
public import proofs.«01_k».proof.Proof.Gen.ReferenceIdeal.Run
public import Idealize.ShloMosaic.Lib.WordCmp

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.Pointwise Idealize.SL.Sem
open Cert.Softmax

set_option maxRecDepth 16384

variable (Q K W : S8192x2048.Idx → EReal) (C : S8192x16.Idx → EReal)

/-- The masked logits as the reference computes them. -/
def logits : S16x8192x8192.Idx → EReal :=
  select (α := Ideal .f32) (broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (subf (F := Ideal) (φ := .f32) (addf (mulf (Host.dotGeneral (F := Ideal) (φ₁ := .f32) (φ₂ := .f32) dot_S8192x16x128_S8192x16x128_S16x8192x8192_2_2_0_0_1_1 none (shapeCast _ Q shapeCasts_S8192x2048_S8192x16x128) (shapeCast _ K shapeCasts_S8192x2048_S8192x16x128)) (broadcastInDim S16x8192x8192 ![] bcast_S_S16x8192x8192 (constant S_ .f32 0x3DB504F3#32))) (broadcastInDim S16x8192x8192 ![0, 1, 2] bcast_S16x8192x1_S16x8192x8192_0_1_2 (broadcastInDim S16x8192x1 ![0, 1] bcast_S16x8192_S16x8192x1_0_1 (transpose S16x8192 [1, 0] C transposes_S8192x16_S16x8192_1_0)))) (broadcastInDim S16x8192x8192 ![0, 1, 2] bcast_S16x1x8192_S16x8192x8192_0_1_2 (broadcastInDim S16x1x8192 ![0, 2] bcast_S16x8192_S16x1x8192_0_2 (transpose S16x8192 [1, 0] C transposes_S8192x16_S16x8192_1_0)))) (broadcastInDim S16x8192x8192 ![] bcast_S_S16x8192x8192 (id (constant (F := Ideal) S_ .f32 0xFF800000#32) : FVec Ideal S_ .f32))

/-- The maximum the reference subtracts from the logits. -/
def tops : S16x8192.Idx → EReal :=
  maximumf (F := Ideal) (φ := .f32) (broadcastInDim S16x8192 ![] bcast_S_S16x8192 (constant S_ .f32 0xFF800000#32)) (Host.reduce FloatOps.maximumf (logits Q K C) (constant S_ .f32 0xFF800000#32) reducesTo_S16x8192x8192_S16x8192_d2 h_S_)

/-- The exponentials of the shifted logits. -/
def exps : S16x8192x8192.Idx → EReal :=
  Host.exp (F := Ideal) (φ := .f32) (subf (logits Q K C) (broadcastInDim S16x8192x8192 ![0, 1, 2] bcast_S16x8192x1_S16x8192x8192_0_1_2 (broadcastInDim S16x8192x1 ![0, 1] bcast_S16x8192_S16x8192x1_0_1 (tops Q K C))))

/-- The softmax's weights. -/
def probs : S16x8192x8192.Idx → EReal :=
  Host.divf (F := Ideal) (φ := .f32) (exps Q K C) (broadcastInDim S16x8192x8192 ![0, 1, 2] bcast_S16x8192x1_S16x8192x8192_0_1_2 (broadcastInDim S16x8192x1 ![0, 1] bcast_S16x8192_S16x8192x1_0_1 (Host.reduceAdd (F := Ideal) (φ := .f32) (exps Q K C) (constant S_ .f32 0x00000000#32) reducesTo_S16x8192x8192_S16x8192_d2 h_S_)))

/-- The result. -/
def out : S8192x2048.Idx → EReal :=
  truncf (F := Ideal) (φ := .f32) .bf16 (shapeCast _ (transpose S8192x16x128 [2, 0, 1] (Host.dotGeneral (F := Ideal) (φ₁ := .f32) (φ₂ := .f32) dot_S8192x16x128_S16x8192x8192_S16x128x8192_0_2_2_1_1_0 none (shapeCast _ W shapeCasts_S8192x2048_S8192x16x128) (probs Q K C)) transposes_S16x128x8192_S8192x16x128_2_0_1) shapeCasts_S8192x16x128_S8192x2048) bitsLt_bf16_f32

theorem res_eq (m : (ℓ : Loc nD τ sig) → Buf (Elt Ideal) ℓ) (c : Dev nD) :
    (res_main_v36 m c : S8192x2048.Idx → EReal) = out (m ((c.tc : Thread nD τ).loc main_arg0)) (m ((c.tc : Thread nD τ).loc main_arg1))
      (m ((c.tc : Thread nD τ).loc main_arg2)) (m ((c.tc : Thread nD τ).loc main_arg3)) := by
  unfold res_main_v36 out probs exps tops logits
  rfl

theorem bot_bits : Ideal.ofBits .f32 0xFF800000#32 = (⊥ : EReal) := by simp [Ideal.ofBits, Ideal.ieee]

theorem logits_apply (h : Fin 16) (t n : Fin 8192) : logits Q K C (ix3 h t n) =
    if n.val ≤ t.val then (∑ d : Fin 128, Q (ix2 t (col h d)) * K (ix2 n (col h d))) * Ideal.ofBits .f32 0x3DB504F3#32 + C (ix2 t h) - C (ix2 n h) else ⊥ := by
  pointwise [logits]
  rw [WordCmp.cmpi_sle_ofNat (by omega) (by omega), WordCmp.select_decide, show (id (constant (F := Ideal) S_ .f32 0xFF800000#32) : FVec Ideal S_ .f32) ix0 = (⊥ : EReal) from bot_bits]
  have e : ∀ (x : Fin 128) p, (⟨h.val * 128 + x.val, p⟩ : Fin 2048) = col h x := fun x p => Fin.ext (by simp only [col]; omega)
  simp only [e]

/-- A maximum over the last of three axes. -/
theorem reduce_max {n0 n1 n2 : ℕ} {u : Shape} (x : (⟨3, ![n0, n1, n2]⟩ : Shape).Idx → EReal) (init : u.Idx → EReal)
    (h : (⟨3, ![n0, n1, n2]⟩ : Shape).ReducesTo [2] ⟨2, ![n0, n1]⟩) (hu : 0 < u.numel) (a : Fin n0) (b : Fin n1) :
    Host.reduce (FloatOps.maximumf (F := Ideal) (φ := .f32)) x init h hu (ix2 a b)
      = Finset.univ.fold max (init (Shape.Idx.first hu)) fun k : Fin n2 => x (ix3 a b k) := by
  have e := Host.reduce_eq_fold (FloatOps.maximumf (F := Ideal) (φ := .f32)) x init h hu (ix2 a b)
  rw [Shape.ReducesTo.fold_fiber_r3_a2] at e
  exact e

/-- The same from minus infinity, and once more against minus infinity. -/
theorem max_reduce_max {n0 n1 n2 : ℕ} {u : Shape} (x : (⟨3, ![n0, n1, n2]⟩ : Shape).Idx → EReal) (init : u.Idx → EReal) (y : (⟨2, ![n0, n1]⟩ : Shape).Idx → EReal)
    (h : (⟨3, ![n0, n1, n2]⟩ : Shape).ReducesTo [2] ⟨2, ![n0, n1]⟩) (hu : 0 < u.numel) (a : Fin n0) (b : Fin n1)
    (hi : ∀ k, init k = ⊥) (hy : ∀ k, y k = ⊥) :
    maximumf (F := Ideal) (φ := .f32) y (Host.reduce (FloatOps.maximumf (F := Ideal) (φ := .f32)) x init h hu) (ix2 a b)
      = max ⊥ (Finset.univ.fold max ⊥ fun k : Fin n2 => x (ix3 a b k)) := by
  show max (y (ix2 a b)) (Host.reduce (FloatOps.maximumf (F := Ideal) (φ := .f32)) x init h hu (ix2 a b)) = _
  rw [hy, reduce_max, hi]

theorem tops_apply (h : Fin 16) (t : Fin 8192) : tops Q K C (ix2 h t) = max ⊥ (Finset.univ.fold max ⊥ fun n => logits Q K C (ix3 h t n)) := by
  unfold tops
  exact max_reduce_max (logits Q K C) _ _ reducesTo_S16x8192x8192_S16x8192_d2 h_S_ h t (fun _ => bot_bits) (fun _ => bot_bits)

theorem exps_apply (h : Fin 16) (t n : Fin 8192) : exps Q K C (ix3 h t n) = Ideal.exp (logits Q K C (ix3 h t n) - tops Q K C (ix2 h t)) := by
  pointwise [exps]

theorem probs_apply (h : Fin 16) (t n : Fin 8192) : probs Q K C (ix3 h t n) = Ideal.div (exps Q K C (ix3 h t n)) (∑ j, exps Q K C (ix3 h t j)) := by
  pointwise [probs]

theorem out_apply (h : Fin 16) (t : Fin 8192) (d : Fin 128) : out Q K W C (ix2 t (col h d)) = ∑ n, W (ix2 n (col h d)) * probs Q K C (ix3 h t n) := by
  pointwise [out]
  have e : ∀ p, (⟨(col h d).val / 128, p⟩ : Fin 16) = h := fun p => Fin.ext (by simp only [col]; omega)
  simp only [e]

/-- A sum over the keys with the later ones struck out is a sum over the keys up to the query. -/
theorem sum_causal (f : ℕ → ℝ) (t : Fin 8192) : ∑ n : Fin 8192, (if n.val ≤ t.val then f n.val else 0) = ∑ n ∈ Finset.range (t.val + 1), f n := by
  rw [Fin.sum_univ_eq_sum_range (fun n => if n ≤ t.val then f n else 0) 8192, ← Finset.sum_filter]
  refine Finset.sum_congr (Finset.ext fun n => ?_) fun _ _ => rfl
  simp only [Finset.mem_filter, Finset.mem_range]
  omega

variable (q k v : S8192x2048.Idx → ℝ) (g : S8192x16.Idx → ℝ)

/-- On finite arguments the reference's result is the attention's entries. -/
theorem out_eq (hq : ∀ i, Q i = (q i : EReal)) (hk : ∀ i, K i = (k i : EReal)) (hv : ∀ i, W i = (v i : EReal)) (hg : ∀ i, C i = (g i : EReal)) :
    out Q K W C = KernelIdeal.Hand.outArr q k v g := by
  funext i
  obtain ⟨t, e, rfl⟩ : ∃ (t : Fin 8192) (e : Fin 2048), i = ix2 t e := ⟨i 0, i 1, eq_ix2 i⟩
  obtain ⟨h, d, rfl⟩ : ∃ (h : Fin 16) (d : Fin 128), e = col h d :=
    ⟨⟨e.val / 128, by omega⟩, ⟨e.val % 128, by omega⟩, Fin.ext (by simp only [col]; omega)⟩
  rw [KernelIdeal.Hand.outArr_at q k v g _ h t.val d rfl rfl, out_apply]
  have hl : ∀ n : Fin 8192, logits Q K C (ix3 h t n) = if n.val ≤ t.val then ((logit q k g h t.val n.val : ℝ) : EReal) else ⊥ := fun n => by
    rw [logits_apply]
    refine if_congr Iff.rfl ?_ rfl
    simp only [hq, hk, hg, scale_eq, ← EReal.coe_mul, ← coe_sum, ← EReal.coe_add, ← EReal.coe_sub]
    unfold logit row gate
    simp only [t.isLt, n.isLt, dif_pos]
  have hs := softmax_eq (fun n : Fin 8192 => logits Q K C (ix3 h t n)) (fun n => if n.val ≤ t.val then Real.exp (logit q k g h t.val n.val) else 0)
    (fun n => row v n.val (col h d)) (fun n => by
      simp only [hl]
      by_cases hn : n.val ≤ t.val
      · rw [if_pos hn, if_pos hn]; exact Or.inr ⟨_, rfl, rfl⟩
      · rw [if_neg hn, if_neg hn]; exact Or.inl ⟨rfl, rfl⟩)
    ⟨t, by simp only [hl]; rw [if_pos le_rfl]; exact EReal.coe_ne_bot _⟩
    (by rw [sum_causal (fun n => Real.exp (logit q k g h t.val n)) t]; exact Finset.sum_pos (fun n _ => Real.exp_pos _) ⟨0, by simp⟩)
    (tops_apply Q K C h t)
  have hw : (∑ n : Fin 8192, (if n.val ≤ t.val then Real.exp (logit q k g h t.val n.val) else 0) * row v n.val (col h d))
      = ∑ n ∈ Finset.range (t.val + 1), Real.exp (logit q k g h t.val n) * row v n (col h d) := by
    rw [← sum_causal (fun n => Real.exp (logit q k g h t.val n) * row v n (col h d)) t]
    exact Finset.sum_congr rfl fun n _ => by split_ifs <;> simp
  rw [sum_causal (fun n => Real.exp (logit q k g h t.val n)) t, hw] at hs
  refine Eq.trans (Finset.sum_congr rfl fun n _ => ?_) hs
  rw [probs_apply, exps_apply]
  simp only [exps_apply]
  congr 1
  rw [hv]
  unfold row
  rw [dif_pos n.isLt]

end Cert.ReferenceIdeal.Hand

end
-- ==== Proof.Flash.Claims.lean ====
/-
  The claims about the attention program: the arguments the precondition admits are real numbers, and on real numbers the
  kernel's output array and the reference's result are one array.
-/
module

public import proofs.«01_k».proof.Defs
public import proofs.«01_k».proof.Proof.Flash.KernelFrame
public import proofs.«01_k».proof.Proof.Flash.Ref
public import proofs.«01_k».proof.Proof.Gen.Pre_finite
public import Idealize.ShloMosaic.Lib.Quiescent

@[expose] public section

noncomputable section

namespace Cert.Flash

open Idealize.ShloMosaic Idealize.ShloMosaic.TcCoe Idealize.SL.Sem

/-- A value whose absolute value is below infinity is a real number. -/
theorem real_of_abs_lt (x : EReal) (h : FloatOps.cmpf (F := Ideal) (φ := .f32) .olt (FloatOps.hostAbsf (F := Ideal) (φ := .f32) x) (Ideal.ofBits .f32 0x7F800000#32) = 1#1) :
    ∃ r : ℝ, x = (r : EReal) := by
  have ht : Ideal.ofBits .f32 0x7F800000#32 = (⊤ : EReal) := by simp [Ideal.ofBits, Ideal.ieee]
  rw [ht] at h
  have h2 : ∀ y : EReal, FloatOps.cmpf (F := Ideal) (φ := .f32) .olt y (⊤ : EReal) = 1#1 → y < ⊤ := fun y hy => by
    by_contra hn
    have : FloatOps.cmpf (F := Ideal) (φ := .f32) .olt y (⊤ : EReal) = BitVec.ofBool (decide (y < ⊤)) := rfl
    rw [this, decide_eq_false hn] at hy
    exact absurd hy (by decide)
  have h3 := h2 _ h
  induction x using EReal.rec with
  | bot => exact absurd h3 (by simp [FloatOps.hostAbsf])
  | top => exact absurd h3 (by simp [FloatOps.hostAbsf])
  | coe r => exact ⟨r, rfl⟩

section pre
variable (m : (ℓ : Loc KernelIdeal.nD KernelIdeal.τ KernelIdeal.sig) → Buf (Elt Ideal) ℓ) (h : Cert.Pre_KernelIdeal_finite m) (c : Dev KernelIdeal.nD)
include h

theorem real_q : ∃ q : KernelIdeal.S8192x2048.Idx → ℝ, ∀ i, KernelIdeal.Hand.argQ m c i = (q i : EReal) :=
  Classical.skolem.1 fun i => real_of_abs_lt _ (congrFun (h c).1 i)
theorem real_k : ∃ q : KernelIdeal.S8192x2048.Idx → ℝ, ∀ i, KernelIdeal.Hand.argK m c i = (q i : EReal) :=
  Classical.skolem.1 fun i => real_of_abs_lt _ (congrFun (h c).2.1 i)
theorem real_v : ∃ q : KernelIdeal.S8192x2048.Idx → ℝ, ∀ i, KernelIdeal.Hand.argV m c i = (q i : EReal) :=
  Classical.skolem.1 fun i => real_of_abs_lt _ (congrFun (h c).2.2.1 i)
theorem real_c : ∃ q : KernelIdeal.S8192x16.Idx → ℝ, ∀ i, KernelIdeal.Hand.argC m c i = (q i : EReal) :=
  Classical.skolem.1 fun i => real_of_abs_lt _ (congrFun (h c).2.2.2 i)

end pre

theorem frame_kernel : Cert.quiescent_Kernel := fun m g _ => Cert.Kernel.Hand.quiescent m g

theorem frame_ideal : Cert.quiescent_KernelIdeal := fun m g _ => Cert.KernelIdeal.Hand.quiescent m g

theorem frame_ideal_pre : Cert.quiescent_KernelIdeal_pre_finite := fun m g _ => Cert.KernelIdeal.Hand.quiescent m g

theorem frame_ref : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

theorem frame_ref_pre : Cert.quiescent_ReferenceIdeal_pre_finite := fun m g _ => frame_ref m g trivial

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite := by
  intro m g m' g' hpre hagree
  refine ⟨fun c => (KernelIdeal.Hand.dats m 0 c).arrAt 4 KernelIdeal.cfg0.N, ?_, ?_⟩
  · refine (θ_run _ _ _).mono (fun r h c => ⟨(h.1 c).1 4,
        ((h.1 c).2 KernelIdeal.main_arg0 (Pipeline.mem_restRefs_of KernelIdeal.main_arg0 (by decide) (by decide))).trans (KernelIdeal.Gen.V_main_arg0 m c),
        ((h.1 c).2 KernelIdeal.main_arg1 (Pipeline.mem_restRefs_of KernelIdeal.main_arg1 (by decide) (by decide))).trans (KernelIdeal.Gen.V_main_arg1 m c),
        ((h.1 c).2 KernelIdeal.main_arg2 (Pipeline.mem_restRefs_of KernelIdeal.main_arg2 (by decide) (by decide))).trans (KernelIdeal.Gen.V_main_arg2 m c),
        ((h.1 c).2 KernelIdeal.main_arg3 (Pipeline.mem_restRefs_of KernelIdeal.main_arg3 (by decide) (by decide))).trans (KernelIdeal.Gen.V_main_arg3 m c)⟩) (KernelIdeal.Hand.run_main m g)
  · refine (θ_run _ _ _).mono (fun r h c => ⟨(h c).1.trans ?_, (h c).2⟩) (Cert.ReferenceIdeal.Value.run m' g')
    obtain ⟨q, hq⟩ := real_q m hpre c
    obtain ⟨k, hk⟩ := real_k m hpre c
    obtain ⟨v, hv⟩ := real_v m hpre c
    obtain ⟨w, hw⟩ := real_c m hpre c
    refine (ReferenceIdeal.Hand.res_eq m' c).trans ?_
    rw [(hagree c).1, (hagree c).2.1, (hagree c).2.2.1, (hagree c).2.2.2]
    exact (ReferenceIdeal.Hand.out_eq _ _ _ _ q k v w hq hk hv hw).trans (KernelIdeal.Hand.arr_eq m c q k v w hq hk hv hw).symm

end Cert.Flash

end
-- ==== Proof.InProj.Norm.lean ====
/-
  The root-mean-square norm of a row of 2048 numbers, with a gain per number, over the extended reals.
-/
module

public import Idealize.ShloMosaic.PureOps.Ideal

@[expose] public section

noncomputable section

namespace Cert.Norm

open Idealize.ShloMosaic

/-- Entry `k` of the row `x` over the root of its mean square, times the gain `g k`. -/
def normed (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- The normed row's product with a column of weights. -/
def proj (x g w : Fin 2048 → EReal) : EReal := ∑ k : Fin 2048, normed x g k * w k

/-- One of the first 6144 of the 6160 columns of the attention's weights. -/
abbrev col (n : Fin 6144) : Fin 6160 := ⟨n.val, by omega⟩

/-- The weights' column behind column `n` of the projected queries: the heads' first halves stand before their second halves. -/
abbrev head (n : Fin 2048) : Fin 2048 := ⟨n.val / 128 % 8 * 256 + n.val / 1024 * 128 + n.val % 128, by omega⟩

/-- Entry `k` of a head's row `x` over the root of its mean square, times the gain `g k`. -/
def headNormed (x g : Fin 128 → EReal) (k : Fin 128) : EReal :=
  x k * Ideal.rsqrt (Ideal.div (∑ j : Fin 128, x j * x j) (Ideal.ofBits .f32 0x43000000#32) + Ideal.ofBits .f32 0x358637BD#32) * g k

end Cert.Norm

end
-- ==== Proof.InProj.Kernel.lean ====
/-
  The projection with the norm in front: the normed rows that the kernel keeps from a row of blocks' first column on, the
  product that each grid point stores, and the array that the run leaves.
-/
module

public import proofs.«01_k».proof.Proof.Gen.Kernel2Ideal.Value
public import proofs.«01_k».proof.Proof.InProj.Norm
public import Idealize.ShloMosaic.Lib.Pointwise
public import Idealize.ShloMosaic.Lib.Pipeline.ValueKit
public import Idealize.ShloMosaic.Lib.Pipeline.Covers

@[expose] public section

noncomputable section

namespace Cert.Kernel2Ideal.Hand

open Cert.Kernel2Ideal Cert.Kernel2Ideal.Gen
open Idealize.ShloMosaic Idealize.ShloMosaic.TcCoe Idealize.ShloMosaic.Pointwise Idealize.SL.Sem

set_option maxRecDepth 16384

section words
variable {F : FTy → Type} [FloatOps F]

theorem hz : (![0, 0] : Fin 2 → Nat) = fun _ => 0 := funext fun a => by fin_cases a <;> rfl

variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x2048 .bf16) (h6 : a6.IsWhole)
  (x : Vec F S1024x2048 .f32) (g : Vec F S1x2048 .f32) (w : Vec F S2048x1024 .bf16) (n : Vec F S1024x2048 .bf16)

/-- In the first column of blocks the scratch ends with the normed rows. -/
theorem scratch_A (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- … and the output block is their product with the weights' block. -/
theorem out_A (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero hz, View.readCov_unit_zero (S := S1024x2048) _ hz]
  simp only [View.readAt_eq_ld, h2.read_unread, h3.read_unread, h4.read_unread, View.ld_unit_zero (S := S1024x2048) hz, View.ld_unit_zero (S := S1x2048) hz,
    View.ld_unit_zero (S := S2048x1024) hz]

/-- In the other columns the output block is the kept rows' product with the weights' block. -/
theorem out_B (hc : ¬cond0_0 i) : out0_B_3 c i a2 h2 a3 h3 a4 h4 a5 h5 a6 h6 hc x g w n = k0_pay2 n w := by
  unfold out0_B_3
  rw [View.read_writes_eq_canon _ _ _ (cover0_B_3 c i a2 h2 a3 h3 a4 h4 a5 h5 a6 h6 hc x g w n)]
  unfold kernelRun0_B
  dsimp only
  rw [View.canon_unit_zero hz]
  simp only [View.readAt_eq_ld, h4.read_unread, h6.read_unread, View.ld_unit_zero (S := S1024x2048) hz, View.ld_unit_zero (S := S2048x1024) hz]

end words

section values
variable (m : (ℓ : Loc nD τ sig) → Buf (Elt Ideal) ℓ) (c : Dev nD)

theorem idx0 (t : Fin cfg0.N) : win0_0.index t = ![t.val / 4, 0] := by
  revert t; decide +kernel
theorem idx1 (t : Fin cfg0.N) : win0_1.index t = ![0, 0] := by
  revert t; decide +kernel
theorem idx2 (t : Fin cfg0.N) : win0_2.index t = ![0, t.val % 4] := by
  revert t; decide +kernel
theorem idx3 (t : Fin cfg0.N) : win0_3.index t = ![t.val / 4, t.val % 4] := by
  revert t; decide +kernel

theorem point_lt (t : Fin cfg0.N) : t.val < 32 := lt_of_lt_of_eq t.isLt (show cfg0.N = 32 from N_0)

/-- The arguments as functions of their indices. -/
abbrev argX : S8192x2048.Idx → EReal := m ((c : Thread nD τ).loc main_arg0)
abbrev argG : S2048.Idx → EReal := m ((c : Thread nD τ).loc main_arg1)
abbrev argW : S1x2048x4096.Idx → EReal := m ((c : Thread nD τ).loc main_arg2)

theorem entry_w (k : Fin 2048) (n : Fin 4096) : (V m c main_v1 : S2048x4096.Idx → EReal) (ix2 k n) = argW m c (ix3 0 k n) := by
  entry_read
  pointwise

theorem entry_g (k : Fin 2048) : (V m c main_v2 : S1x2048.Idx → EReal) (ix2 0 k) = argG m c (ix1 k) := by
  entry_read
  pointwise

theorem entry_x : (V m c main_arg0 : S8192x2048.Idx → EReal) = argX m c := V_main_arg0 m c

theorem iblk_x (t : Fin cfg0.N) (r : Fin 1024) (k : Fin 2048) (h) : (iblk m c 0 t : S1024x2048.Idx → EReal) (ix2 r k)
    = argX m c (ix2 ⟨1024 * (t.val / 4) + r.val, h⟩ k) := by
  rw [← entry_x]
  blk_ext [iblk, idx0 t]

theorem iblk_g (t : Fin cfg0.N) (k : Fin 2048) : (iblk m c 1 t : S1x2048.Idx → EReal) (ix2 0 k) = argG m c (ix1 k) := by
  rw [← entry_g]
  blk_ext [iblk, idx1 t]

theorem iblk_w (t : Fin cfg0.N) (k : Fin 2048) (n : Fin 1024) (h) : (iblk m c 2 t : S2048x1024.Idx → EReal) (ix2 k n)
    = argW m c (ix3 0 k ⟨1024 * (t.val % 4) + n.val, h⟩) := by
  rw [← entry_w]
  blk_ext [iblk, idx2 t]

theorem pay1_apply (x : S1024x2048.Idx → EReal) (g : S1x2048.Idx → EReal) (r : Fin 1024) (k : Fin 2048) :
    k0_pay1 (F := Ideal) x g (ix2 r k) = Norm.normed (fun j => x (ix2 r j)) (fun j => g (ix2 0 j)) k := by
  pointwise [k0_pay1]
  rfl

theorem pay2_apply (n : S1024x2048.Idx → EReal) (w : S2048x1024.Idx → EReal) (r e : Fin 1024) :
    k0_pay2 (F := Ideal) n w (ix2 r e) = ∑ k : Fin 2048, n (ix2 r k) * w (ix2 k e) := by
  pointwise [k0_pay2]

/-- The product that a point of the grid stores, when the scratch holds `n`. -/
abbrev prodAt (t : Fin cfg0.N) (n : S1024x2048.Idx → EReal) : S1024x1024.Idx → EReal := k0_pay2 (F := Ideal) n (iblk m c 2 t : S2048x1024.Idx → EReal)

/-- The normed rows of a point's row of blocks. -/
abbrev rowsAt (t : Fin cfg0.N) : S1024x2048.Idx → EReal := k0_pay1 (F := Ideal) (iblk m c 0 t : S1024x2048.Idx → EReal) (iblk m c 1 t : S1x2048.Idx → EReal)

theorem point_A (t : Fin cfg0.N) (h0 : t.val % 4 = 0) : outsAt0 m c t.val t.isLt = (prodAt m c t (rowsAt m c t), rowsAt m c t) := by
  rw [outsAt0_A m c t h0, out_A, scratch_A]

theorem point_B (t : Fin cfg0.N) (h0 : ¬t.val % 4 = 0) (n : S1024x2048.Idx → EReal)
    (hn : (outsAt0 m c (t.val - 1) (Nat.lt_of_le_of_lt (Nat.sub_le _ _) t.isLt)).2 = n) : outsAt0 m c t.val t.isLt = (prodAt m c t n, n) := by
  rw [outsAt0_B m c t h0, out_B, hn]
  unfold sout0_B_0
  rfl

/-- The points of one row of blocks read the same rows and the same gain. -/
theorem rows_eq (s t : Fin cfg0.N) (e : s.val / 4 = t.val / 4) : rowsAt m c s = rowsAt m c t := by
  have hs := point_lt s
  have ht := point_lt t
  funext i
  obtain ⟨r, k, rfl⟩ : ∃ (r : Fin 1024) (k : Fin 2048), i = ix2 r k := ⟨i 0, i 1, eq_ix2 i⟩
  unfold rowsAt
  rw [pay1_apply, pay1_apply]
  simp only [iblk_x m c s r _ (show 1024 * (s.val / 4) + r.val < 8192 by omega), iblk_x m c t r _ (show 1024 * (t.val / 4) + r.val < 8192 by omega), iblk_g, e]

/-- After every point the scratch holds the normed rows of the point's row of blocks, and the output block their product with
    the weights' block. -/
theorem point (t : ℕ) : ∀ h : t < cfg0.N, outsAt0 m c t h = (prodAt m c ⟨t, h⟩ (rowsAt m c ⟨t, h⟩), rowsAt m c ⟨t, h⟩) := by
  induction t with
  | zero => exact fun h => point_A m c ⟨0, h⟩ rfl
  | succ n ih =>
    intro h
    by_cases h0 : (n + 1) % 4 = 0
    · exact point_A m c ⟨n + 1, h⟩ h0
    · refine point_B m c ⟨n + 1, h⟩ h0 _ ?_
      have e : outsAt0 m c ((⟨n + 1, h⟩ : Fin cfg0.N).val - 1) (Nat.lt_of_le_of_lt (Nat.sub_le _ _) h) = _ := ih (Nat.lt_of_succ_lt h)
      rw [e]
      refine rows_eq m c _ _ ?_
      show n / 4 = (n + 1) / 4
      omega

/-- The projection: the normed rows against the columns of the weights. -/
def outArr (X : S8192x2048.Idx → EReal) (G : S2048.Idx → EReal) (W : S1x2048x4096.Idx → EReal) : S8192x4096.Idx → EReal := fun i =>
  Norm.proj (fun k => X (ix2 (i 0) k)) (fun k => G (ix1 k)) (fun k => W (ix3 0 k (i 1)))

/-- What the run leaves in the output array. -/
theorem arr_eq : (dats m 0 c).arrAt 3 cfg0.N = outArr (argX m c) (argG m c) (argW m c) := by
  refine (dats m 0 c).arrAt_eq_of_covers 3 _ (by decide +kernel) fun t hf y => ?_
  have hN := point_lt t
  obtain ⟨r, e, rfl⟩ : ∃ (r : Fin 1024) (e : Fin 1024), y = ix2 r e := ⟨y 0, y 1, eq_ix2 y⟩
  have e0 : (win0_3.blk t).view.emb (ix2 r e) 0 = (⟨1024 * (t.val / 4) + r.val, by omega⟩ : Fin 8192) := Fin.ext (by
    show (win0_3.index t 0) * 1024 + 1 * r.val = _
    rw [idx3]; simp; omega)
  have e1 : (win0_3.blk t).view.emb (ix2 r e) 1 = (⟨1024 * (t.val % 4) + e.val, by omega⟩ : Fin 4096) := Fin.ext (by
    show (win0_3.index t 1) * 1024 + 1 * e.val = _
    rw [idx3]; simp; omega)
  have ha : ((dats m 0 c).after 3 t : S1024x1024.Idx → EReal) = prodAt m c t (rowsAt m c t) := by
    rw [after0_3, point]
  refine (congrFun ha (ix2 r e)).trans ?_
  show prodAt m c t (rowsAt m c t) (ix2 r e) = outArr _ _ _ ((win0_3.blk t).view.emb (ix2 r e))
  unfold prodAt rowsAt
  unfold outArr
  rw [e0, e1, pay2_apply]
  unfold Norm.proj
  refine Finset.sum_congr rfl fun k _ => ?_
  rw [pay1_apply, iblk_w m c t k e (show 1024 * (t.val % 4) + e.val < 4096 by omega)]
  simp only [iblk_x m c t r _ (show 1024 * (t.val / 4) + r.val < 8192 by omega), iblk_g]

end values

end Cert.Kernel2Ideal.Hand

end
-- ==== Proof.InProj.Claims.lean ====
/-
  The claims about the projection with the norm in front.
-/
module

public import proofs.«01_k».proof.Defs
public import proofs.«01_k».proof.Proof.InProj.Kernel
public import proofs.«01_k».proof.Proof.Gen.Kernel2.Frame
public import proofs.«01_k».proof.Proof.Gen.Reference2Ideal.Run
public import Idealize.ShloMosaic.Lib.Quiescent

@[expose] public section

noncomputable section

namespace Cert.Reference2Ideal.Hand

open Cert.Reference2Ideal Cert.Reference2Ideal.Gen
open Idealize.ShloMosaic Idealize.ShloMosaic.TcCoe Idealize.ShloMosaic.Pointwise Idealize.SL.Sem

set_option maxRecDepth 16384

variable (X : S8192x2048.Idx → EReal) (G : S2048.Idx → EReal) (W : S1x2048x4096.Idx → EReal)

/-- The normed rows. -/
def rows : S8192x2048.Idx → EReal :=
  mulf (F := Ideal) (φ := .f32) (mulf X (broadcastInDim S8192x2048 ![0, 1] bcast_S8192x1_S8192x2048_0_1 (Host.rsqrt (addf (Host.divf (broadcastInDim S8192x1 ![0] bcast_S8192_S8192x1_0 (Host.reduceAdd (F := Ideal) (φ := .f32) (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))

/-- The result. -/
def out : S8192x4096.Idx → EReal :=
  Host.dotGeneral (F := Ideal) (φ₁ := .f32) (φ₂ := .f32) dot_S8192x2048_S2048x4096_S8192x4096_1_0_0_1_n_n none (rows X G) (shapeCast _ W shapeCasts_S1x2048x4096_S2048x4096)

theorem rows_apply (r : Fin 8192) (k : Fin 2048) : rows X G (ix2 r k) = Norm.normed (fun j => X (ix2 r j)) (fun j => G (ix1 j)) k := by
  pointwise [rows]
  rfl

theorem out_apply (r : Fin 8192) (e : Fin 4096) : out X G W (ix2 r e) = ∑ k : Fin 2048, rows X G (ix2 r k) * W (ix3 0 k e) := by
  pointwise [out]

theorem out_eq : out X G W = Kernel2Ideal.Hand.outArr X G W := by
  funext i
  obtain ⟨r, e, rfl⟩ : ∃ (r : Fin 8192) (e : Fin 4096), i = ix2 r e := ⟨i 0, i 1, eq_ix2 i⟩
  rw [out_apply]
  exact Finset.sum_congr rfl fun k _ => congrArg (fun z : EReal => z * W (ix3 0 k e)) (rows_apply X G r k)

end Cert.Reference2Ideal.Hand

namespace Cert.InProj

open Idealize.ShloMosaic Idealize.ShloMosaic.TcCoe Idealize.SL.Sem

theorem frame_kernel : Cert.quiescent_Kernel2 := fun m g _ => Cert.Kernel2.Gen.frame m g

theorem frame_ideal : Cert.quiescent_Kernel2Ideal := fun m g _ => Cert.Kernel2Ideal.Gen.frame m g

theorem frame_ref : Cert.quiescent_Reference2Ideal := fun m g _ =>
  (θ_run Cert.Reference2Ideal.defs _ _).mono (fun r h => ⟨fun c => (h c).2, sem_eq_zero_of_no_sems (by decide) r.2⟩) (Cert.Reference2Ideal.Value.run m g)

theorem preserves : Cert.preserves_Kernel2_Kernel2Ideal := trivial

theorem algebraic : Cert.algebraic_Kernel2Ideal_Reference2Ideal := by
  intro m g m' g' _ hagree
  refine ⟨fun c => (Kernel2Ideal.Gen.dats m 0 c).arrAt 3 Kernel2Ideal.cfg0.N, Kernel2Ideal.Value.run_blocks m g, ?_⟩
  refine (θ_run _ _ _).mono (fun r h c => ⟨(h c).1.trans ?_, (h c).2⟩) (Cert.Reference2Ideal.Value.run m' g')
  rw [(hagree c).1, (hagree c).2.1, (hagree c).2.2]
  exact (Reference2Ideal.Hand.out_eq _ _ _).trans (Kernel2Ideal.Hand.arr_eq m c).symm

end Cert.InProj

end
-- ==== Proof.OutProj.Kernel.lean ====
/-
  The projection with a residual: the block that each grid point stores, and the array that the run leaves.
-/
module

public import proofs.«01_k».proof.Proof.Gen.Kernel3Ideal.Value
public import Idealize.ShloMosaic.Lib.Pointwise
public import Idealize.ShloMosaic.Lib.Pipeline.ValueKit
public import Idealize.ShloMosaic.Lib.Pipeline.Covers

@[expose] public section

noncomputable section

namespace Cert.Kernel3Ideal.Hand

open Cert.Kernel3Ideal Cert.Kernel3Ideal.Gen
open Idealize.ShloMosaic Idealize.ShloMosaic.TcCoe Idealize.ShloMosaic.Pointwise Idealize.SL.Sem

set_option maxRecDepth 16384

theorem hz : (![0, 0] : Fin 2 → Nat) = fun _ => 0 := funext fun a => by fin_cases a <;> rfl

variable (m : (ℓ : Loc nD τ sig) → Buf (Elt Ideal) ℓ) (c : Dev nD)

theorem idx0 (t : Fin cfg0.N) : win0_0.index t = ![t.val / 2, 0] := by
  revert t; decide +kernel
theorem idx1 (t : Fin cfg0.N) : win0_1.index t = ![0, t.val % 2] := by
  revert t; decide +kernel
theorem idx2 (t : Fin cfg0.N) : win0_2.index t = ![t.val / 2, t.val % 2] := by
  revert t; decide +kernel
theorem idx3 (t : Fin cfg0.N) : win0_3.index t = ![t.val / 2, t.val % 2] := by
  revert t; decide +kernel

theorem point_lt (t : Fin cfg0.N) : t.val < 16 := lt_of_lt_of_eq t.isLt (show cfg0.N = 16 from N_0)

/-- The arguments as functions of their indices. -/
abbrev argO : S8192x2048.Idx → EReal := m ((c : Thread nD τ).loc main_arg0)
abbrev argW : S1x2048x2048.Idx → EReal := m ((c : Thread nD τ).loc main_arg1)
abbrev argX : S8192x2048.Idx → EReal := m ((c : Thread nD τ).loc main_arg2)

theorem entry_o (r k) : (V m c main_v0 : S8192x2048.Idx → EReal) (ix2 r k) = argO m c (ix2 r k) := by
  entry_read
  pointwise

theorem entry_w (k e : Fin 2048) : (V m c main_v2 : S2048x2048.Idx → EReal) (ix2 k e) = argW m c (ix3 0 k e) := by
  entry_read
  pointwise

theorem entry_x : (V m c main_arg2 : S8192x2048.Idx → EReal) = argX m c := V_main_arg2 m c

theorem iblk_o (t : Fin cfg0.N) (r : Fin 1024) (k : Fin 2048) (h) : (iblk m c 0 t : S1024x2048.Idx → EReal) (ix2 r k)
    = argO m c (ix2 ⟨1024 * (t.val / 2) + r.val, h⟩ k) := by
  rw [← entry_o]
  blk_ext [iblk, idx0 t]

theorem iblk_w (t : Fin cfg0.N) (k : Fin 2048) (e : Fin 1024) (h) : (iblk m c 1 t : S2048x1024.Idx → EReal) (ix2 k e)
    = argW m c (ix3 0 k ⟨1024 * (t.val % 2) + e.val, h⟩) := by
  rw [← entry_w]
  blk_ext [iblk, idx1 t]

theorem iblk_x (t : Fin cfg0.N) (r e : Fin 1024) (h h') : (iblk m c 2 t : S1024x1024.Idx → EReal) (ix2 r e)
    = argX m c (ix2 ⟨1024 * (t.val / 2) + r.val, h⟩ ⟨1024 * (t.val % 2) + e.val, h'⟩) := by
  rw [← entry_x]
  blk_ext [iblk, idx2 t]

theorem stored (o : Vec Ideal S1024x2048 .bf16) (w : Vec Ideal S2048x1024 .bf16) (x : Vec Ideal S1024x1024 .f32) : out0_3 o w x = k0_pay1 o w x := by
  unfold out0_3
  rw [View.canon_unit_zero hz, View.ld_unit_zero (S := S1024x2048) hz, View.ld_unit_zero (S := S2048x1024) hz, View.ld_unit_zero (S := S1024x1024) hz]

theorem pay1_apply (o : S1024x2048.Idx → EReal) (w : S2048x1024.Idx → EReal) (x : S1024x1024.Idx → EReal) (r e : Fin 1024) :
    k0_pay1 (F := Ideal) o w x (ix2 r e) = (∑ k : Fin 2048, o (ix2 r k) * w (ix2 k e)) + x (ix2 r e) := by
  pointwise [k0_pay1]

/-- The projection: the rows against the columns of the weights, and the residual. -/
def outArr (O : S8192x2048.Idx → EReal) (W : S1x2048x2048.Idx → EReal) (X : S8192x2048.Idx → EReal) : S8192x2048.Idx → EReal := fun i =>
  (∑ k : Fin 2048, O (ix2 (i 0) k) * W (ix3 0 k (i 1))) + X (ix2 (i 0) (i 1))

/-- What the run leaves in the output array. -/
theorem arr_eq : (dats m 0 c).arrAt 3 cfg0.N = outArr (argO m c) (argW m c) (argX m c) := by
  refine (dats m 0 c).arrAt_eq_of_covers 3 _ (by decide +kernel) fun t hf y => ?_
  have hN := point_lt t
  obtain ⟨r, e, rfl⟩ : ∃ (r : Fin 1024) (e : Fin 1024), y = ix2 r e := ⟨y 0, y 1, eq_ix2 y⟩
  have e0 : (win0_3.blk t).view.emb (ix2 r e) 0 = (⟨1024 * (t.val / 2) + r.val, by omega⟩ : Fin 8192) := Fin.ext (by
    show (win0_3.index t 0) * 1024 + 1 * r.val = _
    rw [idx3]; simp; omega)
  have e1 : (win0_3.blk t).view.emb (ix2 r e) 1 = (⟨1024 * (t.val % 2) + e.val, by omega⟩ : Fin 2048) := Fin.ext (by
    show (win0_3.index t 1) * 1024 + 1 * e.val = _
    rw [idx3]; simp; omega)
  have ha : ((dats m 0 c).after 3 t : S1024x1024.Idx → EReal) = k0_pay1 (F := Ideal) (iblk m c 0 t : S1024x2048.Idx → EReal) (iblk m c 1 t : S2048x1024.Idx → EReal) (iblk m c 2 t : S1024x1024.Idx → EReal) := by
    rw [after0_3, stored]
  refine (congrFun ha (ix2 r e)).trans ?_
  show k0_pay1 (F := Ideal) (iblk m c 0 t : S1024x2048.Idx → EReal) (iblk m c 1 t : S2048x1024.Idx → EReal) (iblk m c 2 t : S1024x1024.Idx → EReal) (ix2 r e) = outArr _ _ _ ((win0_3.blk t).view.emb (ix2 r e))
  unfold outArr
  rw [e0, e1, pay1_apply]
  simp only [iblk_o m c t r _ (show 1024 * (t.val / 2) + r.val < 8192 by omega), iblk_w m c t _ e (show 1024 * (t.val % 2) + e.val < 2048 by omega),
    iblk_x m c t r e (show 1024 * (t.val / 2) + r.val < 8192 by omega) (show 1024 * (t.val % 2) + e.val < 2048 by omega)]

end Cert.Kernel3Ideal.Hand

end
-- ==== Proof.OutProj.Claims.lean ====
/-
  The claims about the projection with a residual.
-/
module

public import proofs.«01_k».proof.Defs
public import proofs.«01_k».proof.Proof.OutProj.Kernel
public import proofs.«01_k».proof.Proof.Gen.Kernel3.Frame
public import proofs.«01_k».proof.Proof.Gen.Reference3Ideal.Run
public import Idealize.ShloMosaic.Lib.Quiescent

@[expose] public section

noncomputable section

namespace Cert.Reference3Ideal.Hand

open Cert.Reference3Ideal Cert.Reference3Ideal.Gen
open Idealize.ShloMosaic Idealize.ShloMosaic.TcCoe Idealize.ShloMosaic.Pointwise Idealize.SL.Sem

set_option maxRecDepth 16384

variable (O : S8192x2048.Idx → EReal) (W : S1x2048x2048.Idx → EReal) (X : S8192x2048.Idx → EReal)

/-- The result. -/
def out : S8192x2048.Idx → EReal :=
  addf (F := Ideal) (φ := .f32) X (Host.dotGeneral (F := Ideal) (φ₁ := .f32) (φ₂ := .f32) dot_S8192x2048_S2048x2048_S8192x2048_1_0_0_1_n_n none O (shapeCast _ W shapeCasts_S1x2048x2048_S2048x2048))

theorem out_eq : out O W X = Kernel3Ideal.Hand.outArr O W X := by
  funext i
  obtain ⟨r, e, rfl⟩ : ∃ (r : Fin 8192) (e : Fin 2048), i = ix2 r e := ⟨i 0, i 1, eq_ix2 i⟩
  have h : out O W X (ix2 r e) = X (ix2 r e) + ∑ k : Fin 2048, O (ix2 r k) * W (ix3 0 k e) := by
    pointwise [out]
  exact h.trans (add_comm _ _)

end Cert.Reference3Ideal.Hand

namespace Cert.OutProj

open Idealize.ShloMosaic Idealize.ShloMosaic.TcCoe Idealize.SL.Sem

theorem frame_kernel : Cert.quiescent_Kernel3 := fun m g _ => Cert.Kernel3.Gen.frame m g

theorem frame_ideal : Cert.quiescent_Kernel3Ideal := fun m g _ => Cert.Kernel3Ideal.Gen.frame m g

theorem frame_ref : Cert.quiescent_Reference3Ideal := fun m g _ =>
  (θ_run Cert.Reference3Ideal.defs _ _).mono (fun r h => ⟨fun c => (h c).2, sem_eq_zero_of_no_sems (by decide) r.2⟩) (Cert.Reference3Ideal.Value.run m g)

theorem preserves : Cert.preserves_Kernel3_Kernel3Ideal := trivial

theorem algebraic : Cert.algebraic_Kernel3Ideal_Reference3Ideal := by
  intro m g m' g' _ hagree
  refine ⟨fun c => (Kernel3Ideal.Gen.dats m 0 c).arrAt 3 Kernel3Ideal.cfg0.N, Kernel3Ideal.Value.run_blocks m g, ?_⟩
  refine (θ_run _ _ _).mono (fun r h c => ⟨(h c).1.trans ?_, (h c).2⟩) (Cert.Reference3Ideal.Value.run m' g')
  rw [(hagree c).1, (hagree c).2.1, (hagree c).2.2]
  exact (Reference3Ideal.Hand.out_eq _ _ _).trans (Kernel3Ideal.Hand.arr_eq m c).symm

end Cert.OutProj

end
-- ==== Proof.AttProj.Kernel.lean ====
/-
  The attention's projection of queries, keys and values, with the norm in front: the normed rows that the kernel keeps from a row of blocks' first column on, the
  product that each grid point stores, and the array that the run leaves.
-/
module

public import proofs.«01_k».proof.Proof.Gen.Kernel4Ideal.Value
public import proofs.«01_k».proof.Proof.InProj.Norm
public import Idealize.ShloMosaic.Lib.Pointwise
public import Idealize.ShloMosaic.Lib.Pipeline.ValueKit
public import Idealize.ShloMosaic.Lib.Pipeline.Covers

@[expose] public section

noncomputable section

namespace Cert.Kernel4Ideal.Hand

open Cert.Kernel4Ideal Cert.Kernel4Ideal.Gen
open Idealize.ShloMosaic Idealize.ShloMosaic.TcCoe Idealize.ShloMosaic.Pointwise Idealize.SL.Sem

set_option maxRecDepth 16384

section words
variable {F : FTy → Type} [FloatOps F]

theorem hz : (![0, 0] : Fin 2 → Nat) = fun _ => 0 := funext fun a => by fin_cases a <;> rfl

variable (c : Dev nD) (i : grid0.Coords)
  (a2 : Memref sig .tc .vmem S1024x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x2048 .bf16) (h6 : a6.IsWhole)
  (x : Vec F S1024x2048 .f32) (g : Vec F S1x2048 .f32) (w : Vec F S2048x1024 .bf16) (n : Vec F S1024x2048 .bf16)

/-- In the first column of blocks the scratch ends with the normed rows. -/
theorem scratch_A (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- … and the output block is their product with the weights' block. -/
theorem out_A (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero hz, View.readCov_unit_zero (S := S1024x2048) _ hz]
  simp only [View.readAt_eq_ld, h2.read_unread, h3.read_unread, h4.read_unread, View.ld_unit_zero (S := S1024x2048) hz, View.ld_unit_zero (S := S1x2048) hz,
    View.ld_unit_zero (S := S2048x1024) hz]

/-- In the other columns the output block is the kept rows' product with the weights' block. -/
theorem out_B (hc : ¬cond0_0 i) : out0_B_3 c i a2 h2 a3 h3 a4 h4 a5 h5 a6 h6 hc x g w n = k0_pay2 n w := by
  unfold out0_B_3
  rw [View.read_writes_eq_canon _ _ _ (cover0_B_3 c i a2 h2 a3 h3 a4 h4 a5 h5 a6 h6 hc x g w n)]
  unfold kernelRun0_B
  dsimp only
  rw [View.canon_unit_zero hz]
  simp only [View.readAt_eq_ld, h4.read_unread, h6.read_unread, View.ld_unit_zero (S := S1024x2048) hz, View.ld_unit_zero (S := S2048x1024) hz]

end words

section values
variable (m : (ℓ : Loc nD τ sig) → Buf (Elt Ideal) ℓ) (c : Dev nD)

theorem idx0 (t : Fin cfg0.N) : win0_0.index t = ![t.val / 6, 0] := by
  revert t; decide +kernel
theorem idx1 (t : Fin cfg0.N) : win0_1.index t = ![0, 0] := by
  revert t; decide +kernel
theorem idx2 (t : Fin cfg0.N) : win0_2.index t = ![0, t.val % 6] := by
  revert t; decide +kernel
theorem idx3 (t : Fin cfg0.N) : win0_3.index t = ![t.val / 6, t.val % 6] := by
  revert t; decide +kernel

theorem point_lt (t : Fin cfg0.N) : t.val < 48 := lt_of_lt_of_eq t.isLt (show cfg0.N = 48 from N_0)

/-- The arguments as functions of their indices. -/
abbrev argX : S8192x2048.Idx → EReal := m ((c : Thread nD τ).loc main_arg0)
abbrev argG : S2048.Idx → EReal := m ((c : Thread nD τ).loc main_arg1)
abbrev argW : S1x2048x6160.Idx → EReal := m ((c : Thread nD τ).loc main_arg2)

theorem entry_w (k : Fin 2048) (n : Fin 6144) : (V m c main_v2 : S2048x6144.Idx → EReal) (ix2 k n) = argW m c (ix3 0 k (Norm.col n)) := by
  entry_read
  pointwise

theorem entry_g (k : Fin 2048) : (V m c main_v3 : S1x2048.Idx → EReal) (ix2 0 k) = argG m c (ix1 k) := by
  entry_read
  pointwise

theorem entry_x : (V m c main_arg0 : S8192x2048.Idx → EReal) = argX m c := V_main_arg0 m c

theorem iblk_x (t : Fin cfg0.N) (r : Fin 1024) (k : Fin 2048) (h) : (iblk m c 0 t : S1024x2048.Idx → EReal) (ix2 r k)
    = argX m c (ix2 ⟨1024 * (t.val / 6) + r.val, h⟩ k) := by
  rw [← entry_x]
  blk_ext [iblk, idx0 t]

theorem iblk_g (t : Fin cfg0.N) (k : Fin 2048) : (iblk m c 1 t : S1x2048.Idx → EReal) (ix2 0 k) = argG m c (ix1 k) := by
  rw [← entry_g]
  blk_ext [iblk, idx1 t]

theorem iblk_w (t : Fin cfg0.N) (k : Fin 2048) (n : Fin 1024) (h) : (iblk m c 2 t : S2048x1024.Idx → EReal) (ix2 k n)
    = argW m c (ix3 0 k (Norm.col (⟨1024 * (t.val % 6) + n.val, h⟩ : Fin 6144))) := by
  rw [← entry_w]
  blk_ext [iblk, idx2 t]

theorem pay1_apply (x : S1024x2048.Idx → EReal) (g : S1x2048.Idx → EReal) (r : Fin 1024) (k : Fin 2048) :
    k0_pay1 (F := Ideal) x g (ix2 r k) = Norm.normed (fun j => x (ix2 r j)) (fun j => g (ix2 0 j)) k := by
  pointwise [k0_pay1]
  rfl

theorem pay2_apply (n : S1024x2048.Idx → EReal) (w : S2048x1024.Idx → EReal) (r e : Fin 1024) :
    k0_pay2 (F := Ideal) n w (ix2 r e) = ∑ k : Fin 2048, n (ix2 r k) * w (ix2 k e) := by
  pointwise [k0_pay2]

/-- The product that a point of the grid stores, when the scratch holds `n`. -/
abbrev prodAt (t : Fin cfg0.N) (n : S1024x2048.Idx → EReal) : S1024x1024.Idx → EReal := k0_pay2 (F := Ideal) n (iblk m c 2 t : S2048x1024.Idx → EReal)

/-- The normed rows of a point's row of blocks. -/
abbrev rowsAt (t : Fin cfg0.N) : S1024x2048.Idx → EReal := k0_pay1 (F := Ideal) (iblk m c 0 t : S1024x2048.Idx → EReal) (iblk m c 1 t : S1x2048.Idx → EReal)

theorem point_A (t : Fin cfg0.N) (h0 : t.val % 6 = 0) : outsAt0 m c t.val t.isLt = (prodAt m c t (rowsAt m c t), rowsAt m c t) := by
  rw [outsAt0_A m c t h0, out_A, scratch_A]

theorem point_B (t : Fin cfg0.N) (h0 : ¬t.val % 6 = 0) (n : S1024x2048.Idx → EReal)
    (hn : (outsAt0 m c (t.val - 1) (Nat.lt_of_le_of_lt (Nat.sub_le _ _) t.isLt)).2 = n) : outsAt0 m c t.val t.isLt = (prodAt m c t n, n) := by
  rw [outsAt0_B m c t h0, out_B, hn]
  unfold sout0_B_0
  rfl

/-- The points of one row of blocks read the same rows and the same gain. -/
theorem rows_eq (s t : Fin cfg0.N) (e : s.val / 6 = t.val / 6) : rowsAt m c s = rowsAt m c t := by
  have hs := point_lt s
  have ht := point_lt t
  funext i
  obtain ⟨r, k, rfl⟩ : ∃ (r : Fin 1024) (k : Fin 2048), i = ix2 r k := ⟨i 0, i 1, eq_ix2 i⟩
  unfold rowsAt
  rw [pay1_apply, pay1_apply]
  simp only [iblk_x m c s r _ (show 1024 * (s.val / 6) + r.val < 8192 by omega), iblk_x m c t r _ (show 1024 * (t.val / 6) + r.val < 8192 by omega), iblk_g, e]

/-- After every point the scratch holds the normed rows of the point's row of blocks, and the output block their product with
    the weights' block. -/
theorem point (t : ℕ) : ∀ h : t < cfg0.N, outsAt0 m c t h = (prodAt m c ⟨t, h⟩ (rowsAt m c ⟨t, h⟩), rowsAt m c ⟨t, h⟩) := by
  induction t with
  | zero => exact fun h => point_A m c ⟨0, h⟩ rfl
  | succ n ih =>
    intro h
    by_cases h0 : (n + 1) % 6 = 0
    · exact point_A m c ⟨n + 1, h⟩ h0
    · refine point_B m c ⟨n + 1, h⟩ h0 _ ?_
      have e : outsAt0 m c ((⟨n + 1, h⟩ : Fin cfg0.N).val - 1) (Nat.lt_of_le_of_lt (Nat.sub_le _ _) h) = _ := ih (Nat.lt_of_succ_lt h)
      rw [e]
      refine rows_eq m c _ _ ?_
      show n / 6 = (n + 1) / 6
      omega

/-- The projection: the normed rows against the weights' first 6144 columns. -/
def outArr (X : S8192x2048.Idx → EReal) (G : S2048.Idx → EReal) (W : S1x2048x6160.Idx → EReal) : S8192x6144.Idx → EReal := fun i =>
  Norm.proj (fun k => X (ix2 (i 0) k)) (fun k => G (ix1 k)) (fun k => W (ix3 0 k (Norm.col (i 1 : Fin 6144))))

/-- What the run leaves in the output array. -/
theorem arr_eq : (dats m 0 c).arrAt 3 cfg0.N = outArr (argX m c) (argG m c) (argW m c) := by
  refine (dats m 0 c).arrAt_eq_of_covers 3 _ (by decide +kernel) fun t hf y => ?_
  have hN := point_lt t
  obtain ⟨r, e, rfl⟩ : ∃ (r : Fin 1024) (e : Fin 1024), y = ix2 r e := ⟨y 0, y 1, eq_ix2 y⟩
  have e0 : (win0_3.blk t).view.emb (ix2 r e) 0 = (⟨1024 * (t.val / 6) + r.val, by omega⟩ : Fin 8192) := Fin.ext (by
    show (win0_3.index t 0) * 1024 + 1 * r.val = _
    rw [idx3]; simp; omega)
  have e1 : (win0_3.blk t).view.emb (ix2 r e) 1 = (⟨1024 * (t.val % 6) + e.val, by omega⟩ : Fin 6144) := Fin.ext (by
    show (win0_3.index t 1) * 1024 + 1 * e.val = _
    rw [idx3]; simp; omega)
  have ha : ((dats m 0 c).after 3 t : S1024x1024.Idx → EReal) = prodAt m c t (rowsAt m c t) := by
    rw [after0_3, point]
  refine (congrFun ha (ix2 r e)).trans ?_
  show prodAt m c t (rowsAt m c t) (ix2 r e) = outArr _ _ _ ((win0_3.blk t).view.emb (ix2 r e))
  unfold prodAt rowsAt
  unfold outArr
  rw [e0, e1, pay2_apply]
  unfold Norm.proj
  refine Finset.sum_congr rfl fun k _ => ?_
  rw [pay1_apply, iblk_w m c t k e (show 1024 * (t.val % 6) + e.val < 6144 by omega)]
  simp only [iblk_x m c t r _ (show 1024 * (t.val / 6) + r.val < 8192 by omega), iblk_g]

end values

end Cert.Kernel4Ideal.Hand

end
-- ==== Proof.AttProj.Claims.lean ====
/-
  The claims about the attention's projection of queries, keys and values, with the norm in front.
-/
module

public import proofs.«01_k».proof.Defs
public import proofs.«01_k».proof.Proof.AttProj.Kernel
public import proofs.«01_k».proof.Proof.Gen.Kernel4.Frame
public import proofs.«01_k».proof.Proof.Gen.Reference4Ideal.Run
public import Idealize.ShloMosaic.Lib.Quiescent

@[expose] public section

noncomputable section

namespace Cert.Reference4Ideal.Hand

open Cert.Reference4Ideal Cert.Reference4Ideal.Gen
open Idealize.ShloMosaic Idealize.ShloMosaic.TcCoe Idealize.ShloMosaic.Pointwise Idealize.SL.Sem

set_option maxRecDepth 16384

variable (X : S8192x2048.Idx → EReal) (G : S2048.Idx → EReal) (W : S1x2048x6160.Idx → EReal)

/-- The normed rows. -/
def rows : S8192x2048.Idx → EReal :=
  mulf (F := Ideal) (φ := .f32) (mulf X (broadcastInDim S8192x2048 ![0, 1] bcast_S8192x1_S8192x2048_0_1 (Host.rsqrt (addf (Host.divf (broadcastInDim S8192x1 ![0] bcast_S8192_S8192x1_0 (Host.reduceAdd (F := Ideal) (φ := .f32) (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))

/-- The result. -/
def out : S8192x6144.Idx → EReal :=
  extractStridedSlice S8192x6144 ![0, 0] (Host.dotGeneral (F := Ideal) (φ₁ := .f32) (φ₂ := .f32) dot_S8192x2048_S2048x6160_S8192x6160_1_0_0_1_n_n none (rows X G) (shapeCast _ W shapeCasts_S1x2048x6160_S2048x6160)) slices_S8192x6160_S8192x6144_0_0

theorem rows_apply (r : Fin 8192) (k : Fin 2048) : rows X G (ix2 r k) = Norm.normed (fun j => X (ix2 r j)) (fun j => G (ix1 j)) k := by
  pointwise [rows]
  rfl

theorem out_apply (r : Fin 8192) (e : Fin 6144) : out X G W (ix2 r e) = ∑ k : Fin 2048, rows X G (ix2 r k) * W (ix3 0 k (Norm.col e)) := by
  pointwise [out]

theorem out_eq : out X G W = Kernel4Ideal.Hand.outArr X G W := by
  funext i
  obtain ⟨r, e, rfl⟩ : ∃ (r : Fin 8192) (e : Fin 6144), i = ix2 r e := ⟨i 0, i 1, eq_ix2 i⟩
  rw [out_apply]
  exact Finset.sum_congr rfl fun k _ => congrArg (fun z : EReal => z * W (ix3 0 k (Norm.col e))) (rows_apply X G r k)

end Cert.Reference4Ideal.Hand

namespace Cert.AttProj

open Idealize.ShloMosaic Idealize.ShloMosaic.TcCoe Idealize.SL.Sem

theorem frame_kernel : Cert.quiescent_Kernel4 := fun m g _ => Cert.Kernel4.Gen.frame m g

theorem frame_ideal : Cert.quiescent_Kernel4Ideal := fun m g _ => Cert.Kernel4Ideal.Gen.frame m g

theorem frame_ref : Cert.quiescent_Reference4Ideal := fun m g _ =>
  (θ_run Cert.Reference4Ideal.defs _ _).mono (fun r h => ⟨fun c => (h c).2, sem_eq_zero_of_no_sems (by decide) r.2⟩) (Cert.Reference4Ideal.Value.run m g)

theorem preserves : Cert.preserves_Kernel4_Kernel4Ideal := trivial

theorem algebraic : Cert.algebraic_Kernel4Ideal_Reference4Ideal := by
  intro m g m' g' _ hagree
  refine ⟨fun c => (Kernel4Ideal.Gen.dats m 0 c).arrAt 3 Kernel4Ideal.cfg0.N, Kernel4Ideal.Value.run_blocks m g, ?_⟩
  refine (θ_run _ _ _).mono (fun r h c => ⟨(h c).1.trans ?_, (h c).2⟩) (Cert.Reference4Ideal.Value.run m' g')
  rw [(hagree c).1, (hagree c).2.1, (hagree c).2.2]
  exact (Reference4Ideal.Hand.out_eq _ _ _).trans (Kernel4Ideal.Hand.arr_eq m c).symm

end Cert.AttProj

end
-- ==== Proof.PeerProj.IdealBody.lean ====
/-
  The projection that also returns the normed rows, `Kernel5Ideal`: the body at one grid point, in a row of blocks' first column and in
  the second, and the run over the whole grid.
-/
module

public import proofs.«01_k».proof.Proof.Gen.Kernel5Ideal.Frame
public import proofs.«01_k».proof.Proof.Gen.Kernel5Ideal.Skeleton
public import Idealize.ShloMosaic.Lib.Pipeline.Frame
public import Idealize.ShloMosaic.Lib.Tactic
public import Idealize.ShloMosaic.Lib.VecWindow

@[expose] public section

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

section body
variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S1024x1024 .bf16) (harg5 : arg5.IsWhole)
  (arg6 : Memref sig .tc .vmem S1024x2048 .bf16) (harg6 : arg6.IsWhole)
  (X : S1024x2048.Idx → Elt F .f32) (G : S1x2048.Idx → Elt F .f32) (W : S2048x1024.Idx → Elt F .bf16) (R : S1024x2048.Idx → Elt F .bf16)

/-- In the first column the body leaves the normed rows and their product. -/
theorem run_first (hc : k0_cond1 i = 1#1) (K : PUnit → sProp 𝕄) :
    iprop(owns (c : Thread nD τ) arg2 fullShare X ∗ owns (c : Thread nD τ) arg3 fullShare G ∗ owns (c : Thread nD τ) arg4 fullShare W
        ∗ (∃ d, owns (c : Thread nD τ) arg5 fullShare d) ∗ (∃ d, owns (c : Thread nD τ) arg6 fullShare d)
        ∗ (iprop(owns (c : Thread nD τ) arg2 fullShare X ∗ owns (c : Thread nD τ) arg3 fullShare G ∗ owns (c : Thread nD τ) arg4 fullShare W
            ∗ owns (c : Thread nD τ) arg5 fullShare (k0_pay2 (k0_pay1 X G) W) ∗ owns (c : Thread nD τ) arg6 fullShare (k0_pay1 X G)) -∗ K ⟨⟩))
      ⊢ wp frame (wpE (defs₀ (F := F)) Variants.none c none) Set.univ
          (cc0_mm i arg2 harg2 arg3 harg3 arg4 harg4 arg5 harg5 arg6 harg6) K := by
  simp only [cc0_mm_eq_skeleton]; unfold cc0_mm_skel
  unfold owns
  iintro ⟨⟨%f2, %e2, H2⟩, ⟨%f3, %e3, H3⟩, ⟨%f4, %e4, H4⟩, ⟨%d5, %f5, -, H5⟩, ⟨%d6, %f6, -, H6⟩, Hk⟩
  have r2 : arg2.view.readAt (Elt F) (Rect.unit (s := S1024x2048) ![0, 0] S1024x2048.size inb_S1024x2048_S1024x2048_0_0).toLoadRect f2 = X :=
    (View.readAt_full _ _ _).trans e2
  have r3 : arg3.view.readAt (Elt F) (Rect.unit (s := S1x2048) ![0, 0] S1x2048.size inb_S1x2048_S1x2048_0_0).toLoadRect f3 = G :=
    (View.readAt_full _ _ _).trans e3
  have r4 : arg4.view.readAt (Elt F) (Rect.unit (s := S2048x1024) ![0, 0] S2048x1024.size inb_S2048x1024_S2048x1024_0_0).toLoadRect f4 = W :=
    (View.readAt_full _ _ _).trans e4
  sl_exec (disch := first | sl_exact hc)
  sl_step
  iapply Hk
  isplitl [H2]; · iexists _; isplitr; · (ipureintro; exact e2)
                  iexact H2
  isplitl [H3]; · iexists _; isplitr; · (ipureintro; exact e3)
                  iexact H3
  isplitl [H4]; · iexists _; isplitr; · (ipureintro; exact e4)
                  iexact H4
  isplitl [H5]
  · iexists _; isplitr; swap; · iexact H5
    ipureintro
    refine (View.read_writes_full _ _ _ _ _).trans ?_
    refine congrArg (fun n => k0_pay2 n W) ?_
    exact View.readCov_full _ _ _ _ _
  iexists _; isplitr; swap; · iexact H6
  ipureintro
  exact View.read_writes_full _ _ _ _ _

/-- In the second column it leaves the product of the rows it finds. -/
theorem run_second (hc : ¬k0_cond1 i = 1#1) (K : PUnit → sProp 𝕄) :
    iprop(owns (c : Thread nD τ) arg2 fullShare X ∗ owns (c : Thread nD τ) arg3 fullShare G ∗ owns (c : Thread nD τ) arg4 fullShare W
        ∗ (∃ d, owns (c : Thread nD τ) arg5 fullShare d) ∗ owns (c : Thread nD τ) arg6 fullShare R
        ∗ (iprop(owns (c : Thread nD τ) arg2 fullShare X ∗ owns (c : Thread nD τ) arg3 fullShare G ∗ owns (c : Thread nD τ) arg4 fullShare W
            ∗ owns (c : Thread nD τ) arg5 fullShare (k0_pay2 R W) ∗ owns (c : Thread nD τ) arg6 fullShare R) -∗ K ⟨⟩))
      ⊢ wp frame (wpE (defs₀ (F := F)) Variants.none c none) Set.univ
          (cc0_mm i arg2 harg2 arg3 harg3 arg4 harg4 arg5 harg5 arg6 harg6) K := by
  simp only [cc0_mm_eq_skeleton]; unfold cc0_mm_skel
  unfold owns
  iintro ⟨⟨%f2, %e2, H2⟩, ⟨%f3, %e3, H3⟩, ⟨%f4, %e4, H4⟩, ⟨%d5, %f5, -, H5⟩, ⟨%f6, %e6, H6⟩, Hk⟩
  have r4 : arg4.view.readAt (Elt F) (Rect.unit (s := S2048x1024) ![0, 0] S2048x1024.size inb_S2048x1024_S2048x1024_0_0).toLoadRect f4 = W :=
    (View.readAt_full _ _ _).trans e4
  have r6 : arg6.view.readAt (Elt F) (Rect.unit (s := S1024x2048) ![0, 0] S1024x2048.size inb_S1024x2048_S1024x2048_0_0).toLoadRect f6 = R :=
    (View.readAt_full _ _ _).trans e6
  sl_exec (disch := first | sl_exact hc)
  sl_step
  iapply Hk
  isplitl [H2]; · iexists _; isplitr; · (ipureintro; exact e2)
                  iexact H2
  isplitl [H3]; · iexists _; isplitr; · (ipureintro; exact e3)
                  iexact H3
  isplitl [H4]; · iexists _; isplitr; · (ipureintro; exact e4)
                  iexact H4
  isplitl [H5]
  · iexists _; isplitr; swap; · iexact H5
    ipureintro
    exact View.read_writes_full _ _ _ _ _
  iexists _; isplitr; · (ipureintro; exact e6)
  iexact H6

end body

variable (m : (ℓ : Loc nD τ sig) → Buf (Elt F) ℓ) (ρ : Dev nD → PrngReg)

/-- The first point of a point's row of blocks. -/
def first (t : Fin cfg0.N) : Fin cfg0.N := ⟨2 * (t.val / 2), by have := t.isLt; omega⟩

/-- The normed rows of a point's row of blocks. -/
def rowsAt (c : Dev nD) (t : Fin cfg0.N) : S1024x2048.Idx → Elt F .bf16 := k0_pay1 (iblk m c 0 (first t)) (iblk m c 1 (first t))

def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t
    | 3 => k0_pay2 (rowsAt m c t) (iblk m c 2 t)
    | 4 => rowsAt m c t
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem cond_iff : ∀ t : Fin cfg0.N, k0_cond1 (grid0.coords t) = 1#1 ↔ t.val % 2 = 0 := by decide +kernel

theorem first_even (t : Fin cfg0.N) (h : t.val % 2 = 0) : first t = t := Fin.ext (by unfold first; simp only; omega)

theorem first_odd (t : Fin cfg0.N) (h : ¬t.val % 2 = 0) (h') : first (⟨t.val - 1, h'⟩ : Fin cfg0.N) = first t :=
  Fin.ext (by unfold first; simp only; omega)

/-- In the second column the buffer of the normed rows holds what the first column left. -/
theorem before_rows (c : Dev nD) (t : Fin cfg0.N) (h : ¬t.val % 2 = 0) (d) : (dats m 0 c).before 4 t d = rowsAt m c t := by
  have ht : t.val ≠ 0 := by omega
  have hl : t.val - 1 < cfg0.N := Nat.lt_of_le_of_lt (Nat.sub_le _ _) t.isLt
  have hf : (cfg0.win 4).flush ⟨t.val - 1, hl⟩ = false := Bool.eq_false_iff.mpr fun e => by
    have := (flush0_4 _).mp e; simp only at this; omega
  have hi : cfg0.idle 4 (cfg0.grid.coords ⟨t.val - 1, hl⟩) = false := by
    have := (cond_iff ⟨t.val - 1, hl⟩).mpr (by simp only; omega)
    show (!(k0_cond1 (grid0.coords ⟨t.val - 1, hl⟩) == 1#1)) = false
    rw [this]; rfl
  rw [(dats m 0 c).before_of_pos 4 t ht ((cfg0.win 4).fetch_out rfl t), hf, if_neg Bool.false_ne_true]
  unfold Dat.left
  rw [hi]
  show rowsAt m c ⟨t.val - 1, hl⟩ = rowsAt m c t
  unfold rowsAt
  rw [first_odd t h]

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .bf16 := win0_2.stage (cfg0.slots t 2)
abbrev ms3 (t : Fin cfg0.N) : Memref sig .tc .vmem S1024x1024 .bf16 := win0_3.stage (cfg0.slots t 3)
abbrev ms4 (t : Fin cfg0.N) : Memref sig .tc .vmem S1024x2048 .bf16 := win0_4.stage (cfg0.slots t 4)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (ms0 t) fullShare (iblk m c 0 t) ∗ owns (c : Thread nD τ) (ms1 t) fullShare (iblk m c 1 t)
    ∗ owns (c : Thread nD τ) (ms2 t) fullShare (iblk m c 2 t)
    ∗ owns (c : Thread nD τ) (ms3 t) fullShare (k0_pay2 (rowsAt m c t) (iblk m c 2 t))
    ∗ owns (c : Thread nD τ) (ms4 t) fullShare (rowsAt m c t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  simp only [before0_0_of m (dats m 0 c) (A_eq m c 0) (fun _ => rfl), before0_1_of m (dats m 0 c) (A_eq m c 1) (fun _ => rfl),
    before0_2_of m (dats m 0 c) (A_eq m c 2) (fun _ => rfl)]
  by_cases h : t.val % 2 = 0
  · rw [show rowsAt m c t = k0_pay1 (iblk m c 0 t) (iblk m c 1 t) from by unfold rowsAt; rw [first_even t h]]
    iintro ⟨HΦ, HO, ⟨%d0, H0⟩, ⟨%d1, H1⟩, ⟨%d2, H2⟩, ⟨%d3, H3⟩, ⟨%d4, H4⟩⟩
    iapply (run_first c (grid0.coords t) (ms0 t) _ (ms1 t) _ (ms2 t) _ (ms3 t) _ (ms4 t) _ (iblk m c 0 t) (iblk m c 1 t) (iblk m c 2 t) ((cond_iff t).mpr h) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [HO]; · iexact HO
    isplitl [H0]; · iexact H0
    isplitl [H1]; · iexact H1
    isplitl [H2]; · iexact H2
    isplitl [H3]; · iexact H3
    iexact H4
  · simp only [before_rows m c t h]
    iintro ⟨HΦ, HO, ⟨%d0, H0⟩, ⟨%d1, H1⟩, ⟨%d2, H2⟩, ⟨%d3, H3⟩, ⟨%d4, H4⟩⟩
    iapply (run_second c (grid0.coords t) (ms0 t) _ (ms1 t) _ (ms2 t) _ (ms3 t) _ (ms4 t) _ (iblk m c 0 t) (iblk m c 1 t) (iblk m c 2 t) (rowsAt m c t) (fun e => h ((cond_iff t).mp e)) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [HO]; · iexact HO
    isplitl [H0]; · iexact H0
    isplitl [H1]; · iexact H1
    isplitl [H2]; · iexact H2
    isplitl [H3]; · iexact H3
    iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  by_cases h : t.val % 2 = 0
  · have hi : cfg0.idle 4 (cfg0.grid.coords t) = false := by
      show (!(k0_cond1 (grid0.coords t) == 1#1)) = false
      rw [(cond_iff t).mpr h]; rfl
    rw [bigSep_W0, bigSep_W0, defs₀_row, hi]
    exact triple_restated (sound_body m c t) rfl .rfl fun _ => .rfl
  · have hf : (cfg0.win 4).flush t = true := (flush0_4 t).mpr (by omega)
    have hi : cfg0.idle 4 (cfg0.grid.coords t) = true := by
      show (!(k0_cond1 (grid0.coords t) == 1#1)) = true
      rw [show (k0_cond1 (grid0.coords t) == 1#1) = false from beq_eq_false_iff_ne.mpr fun e => h ((cond_iff t).mp e)]; rfl
    rw [bigSep_W0, bigSep_W0, defs₀_row, hi, hf]
    exact triple_restated (sound_body m c t) rfl .rfl fun _ => .rfl

set_option backward.isDefEq.respectTransparency.types false in
/-- Every run of @main ends, with every array no window stages as launched and every counter zero. -/
theorem run_main :
    θ_run defs (onTc (τ := τ) (main (F := F))) (s₀ m ρ)
      (fun r => Pipeline.FramePost cfgs (dats m) (0 : Fin 1) (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of @main ends with the two results assembled from the points' blocks, the arguments as launched and every counter
    zero. -/
theorem run_arrays :
    θ_run defs (onTc (τ := τ) (main (F := F))) ⟨m, fun _ => 0, ρ⟩ (fun r => (∀ c : Dev nD,
      r.2.mem ((c.tc : Thread nD τ).loc main_v5_0) = (dats m 0 c).arrAt 3 cfg0.N
      ∧ r.2.mem ((c.tc : Thread nD τ).loc main_v5_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1 3, (h.1 c).1 4,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel5Ideal.Hand

end
-- ==== Proof.PeerProj.Kernel.lean ====
/-
  The projection that also returns the normed rows: the values that each grid point stores and the two arrays that the run leaves.
-/
module

public import proofs.«01_k».proof.Proof.PeerProj.IdealBody
public import proofs.«01_k».proof.Proof.InProj.Norm
public import Idealize.ShloMosaic.Lib.Pointwise
public import Idealize.ShloMosaic.Lib.Pipeline.ValueKit
public import Idealize.ShloMosaic.Lib.Pipeline.Covers

@[expose] public section

noncomputable section

namespace Cert.Kernel5Ideal.Hand

open Cert.Kernel5Ideal Cert.Kernel5Ideal.Gen
open Idealize.ShloMosaic Idealize.ShloMosaic.TcCoe Idealize.ShloMosaic.Pointwise Idealize.SL.Sem

set_option maxRecDepth 16384

variable (m : (ℓ : Loc nD τ sig) → Buf (Elt Ideal) ℓ) (c : Dev nD)

theorem idx0 (t : Fin cfg0.N) : win0_0.index t = ![t.val / 2, 0] := by
  revert t; decide +kernel
theorem idx1 (t : Fin cfg0.N) : win0_1.index t = ![0, 0] := by
  revert t; decide +kernel
theorem idx2 (t : Fin cfg0.N) : win0_2.index t = ![0, t.val % 2] := by
  revert t; decide +kernel
theorem idx3 (t : Fin cfg0.N) : win0_3.index t = ![t.val / 2, t.val % 2] := by
  revert t; decide +kernel
theorem idx4 (t : Fin cfg0.N) : win0_4.index t = ![t.val / 2, 0] := by
  revert t; decide +kernel

theorem point_lt (t : Fin cfg0.N) : t.val < 16 := lt_of_lt_of_eq t.isLt (show cfg0.N = 16 from N_0)

/-- The arguments as functions of their indices. -/
abbrev argX : S8192x2048.Idx → EReal := m ((c : Thread nD τ).loc main_arg0)
abbrev argG : S2048.Idx → EReal := m ((c : Thread nD τ).loc main_arg1)
abbrev argW : S2048x2048.Idx → EReal := m ((c : Thread nD τ).loc main_arg2)

theorem entry_w (k : Fin 2048) (n : Fin 2048) : (V m c main_v3 : S2048x2048.Idx → EReal) (ix2 k n) = argW m c (ix2 k (Norm.head n)) := by
  entry_read
  pointwise

theorem entry_g (k : Fin 2048) : (V m c main_v4 : S1x2048.Idx → EReal) (ix2 0 k) = argG m c (ix1 k) := by
  entry_read
  pointwise

theorem entry_x : (V m c main_arg0 : S8192x2048.Idx → EReal) = argX m c := V_main_arg0 m c

theorem iblk_x (t : Fin cfg0.N) (r : Fin 1024) (k : Fin 2048) (h) : (iblk m c 0 t : S1024x2048.Idx → EReal) (ix2 r k)
    = argX m c (ix2 ⟨1024 * (t.val / 2) + r.val, h⟩ k) := by
  rw [← entry_x]
  blk_ext [iblk, idx0 t]

theorem iblk_g (t : Fin cfg0.N) (k : Fin 2048) : (iblk m c 1 t : S1x2048.Idx → EReal) (ix2 0 k) = argG m c (ix1 k) := by
  rw [← entry_g]
  blk_ext [iblk, idx1 t]

theorem iblk_w (t : Fin cfg0.N) (k : Fin 2048) (n : Fin 1024) (h) : (iblk m c 2 t : S2048x1024.Idx → EReal) (ix2 k n)
    = argW m c (ix2 k (Norm.head ⟨1024 * (t.val % 2) + n.val, h⟩)) := by
  rw [← entry_w]
  blk_ext [iblk, idx2 t]

theorem pay1_apply (x : S1024x2048.Idx → EReal) (g : S1x2048.Idx → EReal) (r : Fin 1024) (k : Fin 2048) :
    k0_pay1 (F := Ideal) x g (ix2 r k) = Norm.normed (fun j => x (ix2 r j)) (fun j => g (ix2 0 j)) k := by
  pointwise [k0_pay1]
  rfl

theorem pay2_apply (n : S1024x2048.Idx → EReal) (w : S2048x1024.Idx → EReal) (r e : Fin 1024) :
    k0_pay2 (F := Ideal) n w (ix2 r e) = ∑ k : Fin 2048, n (ix2 r k) * w (ix2 k e) := by
  pointwise [k0_pay2]

/-- An entry of the normed rows of a point's row of blocks. -/
theorem rowsAt_apply (t : Fin cfg0.N) (r : Fin 1024) (k : Fin 2048) (h) : (rowsAt (F := Ideal) m c t : S1024x2048.Idx → EReal) (ix2 r k)
    = Norm.normed (fun j => argX m c (ix2 ⟨1024 * (t.val / 2) + r.val, h⟩ j)) (fun j => argG m c (ix1 j)) k := by
  have e : (first t).val / 2 = t.val / 2 := by unfold first; simp only; omega
  unfold rowsAt
  refine (pay1_apply (iblk m c 0 (first t) : S1024x2048.Idx → EReal) (iblk m c 1 (first t) : S1x2048.Idx → EReal) r k).trans ?_
  simp only [iblk_x m c (first t) r _ (show 1024 * ((first t).val / 2) + r.val < 8192 by rw [e]; exact h), iblk_g, e]

/-- The projection: the normed rows against the weights' columns, the first halves of the heads' queries before the second. -/
def outQ (X : S8192x2048.Idx → EReal) (G : S2048.Idx → EReal) (W : S2048x2048.Idx → EReal) : S8192x2048.Idx → EReal := fun i =>
  Norm.proj (fun k => X (ix2 (i 0) k)) (fun k => G (ix1 k)) (fun k => W (ix2 k (Norm.head (i 1 : Fin 2048))))

/-- The normed rows. -/
def outN (X : S8192x2048.Idx → EReal) (G : S2048.Idx → EReal) : S8192x2048.Idx → EReal := fun i =>
  Norm.normed (fun k => X (ix2 (i 0) k)) (fun k => G (ix1 k)) (i 1 : Fin 2048)

/-- What the run leaves in the first result. -/
theorem arr_q : (dats (F := Ideal) m 0 c).arrAt 3 cfg0.N = outQ (argX m c) (argG m c) (argW m c) := by
  refine (dats m 0 c).arrAt_eq_of_covers 3 _ (by decide +kernel) fun t hf y => ?_
  have hN := point_lt t
  obtain ⟨r, e, rfl⟩ : ∃ (r : Fin 1024) (e : Fin 1024), y = ix2 r e := ⟨y 0, y 1, eq_ix2 y⟩
  have e0 : (win0_3.blk t).view.emb (ix2 r e) 0 = (⟨1024 * (t.val / 2) + r.val, by omega⟩ : Fin 8192) := Fin.ext (by
    show (win0_3.index t 0) * 1024 + 1 * r.val = _
    rw [idx3]; simp; omega)
  have e1 : (win0_3.blk t).view.emb (ix2 r e) 1 = (⟨1024 * (t.val % 2) + e.val, by omega⟩ : Fin 2048) := Fin.ext (by
    show (win0_3.index t 1) * 1024 + 1 * e.val = _
    rw [idx3]; simp; omega)
  show k0_pay2 (F := Ideal) (rowsAt (F := Ideal) m c t : S1024x2048.Idx → EReal) (iblk m c 2 t : S2048x1024.Idx → EReal) (ix2 r e)
    = outQ _ _ _ ((win0_3.blk t).view.emb (ix2 r e))
  unfold outQ
  rw [e0, e1, pay2_apply]
  unfold Norm.proj
  refine Finset.sum_congr rfl fun k _ => ?_
  rw [rowsAt_apply m c t r k (show 1024 * (t.val / 2) + r.val < 8192 by omega), iblk_w m c t k e (show 1024 * (t.val % 2) + e.val < 2048 by omega)]

/-- What the run leaves in the second result. -/
theorem arr_n : (dats (F := Ideal) m 0 c).arrAt 4 cfg0.N = outN (argX m c) (argG m c) := by
  refine (dats m 0 c).arrAt_eq_of_covers 4 _ (by decide +kernel) fun t hf y => ?_
  have hN := point_lt t
  obtain ⟨r, e, rfl⟩ : ∃ (r : Fin 1024) (e : Fin 2048), y = ix2 r e := ⟨y 0, y 1, eq_ix2 y⟩
  have e0 : (win0_4.blk t).view.emb (ix2 r e) 0 = (⟨1024 * (t.val / 2) + r.val, by omega⟩ : Fin 8192) := Fin.ext (by
    show (win0_4.index t 0) * 1024 + 1 * r.val = _
    rw [idx4]; simp; omega)
  have e1 : (win0_4.blk t).view.emb (ix2 r e) 1 = (e : Fin 2048) := Fin.ext (by
    show (win0_4.index t 1) * 2048 + 1 * e.val = _
    rw [idx4]; simp)
  show (rowsAt (F := Ideal) m c t : S1024x2048.Idx → EReal) (ix2 r e) = outN _ _ ((win0_4.blk t).view.emb (ix2 r e))
  unfold outN
  rw [e0, e1, rowsAt_apply m c t r e (show 1024 * (t.val / 2) + r.val < 8192 by omega)]

end Cert.Kernel5Ideal.Hand

end
-- ==== Proof.PeerProj.Claims.lean ====
/-
  The claims about the projection that also returns the normed rows.
-/
module

public import proofs.«01_k».proof.Defs
public import proofs.«01_k».proof.Proof.PeerProj.Body
public import proofs.«01_k».proof.Proof.PeerProj.Kernel
public import proofs.«01_k».proof.Proof.Gen.Reference5Ideal.Run
public import Idealize.ShloMosaic.Lib.Quiescent

@[expose] public section

noncomputable section

namespace Cert.Reference5Ideal.Hand

open Cert.Reference5Ideal Cert.Reference5Ideal.Gen
open Idealize.ShloMosaic Idealize.ShloMosaic.TcCoe Idealize.ShloMosaic.Pointwise Idealize.SL.Sem

set_option maxRecDepth 16384

variable (X : S8192x2048.Idx → EReal) (G : S2048.Idx → EReal) (W : S2048x2048.Idx → EReal)

/-- The normed rows. -/
def rows : S8192x2048.Idx → EReal :=
  mulf (F := Ideal) (φ := .f32) (mulf X (broadcastInDim S8192x2048 ![0, 1] bcast_S8192x1_S8192x2048_0_1 (Host.rsqrt (addf (Host.divf (broadcastInDim S8192x1 ![0] bcast_S8192_S8192x1_0 (Host.reduceAdd (F := Ideal) (φ := .f32) (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))

/-- The first result: the product, the first halves of the heads' queries before the second. -/
def outQ : S8192x2048.Idx → EReal :=
  truncf (F := Ideal) (φ := .f32) .bf16 (shapeCast _ (transpose S8192x2x8x128 [0, 2, 1, 3] (shapeCast _ (Host.dotGeneral (F := Ideal) (φ₁ := .f32) (φ₂ := .f32) dot_S8192x2048_S2048x2048_S8192x2048_1_0_0_1_n_n none (rows X G) W) shapeCasts_S8192x2048_S8192x8x2x128) transposes_S8192x8x2x128_S8192x2x8x128_0_2_1_3) shapeCasts_S8192x2x8x128_S8192x2048) bitsLt_bf16_f32

/-- The second result: the normed rows. -/
def outN : S8192x2048.Idx → EReal := truncf (F := Ideal) (φ := .f32) .bf16 (rows X G) bitsLt_bf16_f32

theorem rows_apply (r : Fin 8192) (k : Fin 2048) : rows X G (ix2 r k) = Norm.normed (fun j => X (ix2 r j)) (fun j => G (ix1 j)) k := by
  pointwise [rows]
  rfl

theorem outQ_apply (r : Fin 8192) (e : Fin 2048) : outQ X G W (ix2 r e) = ∑ k : Fin 2048, rows X G (ix2 r k) * W (ix2 k (Norm.head e)) := by
  pointwise [outQ]

theorem outN_apply (r : Fin 8192) (e : Fin 2048) : outN X G (ix2 r e) = rows X G (ix2 r e) := by
  pointwise [outN]

theorem outQ_eq : outQ X G W = Kernel5Ideal.Hand.outQ X G W := by
  funext i
  obtain ⟨r, e, rfl⟩ : ∃ (r : Fin 8192) (e : Fin 2048), i = ix2 r e := ⟨i 0, i 1, eq_ix2 i⟩
  rw [outQ_apply]
  exact Finset.sum_congr rfl fun k _ => congrArg (fun z : EReal => z * W (ix2 k (Norm.head e))) (rows_apply X G r k)

theorem outN_eq : outN X G = Kernel5Ideal.Hand.outN X G := by
  funext i
  obtain ⟨r, e, rfl⟩ : ∃ (r : Fin 8192) (e : Fin 2048), i = ix2 r e := ⟨i 0, i 1, eq_ix2 i⟩
  exact (outN_apply X G r e).trans (rows_apply X G r e)

end Cert.Reference5Ideal.Hand

namespace Cert.PeerProj

open Idealize.ShloMosaic Idealize.ShloMosaic.TcCoe Idealize.SL.Sem

theorem frame_kernel : Cert.quiescent_Kernel5 := fun m g _ =>
  (θ_run Cert.Kernel5.defs _ _).mono (fun _ h => ⟨fun c => (h.1 c).2.2, h.2⟩) (Cert.Kernel5.Hand.run_arrays m g)

theorem frame_ideal : Cert.quiescent_Kernel5Ideal := fun m g _ =>
  (θ_run Cert.Kernel5Ideal.defs _ _).mono (fun _ h => ⟨fun c => (h.1 c).2.2, h.2⟩) (Cert.Kernel5Ideal.Hand.run_arrays m g)

theorem frame_ref : Cert.quiescent_Reference5Ideal := fun m g _ =>
  (θ_run Cert.Reference5Ideal.defs _ _).mono (fun r h => ⟨fun c => (h c).2.2, sem_eq_zero_of_no_sems (by decide) r.2⟩) (Cert.Reference5Ideal.Value.run m g)

theorem preserves : Cert.preserves_Kernel5_Kernel5Ideal := trivial

theorem algebraic : Cert.algebraic_Kernel5Ideal_Reference5Ideal := by
  intro m g m' g' _ hagree
  refine ⟨fun c => (Kernel5Ideal.Hand.dats m 0 c).arrAt 3 Kernel5Ideal.cfg0.N, fun c => (Kernel5Ideal.Hand.dats m 0 c).arrAt 4 Kernel5Ideal.cfg0.N,
    (θ_run _ _ _).mono (fun _ h => h.1) (Kernel5Ideal.Hand.run_arrays m g), ?_⟩
  refine (θ_run _ _ _).mono (fun r h c => ⟨(h c).1.trans ?_, (h c).2.1.trans ?_, (h c).2.2⟩) (Cert.Reference5Ideal.Value.run m' g')
  · rw [(hagree c).1, (hagree c).2.1, (hagree c).2.2]
    exact (Reference5Ideal.Hand.outQ_eq _ _ _).trans (Kernel5Ideal.Hand.arr_q m c).symm
  · rw [(hagree c).1, (hagree c).2.1]
    exact (Reference5Ideal.Hand.outN_eq _ _).trans (Kernel5Ideal.Hand.arr_n m c).symm

end Cert.PeerProj

end
-- ==== Proof.InProjSample.Kernel.lean ====
/-
  The projection with the norm in front, for the sample group: the normed rows that the kernel keeps from a row of blocks' first column on, the
  product that each grid point stores, and the array that the run leaves.
-/
module

public import proofs.«01_k».proof.Proof.Gen.Kernel6Ideal.Value
public import proofs.«01_k».proof.Proof.InProj.Norm
public import Idealize.ShloMosaic.Lib.Pointwise
public import Idealize.ShloMosaic.Lib.Pipeline.ValueKit
public import Idealize.ShloMosaic.Lib.Pipeline.Covers

@[expose] public section

noncomputable section

namespace Cert.Kernel6Ideal.Hand

open Cert.Kernel6Ideal Cert.Kernel6Ideal.Gen
open Idealize.ShloMosaic Idealize.ShloMosaic.TcCoe Idealize.ShloMosaic.Pointwise Idealize.SL.Sem

set_option maxRecDepth 16384

section words
variable {F : FTy → Type} [FloatOps F]

theorem hz : (![0, 0] : Fin 2 → Nat) = fun _ => 0 := funext fun a => by fin_cases a <;> rfl

variable (c : Dev nD) (i : grid0.Coords)
  (a2 : Memref sig .tc .vmem S128x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S128x1024 .f32) (h5 : a5.IsWhole)
  (a6 : Memref sig .tc .vmem S128x2048 .bf16) (h6 : a6.IsWhole)
  (x : Vec F S128x2048 .f32) (g : Vec F S1x2048 .f32) (w : Vec F S2048x1024 .bf16) (n : Vec F S128x2048 .bf16)

/-- In the first column of blocks the scratch ends with the normed rows. -/
theorem scratch_A (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero hz]
  simp only [View.readAt_eq_ld, h2.read_unread, h3.read_unread, View.ld_unit_zero (S := S128x2048) hz, View.ld_unit_zero (S := S1x2048) hz]

/-- … and the output block is their product with the weights' block. -/
theorem out_A (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero hz, View.readCov_unit_zero (S := S128x2048) _ hz]
  simp only [View.readAt_eq_ld, h2.read_unread, h3.read_unread, h4.read_unread, View.ld_unit_zero (S := S128x2048) hz, View.ld_unit_zero (S := S1x2048) hz,
    View.ld_unit_zero (S := S2048x1024) hz]

/-- In the other columns the output block is the kept rows' product with the weights' block. -/
theorem out_B (hc : ¬cond0_0 i) : out0_B_3 c i a2 h2 a3 h3 a4 h4 a5 h5 a6 h6 hc x g w n = k0_pay2 n w := by
  unfold out0_B_3
  rw [View.read_writes_eq_canon _ _ _ (cover0_B_3 c i a2 h2 a3 h3 a4 h4 a5 h5 a6 h6 hc x g w n)]
  unfold kernelRun0_B
  dsimp only
  rw [View.canon_unit_zero hz]
  simp only [View.readAt_eq_ld, h4.read_unread, h6.read_unread, View.ld_unit_zero (S := S128x2048) hz, View.ld_unit_zero (S := S2048x1024) hz]

end words

section values
variable (m : (ℓ : Loc nD τ sig) → Buf (Elt Ideal) ℓ) (c : Dev nD)

theorem idx0 (t : Fin cfg0.N) : win0_0.index t = ![t.val / 4, 0] := by
  revert t; decide +kernel
theorem idx1 (t : Fin cfg0.N) : win0_1.index t = ![0, 0] := by
  revert t; decide +kernel
theorem idx2 (t : Fin cfg0.N) : win0_2.index t = ![0, t.val % 4] := by
  revert t; decide +kernel
theorem idx3 (t : Fin cfg0.N) : win0_3.index t = ![t.val / 4, t.val % 4] := by
  revert t; decide +kernel

theorem point_lt (t : Fin cfg0.N) : t.val < 4 := lt_of_lt_of_eq t.isLt (show cfg0.N = 4 from N_0)

/-- The arguments as functions of their indices. -/
abbrev argX : S128x2048.Idx → EReal := m ((c : Thread nD τ).loc main_arg0)
abbrev argG : S2048.Idx → EReal := m ((c : Thread nD τ).loc main_arg1)
abbrev argW : S1x2048x4096.Idx → EReal := m ((c : Thread nD τ).loc main_arg2)

theorem entry_w (k : Fin 2048) (n : Fin 4096) : (V m c main_v1 : S2048x4096.Idx → EReal) (ix2 k n) = argW m c (ix3 0 k n) := by
  entry_read
  pointwise

theorem entry_g (k : Fin 2048) : (V m c main_v2 : S1x2048.Idx → EReal) (ix2 0 k) = argG m c (ix1 k) := by
  entry_read
  pointwise

theorem entry_x : (V m c main_arg0 : S128x2048.Idx → EReal) = argX m c := V_main_arg0 m c

theorem iblk_x (t : Fin cfg0.N) (r : Fin 128) (k : Fin 2048) (h) : (iblk m c 0 t : S128x2048.Idx → EReal) (ix2 r k)
    = argX m c (ix2 ⟨128 * (t.val / 4) + r.val, h⟩ k) := by
  rw [← entry_x]
  blk_ext [iblk, idx0 t]

theorem iblk_g (t : Fin cfg0.N) (k : Fin 2048) : (iblk m c 1 t : S1x2048.Idx → EReal) (ix2 0 k) = argG m c (ix1 k) := by
  rw [← entry_g]
  blk_ext [iblk, idx1 t]

theorem iblk_w (t : Fin cfg0.N) (k : Fin 2048) (n : Fin 1024) (h) : (iblk m c 2 t : S2048x1024.Idx → EReal) (ix2 k n)
    = argW m c (ix3 0 k ⟨1024 * (t.val % 4) + n.val, h⟩) := by
  rw [← entry_w]
  blk_ext [iblk, idx2 t]

theorem pay1_apply (x : S128x2048.Idx → EReal) (g : S1x2048.Idx → EReal) (r : Fin 128) (k : Fin 2048) :
    k0_pay1 (F := Ideal) x g (ix2 r k) = Norm.normed (fun j => x (ix2 r j)) (fun j => g (ix2 0 j)) k := by
  pointwise [k0_pay1]
  rfl

theorem pay2_apply (n : S128x2048.Idx → EReal) (w : S2048x1024.Idx → EReal) (r : Fin 128) (e : Fin 1024) :
    k0_pay2 (F := Ideal) n w (ix2 r e) = ∑ k : Fin 2048, n (ix2 r k) * w (ix2 k e) := by
  pointwise [k0_pay2]

/-- The product that a point of the grid stores, when the scratch holds `n`. -/
abbrev prodAt (t : Fin cfg0.N) (n : S128x2048.Idx → EReal) : S128x1024.Idx → EReal := k0_pay2 (F := Ideal) n (iblk m c 2 t : S2048x1024.Idx → EReal)

/-- The normed rows of a point's row of blocks. -/
abbrev rowsAt (t : Fin cfg0.N) : S128x2048.Idx → EReal := k0_pay1 (F := Ideal) (iblk m c 0 t : S128x2048.Idx → EReal) (iblk m c 1 t : S1x2048.Idx → EReal)

theorem point_A (t : Fin cfg0.N) (h0 : t.val % 4 = 0) : outsAt0 m c t.val t.isLt = (prodAt m c t (rowsAt m c t), rowsAt m c t) := by
  rw [outsAt0_A m c t h0, out_A, scratch_A]

theorem point_B (t : Fin cfg0.N) (h0 : ¬t.val % 4 = 0) (n : S128x2048.Idx → EReal)
    (hn : (outsAt0 m c (t.val - 1) (Nat.lt_of_le_of_lt (Nat.sub_le _ _) t.isLt)).2 = n) : outsAt0 m c t.val t.isLt = (prodAt m c t n, n) := by
  rw [outsAt0_B m c t h0, out_B, hn]
  unfold sout0_B_0
  rfl

/-- The points of one row of blocks read the same rows and the same gain. -/
theorem rows_eq (s t : Fin cfg0.N) (e : s.val / 4 = t.val / 4) : rowsAt m c s = rowsAt m c t := by
  have hs := point_lt s
  have ht := point_lt t
  funext i
  obtain ⟨r, k, rfl⟩ : ∃ (r : Fin 128) (k : Fin 2048), i = ix2 r k := ⟨i 0, i 1, eq_ix2 i⟩
  unfold rowsAt
  rw [pay1_apply, pay1_apply]
  simp only [iblk_x m c s r _ (show 128 * (s.val / 4) + r.val < 128 by omega), iblk_x m c t r _ (show 128 * (t.val / 4) + r.val < 128 by omega), iblk_g, e]

/-- After every point the scratch holds the normed rows of the point's row of blocks, and the output block their product with
    the weights' block. -/
theorem point (t : ℕ) : ∀ h : t < cfg0.N, outsAt0 m c t h = (prodAt m c ⟨t, h⟩ (rowsAt m c ⟨t, h⟩), rowsAt m c ⟨t, h⟩) := by
  induction t with
  | zero => exact fun h => point_A m c ⟨0, h⟩ rfl
  | succ n ih =>
    intro h
    by_cases h0 : (n + 1) % 4 = 0
    · exact point_A m c ⟨n + 1, h⟩ h0
    · refine point_B m c ⟨n + 1, h⟩ h0 _ ?_
      have e : outsAt0 m c ((⟨n + 1, h⟩ : Fin cfg0.N).val - 1) (Nat.lt_of_le_of_lt (Nat.sub_le _ _) h) = _ := ih (Nat.lt_of_succ_lt h)
      rw [e]
      refine rows_eq m c _ _ ?_
      show n / 4 = (n + 1) / 4
      omega

/-- The projection: the normed rows against the columns of the weights. -/
def outArr (X : S128x2048.Idx → EReal) (G : S2048.Idx → EReal) (W : S1x2048x4096.Idx → EReal) : S128x4096.Idx → EReal := fun i =>
  Norm.proj (fun k => X (ix2 (i 0) k)) (fun k => G (ix1 k)) (fun k => W (ix3 0 k (i 1)))

/-- What the run leaves in the output array. -/
theorem arr_eq : (dats m 0 c).arrAt 3 cfg0.N = outArr (argX m c) (argG m c) (argW m c) := by
  refine (dats m 0 c).arrAt_eq_of_covers 3 _ (by decide +kernel) fun t hf y => ?_
  have hN := point_lt t
  obtain ⟨r, e, rfl⟩ : ∃ (r : Fin 128) (e : Fin 1024), y = ix2 r e := ⟨y 0, y 1, eq_ix2 y⟩
  have e0 : (win0_3.blk t).view.emb (ix2 r e) 0 = (⟨128 * (t.val / 4) + r.val, by omega⟩ : Fin 128) := Fin.ext (by
    show (win0_3.index t 0) * 128 + 1 * r.val = _
    rw [idx3]; simp; omega)
  have e1 : (win0_3.blk t).view.emb (ix2 r e) 1 = (⟨1024 * (t.val % 4) + e.val, by omega⟩ : Fin 4096) := Fin.ext (by
    show (win0_3.index t 1) * 1024 + 1 * e.val = _
    rw [idx3]; simp; omega)
  have ha : ((dats m 0 c).after 3 t : S128x1024.Idx → EReal) = prodAt m c t (rowsAt m c t) := by
    rw [after0_3, point]
  refine (congrFun ha (ix2 r e)).trans ?_
  show prodAt m c t (rowsAt m c t) (ix2 r e) = outArr _ _ _ ((win0_3.blk t).view.emb (ix2 r e))
  unfold prodAt rowsAt
  unfold outArr
  rw [e0, e1, pay2_apply]
  unfold Norm.proj
  refine Finset.sum_congr rfl fun k _ => ?_
  rw [pay1_apply, iblk_w m c t k e (show 1024 * (t.val % 4) + e.val < 4096 by omega)]
  simp only [iblk_x m c t r _ (show 128 * (t.val / 4) + r.val < 128 by omega), iblk_g]

end values

end Cert.Kernel6Ideal.Hand

end
-- ==== Proof.InProjSample.Claims.lean ====
/-
  The claims about the projection with the norm in front, for the sample group.
-/
module

public import proofs.«01_k».proof.Defs
public import proofs.«01_k».proof.Proof.InProjSample.Kernel
public import proofs.«01_k».proof.Proof.Gen.Kernel6.Frame
public import proofs.«01_k».proof.Proof.Gen.Reference6Ideal.Run
public import Idealize.ShloMosaic.Lib.Quiescent

@[expose] public section

noncomputable section

namespace Cert.Reference6Ideal.Hand

open Cert.Reference6Ideal Cert.Reference6Ideal.Gen
open Idealize.ShloMosaic Idealize.ShloMosaic.TcCoe Idealize.ShloMosaic.Pointwise Idealize.SL.Sem

set_option maxRecDepth 16384

variable (X : S128x2048.Idx → EReal) (G : S2048.Idx → EReal) (W : S1x2048x4096.Idx → EReal)

/-- The normed rows. -/
def rows : S128x2048.Idx → EReal :=
  mulf (F := Ideal) (φ := .f32) (mulf X (broadcastInDim S128x2048 ![0, 1] bcast_S128x1_S128x2048_0_1 (Host.rsqrt (addf (Host.divf (broadcastInDim S128x1 ![0] bcast_S128_S128x1_0 (Host.reduceAdd (F := Ideal) (φ := .f32) (mulf X X) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 G))

/-- The result. -/
def out : S128x4096.Idx → EReal :=
  Host.dotGeneral (F := Ideal) (φ₁ := .f32) (φ₂ := .f32) dot_S128x2048_S2048x4096_S128x4096_1_0_0_1_n_n none (rows X G) (shapeCast _ W shapeCasts_S1x2048x4096_S2048x4096)

theorem rows_apply (r : Fin 128) (k : Fin 2048) : rows X G (ix2 r k) = Norm.normed (fun j => X (ix2 r j)) (fun j => G (ix1 j)) k := by
  pointwise [rows]
  rfl

theorem out_apply (r : Fin 128) (e : Fin 4096) : out X G W (ix2 r e) = ∑ k : Fin 2048, rows X G (ix2 r k) * W (ix3 0 k e) := by
  pointwise [out]

theorem out_eq : out X G W = Kernel6Ideal.Hand.outArr X G W := by
  funext i
  obtain ⟨r, e, rfl⟩ : ∃ (r : Fin 128) (e : Fin 4096), i = ix2 r e := ⟨i 0, i 1, eq_ix2 i⟩
  rw [out_apply]
  exact Finset.sum_congr rfl fun k _ => congrArg (fun z : EReal => z * W (ix3 0 k e)) (rows_apply X G r k)

end Cert.Reference6Ideal.Hand

namespace Cert.InProjSample

open Idealize.ShloMosaic Idealize.ShloMosaic.TcCoe Idealize.SL.Sem

theorem frame_kernel : Cert.quiescent_Kernel6 := fun m g _ => Cert.Kernel6.Gen.frame m g

theorem frame_ideal : Cert.quiescent_Kernel6Ideal := fun m g _ => Cert.Kernel6Ideal.Gen.frame m g

theorem frame_ref : Cert.quiescent_Reference6Ideal := fun m g _ =>
  (θ_run Cert.Reference6Ideal.defs _ _).mono (fun r h => ⟨fun c => (h c).2, sem_eq_zero_of_no_sems (by decide) r.2⟩) (Cert.Reference6Ideal.Value.run m g)

theorem preserves : Cert.preserves_Kernel6_Kernel6Ideal := trivial

theorem algebraic : Cert.algebraic_Kernel6Ideal_Reference6Ideal := by
  intro m g m' g' _ hagree
  refine ⟨fun c => (Kernel6Ideal.Gen.dats m 0 c).arrAt 3 Kernel6Ideal.cfg0.N, Kernel6Ideal.Value.run_blocks m g, ?_⟩
  refine (θ_run _ _ _).mono (fun r h c => ⟨(h c).1.trans ?_, (h c).2⟩) (Cert.Reference6Ideal.Value.run m' g')
  rw [(hagree c).1, (hagree c).2.1, (hagree c).2.2]
  exact (Reference6Ideal.Hand.out_eq _ _ _).trans (Kernel6Ideal.Hand.arr_eq m c).symm

end Cert.InProjSample

end
-- ==== Proof.AttProjSample.Kernel.lean ====
/-
  The attention's projection of queries, keys and values, with the norm in front, for the sample group: the normed rows that the kernel keeps from a row of blocks' first column on, the
  product that each grid point stores, and the array that the run leaves.
-/
module

public import proofs.«01_k».proof.Proof.Gen.Kernel7Ideal.Value
public import proofs.«01_k».proof.Proof.InProj.Norm
public import Idealize.ShloMosaic.Lib.Pointwise
public import Idealize.ShloMosaic.Lib.Pipeline.ValueKit
public import Idealize.ShloMosaic.Lib.Pipeline.Covers

@[expose] public section

noncomputable section

namespace Cert.Kernel7Ideal.Hand

open Cert.Kernel7Ideal Cert.Kernel7Ideal.Gen
open Idealize.ShloMosaic Idealize.ShloMosaic.TcCoe Idealize.ShloMosaic.Pointwise Idealize.SL.Sem

set_option maxRecDepth 16384

section words
variable {F : FTy → Type} [FloatOps F]

theorem hz : (![0, 0] : Fin 2 → Nat) = fun _ => 0 := funext fun a => by fin_cases a <;> rfl

variable (c : Dev nD) (i : grid0.Coords)
  (a2 : Memref sig .tc .vmem S128x2048 .f32) (h2 : a2.IsWhole) (a3 : Memref sig .tc .vmem S1x2048 .f32) (h3 : a3.IsWhole)
  (a4 : Memref sig .tc .vmem S2048x1024 .bf16) (h4 : a4.IsWhole) (a5 : Memref sig .tc .vmem S128x1024 .f32) (h5 : a5.IsWhole)
  (a6 : Memref sig .tc .vmem S128x2048 .bf16) (h6 : a6.IsWhole)
  (x : Vec F S128x2048 .f32) (g : Vec F S1x2048 .f32) (w : Vec F S2048x1024 .bf16) (n : Vec F S128x2048 .bf16)

/-- In the first column of blocks the scratch ends with the normed rows. -/
theorem scratch_A (hc : cond0_0 i) : sout0_A_0 c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero hz]
  simp only [View.readAt_eq_ld, h2.read_unread, h3.read_unread, View.ld_unit_zero (S := S128x2048) hz, View.ld_unit_zero (S := S1x2048) hz]

/-- … and the output block is their product with the weights' block. -/
theorem out_A (hc : cond0_0 i) : out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero hz, View.readCov_unit_zero (S := S128x2048) _ hz]
  simp only [View.readAt_eq_ld, h2.read_unread, h3.read_unread, h4.read_unread, View.ld_unit_zero (S := S128x2048) hz, View.ld_unit_zero (S := S1x2048) hz,
    View.ld_unit_zero (S := S2048x1024) hz]

/-- In the other columns the output block is the kept rows' product with the weights' block. -/
theorem out_B (hc : ¬cond0_0 i) : out0_B_3 c i a2 h2 a3 h3 a4 h4 a5 h5 a6 h6 hc x g w n = k0_pay2 n w := by
  unfold out0_B_3
  rw [View.read_writes_eq_canon _ _ _ (cover0_B_3 c i a2 h2 a3 h3 a4 h4 a5 h5 a6 h6 hc x g w n)]
  unfold kernelRun0_B
  dsimp only
  rw [View.canon_unit_zero hz]
  simp only [View.readAt_eq_ld, h4.read_unread, h6.read_unread, View.ld_unit_zero (S := S128x2048) hz, View.ld_unit_zero (S := S2048x1024) hz]

end words

section values
variable (m : (ℓ : Loc nD τ sig) → Buf (Elt Ideal) ℓ) (c : Dev nD)

theorem idx0 (t : Fin cfg0.N) : win0_0.index t = ![t.val / 6, 0] := by
  revert t; decide +kernel
theorem idx1 (t : Fin cfg0.N) : win0_1.index t = ![0, 0] := by
  revert t; decide +kernel
theorem idx2 (t : Fin cfg0.N) : win0_2.index t = ![0, t.val % 6] := by
  revert t; decide +kernel
theorem idx3 (t : Fin cfg0.N) : win0_3.index t = ![t.val / 6, t.val % 6] := by
  revert t; decide +kernel

theorem point_lt (t : Fin cfg0.N) : t.val < 6 := lt_of_lt_of_eq t.isLt (show cfg0.N = 6 from N_0)

/-- The arguments as functions of their indices. -/
abbrev argX : S128x2048.Idx → EReal := m ((c : Thread nD τ).loc main_arg0)
abbrev argG : S2048.Idx → EReal := m ((c : Thread nD τ).loc main_arg1)
abbrev argW : S1x2048x6160.Idx → EReal := m ((c : Thread nD τ).loc main_arg2)

theorem entry_w (k : Fin 2048) (n : Fin 6144) : (V m c main_v2 : S2048x6144.Idx → EReal) (ix2 k n) = argW m c (ix3 0 k (Norm.col n)) := by
  entry_read
  pointwise

theorem entry_g (k : Fin 2048) : (V m c main_v3 : S1x2048.Idx → EReal) (ix2 0 k) = argG m c (ix1 k) := by
  entry_read
  pointwise

theorem entry_x : (V m c main_arg0 : S128x2048.Idx → EReal) = argX m c := V_main_arg0 m c

theorem iblk_x (t : Fin cfg0.N) (r : Fin 128) (k : Fin 2048) (h) : (iblk m c 0 t : S128x2048.Idx → EReal) (ix2 r k)
    = argX m c (ix2 ⟨128 * (t.val / 6) + r.val, h⟩ k) := by
  rw [← entry_x]
  blk_ext [iblk, idx0 t]

theorem iblk_g (t : Fin cfg0.N) (k : Fin 2048) : (iblk m c 1 t : S1x2048.Idx → EReal) (ix2 0 k) = argG m c (ix1 k) := by
  rw [← entry_g]
  blk_ext [iblk, idx1 t]

theorem iblk_w (t : Fin cfg0.N) (k : Fin 2048) (n : Fin 1024) (h) : (iblk m c 2 t : S2048x1024.Idx → EReal) (ix2 k n)
    = argW m c (ix3 0 k (Norm.col (⟨1024 * (t.val % 6) + n.val, h⟩ : Fin 6144))) := by
  rw [← entry_w]
  blk_ext [iblk, idx2 t]

theorem pay1_apply (x : S128x2048.Idx → EReal) (g : S1x2048.Idx → EReal) (r : Fin 128) (k : Fin 2048) :
    k0_pay1 (F := Ideal) x g (ix2 r k) = Norm.normed (fun j => x (ix2 r j)) (fun j => g (ix2 0 j)) k := by
  pointwise [k0_pay1]
  rfl

theorem pay2_apply (n : S128x2048.Idx → EReal) (w : S2048x1024.Idx → EReal) (r : Fin 128) (e : Fin 1024) :
    k0_pay2 (F := Ideal) n w (ix2 r e) = ∑ k : Fin 2048, n (ix2 r k) * w (ix2 k e) := by
  pointwise [k0_pay2]

/-- The product that a point of the grid stores, when the scratch holds `n`. -/
abbrev prodAt (t : Fin cfg0.N) (n : S128x2048.Idx → EReal) : S128x1024.Idx → EReal := k0_pay2 (F := Ideal) n (iblk m c 2 t : S2048x1024.Idx → EReal)

/-- The normed rows of a point's row of blocks. -/
abbrev rowsAt (t : Fin cfg0.N) : S128x2048.Idx → EReal := k0_pay1 (F := Ideal) (iblk m c 0 t : S128x2048.Idx → EReal) (iblk m c 1 t : S1x2048.Idx → EReal)

theorem point_A (t : Fin cfg0.N) (h0 : t.val % 6 = 0) : outsAt0 m c t.val t.isLt = (prodAt m c t (rowsAt m c t), rowsAt m c t) := by
  rw [outsAt0_A m c t h0, out_A, scratch_A]

theorem point_B (t : Fin cfg0.N) (h0 : ¬t.val % 6 = 0) (n : S128x2048.Idx → EReal)
    (hn : (outsAt0 m c (t.val - 1) (Nat.lt_of_le_of_lt (Nat.sub_le _ _) t.isLt)).2 = n) : outsAt0 m c t.val t.isLt = (prodAt m c t n, n) := by
  rw [outsAt0_B m c t h0, out_B, hn]
  unfold sout0_B_0
  rfl

/-- The points of one row of blocks read the same rows and the same gain. -/
theorem rows_eq (s t : Fin cfg0.N) (e : s.val / 6 = t.val / 6) : rowsAt m c s = rowsAt m c t := by
  have hs := point_lt s
  have ht := point_lt t
  funext i
  obtain ⟨r, k, rfl⟩ : ∃ (r : Fin 128) (k : Fin 2048), i = ix2 r k := ⟨i 0, i 1, eq_ix2 i⟩
  unfold rowsAt
  rw [pay1_apply, pay1_apply]
  simp only [iblk_x m c s r _ (show 128 * (s.val / 6) + r.val < 128 by omega), iblk_x m c t r _ (show 128 * (t.val / 6) + r.val < 128 by omega), iblk_g, e]

/-- After every point the scratch holds the normed rows of the point's row of blocks, and the output block their product with
    the weights' block. -/
theorem point (t : ℕ) : ∀ h : t < cfg0.N, outsAt0 m c t h = (prodAt m c ⟨t, h⟩ (rowsAt m c ⟨t, h⟩), rowsAt m c ⟨t, h⟩) := by
  induction t with
  | zero => exact fun h => point_A m c ⟨0, h⟩ rfl
  | succ n ih =>
    intro h
    by_cases h0 : (n + 1) % 6 = 0
    · exact point_A m c ⟨n + 1, h⟩ h0
    · refine point_B m c ⟨n + 1, h⟩ h0 _ ?_
      have e : outsAt0 m c ((⟨n + 1, h⟩ : Fin cfg0.N).val - 1) (Nat.lt_of_le_of_lt (Nat.sub_le _ _) h) = _ := ih (Nat.lt_of_succ_lt h)
      rw [e]
      refine rows_eq m c _ _ ?_
      show n / 6 = (n + 1) / 6
      omega

/-- The projection: the normed rows against the weights' first 6144 columns. -/
def outArr (X : S128x2048.Idx → EReal) (G : S2048.Idx → EReal) (W : S1x2048x6160.Idx → EReal) : S128x6144.Idx → EReal := fun i =>
  Norm.proj (fun k => X (ix2 (i 0) k)) (fun k => G (ix1 k)) (fun k => W (ix3 0 k (Norm.col (i 1 : Fin 6144))))

/-- What the run leaves in the output array. -/
theorem arr_eq : (dats m 0 c).arrAt 3 cfg0.N = outArr (argX m c) (argG m c) (argW m c) := by
  refine (dats m 0 c).arrAt_eq_of_covers 3 _ (by decide +kernel) fun t hf y => ?_
  have hN := point_lt t
  obtain ⟨r, e, rfl⟩ : ∃ (r : Fin 128) (e : Fin 1024), y = ix2 r e := ⟨y 0, y 1, eq_ix2 y⟩
  have e0 : (win0_3.blk t).view.emb (ix2 r e) 0 = (⟨128 * (t.val / 6) + r.val, by omega⟩ : Fin 128) := Fin.ext (by
    show (win0_3.index t 0) * 128 + 1 * r.val = _
    rw [idx3]; simp; omega)
  have e1 : (win0_3.blk t).view.emb (ix2 r e) 1 = (⟨1024 * (t.val % 6) + e.val, by omega⟩ : Fin 6144) := Fin.ext (by
    show (win0_3.index t 1) * 1024 + 1 * e.val = _
    rw [idx3]; simp; omega)
  have ha : ((dats m 0 c).after 3 t : S128x1024.Idx → EReal) = prodAt m c t (rowsAt m c t) := by
    rw [after0_3, point]
  refine (congrFun ha (ix2 r e)).trans ?_
  show prodAt m c t (rowsAt m c t) (ix2 r e) = outArr _ _ _ ((win0_3.blk t).view.emb (ix2 r e))
  unfold prodAt rowsAt
  unfold outArr
  rw [e0, e1, pay2_apply]
  unfold Norm.proj
  refine Finset.sum_congr rfl fun k _ => ?_
  rw [pay1_apply, iblk_w m c t k e (show 1024 * (t.val % 6) + e.val < 6144 by omega)]
  simp only [iblk_x m c t r _ (show 128 * (t.val / 6) + r.val < 128 by omega), iblk_g]

end values

end Cert.Kernel7Ideal.Hand

end
-- ==== Proof.AttProjSample.Claims.lean ====
/-
  The claims about the attention's projection of queries, keys and values, with the norm in front, for the sample group.
-/
module

public import proofs.«01_k».proof.Defs
public import proofs.«01_k».proof.Proof.AttProjSample.Kernel
public import proofs.«01_k».proof.Proof.Gen.Kernel7.Frame
public import proofs.«01_k».proof.Proof.Gen.Reference7Ideal.Run
public import Idealize.ShloMosaic.Lib.Quiescent

@[expose] public section

noncomputable section

namespace Cert.Reference7Ideal.Hand

open Cert.Reference7Ideal Cert.Reference7Ideal.Gen
open Idealize.ShloMosaic Idealize.ShloMosaic.TcCoe Idealize.ShloMosaic.Pointwise Idealize.SL.Sem

set_option maxRecDepth 16384

variable (X : S128x2048.Idx → EReal) (G : S2048.Idx → EReal) (W : S1x2048x6160.Idx → EReal)

/-- The normed rows. -/
def rows : S128x2048.Idx → EReal :=
  mulf (F := Ideal) (φ := .f32) (mulf X (broadcastInDim S128x2048 ![0, 1] bcast_S128x1_S128x2048_0_1 (Host.rsqrt (addf (Host.divf (broadcastInDim S128x1 ![0] bcast_S128_S128x1_0 (Host.reduceAdd (F := Ideal) (φ := .f32) (mulf X X) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 G))

/-- The result. -/
def out : S128x6144.Idx → EReal :=
  extractStridedSlice S128x6144 ![0, 0] (Host.dotGeneral (F := Ideal) (φ₁ := .f32) (φ₂ := .f32) dot_S128x2048_S2048x6160_S128x6160_1_0_0_1_n_n none (rows X G) (shapeCast _ W shapeCasts_S1x2048x6160_S2048x6160)) slices_S128x6160_S128x6144_0_0

theorem rows_apply (r : Fin 128) (k : Fin 2048) : rows X G (ix2 r k) = Norm.normed (fun j => X (ix2 r j)) (fun j => G (ix1 j)) k := by
  pointwise [rows]
  rfl

theorem out_apply (r : Fin 128) (e : Fin 6144) : out X G W (ix2 r e) = ∑ k : Fin 2048, rows X G (ix2 r k) * W (ix3 0 k (Norm.col e)) := by
  pointwise [out]

theorem out_eq : out X G W = Kernel7Ideal.Hand.outArr X G W := by
  funext i
  obtain ⟨r, e, rfl⟩ : ∃ (r : Fin 128) (e : Fin 6144), i = ix2 r e := ⟨i 0, i 1, eq_ix2 i⟩
  rw [out_apply]
  exact Finset.sum_congr rfl fun k _ => congrArg (fun z : EReal => z * W (ix3 0 k (Norm.col e))) (rows_apply X G r k)

end Cert.Reference7Ideal.Hand

namespace Cert.AttProjSample

open Idealize.ShloMosaic Idealize.ShloMosaic.TcCoe Idealize.SL.Sem

theorem frame_kernel : Cert.quiescent_Kernel7 := fun m g _ => Cert.Kernel7.Gen.frame m g

theorem frame_ideal : Cert.quiescent_Kernel7Ideal := fun m g _ => Cert.Kernel7Ideal.Gen.frame m g

theorem frame_ref : Cert.quiescent_Reference7Ideal := fun m g _ =>
  (θ_run Cert.Reference7Ideal.defs _ _).mono (fun r h => ⟨fun c => (h c).2, sem_eq_zero_of_no_sems (by decide) r.2⟩) (Cert.Reference7Ideal.Value.run m g)

theorem preserves : Cert.preserves_Kernel7_Kernel7Ideal := trivial

theorem algebraic : Cert.algebraic_Kernel7Ideal_Reference7Ideal := by
  intro m g m' g' _ hagree
  refine ⟨fun c => (Kernel7Ideal.Gen.dats m 0 c).arrAt 3 Kernel7Ideal.cfg0.N, Kernel7Ideal.Value.run_blocks m g, ?_⟩
  refine (θ_run _ _ _).mono (fun r h c => ⟨(h c).1.trans ?_, (h c).2⟩) (Cert.Reference7Ideal.Value.run m' g')
  rw [(hagree c).1, (hagree c).2.1, (hagree c).2.2]
  exact (Reference7Ideal.Hand.out_eq _ _ _).trans (Kernel7Ideal.Hand.arr_eq m c).symm

end Cert.AttProjSample

end
-- ==== Proof.PostSample.LogSigmoid.lean ====
/-
  The logarithm of the logistic function over the extended reals, in the two forms the programs compute it.
-/
module

public import Idealize.ShloMosaic.PureOps.Ideal

@[expose] public section

noncomputable section

namespace Cert.LogSigmoid

open Idealize.ShloMosaic

/-- The logarithm of the logistic function at `z`, through the smaller of `z` and zero. -/
def logSig (z : EReal) : EReal := min z 0 - Ideal.log1p (Ideal.exp (0 - max z (-z)))

/-- The correction term is a real number at every `z`. -/
theorem correction_real (z : EReal) : ∃ l : ℝ, Ideal.log1p (Ideal.exp (0 - max z (-z))) = (l : EReal) := by
  have h0 : Ideal.log1p (Ideal.exp ⊥) = ((0 : ℝ) : EReal) := by
    unfold Ideal.log1p
    show Ideal.log (1 + 0) = _
    rw [add_zero, ← EReal.coe_one]
    show (if (1 : ℝ) ≤ 0 then ⊥ else (Real.log 1 : EReal)) = _
    rw [if_neg (by norm_num), Real.log_one]
  have hr (r : ℝ) : Ideal.log1p (Ideal.exp (r : EReal)) = ((Real.log (1 + Real.exp r) : ℝ) : EReal) := by
    unfold Ideal.log1p
    show Ideal.log (1 + (Real.exp r : EReal)) = _
    rw [← EReal.coe_one, ← EReal.coe_add]
    show (if 1 + Real.exp r ≤ 0 then ⊥ else (Real.log (1 + Real.exp r) : EReal)) = _
    rw [if_neg (by have := Real.exp_pos r; linarith)]
  induction z with
  | bot => exact ⟨0, by rw [EReal.neg_bot, max_eq_right bot_le, zero_sub, EReal.neg_top, h0]⟩
  | top => exact ⟨0, by rw [EReal.neg_top, max_eq_left bot_le, zero_sub, EReal.neg_top, h0]⟩
  | coe r =>
    rcases le_total r (-r) with h | h
    · exact ⟨_, by rw [← EReal.coe_neg, max_eq_right (EReal.coe_le_coe_iff.mpr h), zero_sub, ← EReal.coe_neg, hr]⟩
    · exact ⟨_, by rw [← EReal.coe_neg, max_eq_left (EReal.coe_le_coe_iff.mpr h), zero_sub, ← EReal.coe_neg, hr]⟩

/-- The form through the larger of `-z` and zero gives the same number. -/
theorem logSig_eq (z : EReal) : -(max (-z) 0 + Ideal.log1p (Ideal.exp (-(max (-z) (-(-z)))))) = logSig z := by
  unfold logSig
  obtain ⟨l, hl⟩ := correction_real z
  have e : -(max (-z) (-(-z))) = 0 - max z (-z) := by rw [neg_neg, max_comm, zero_sub]
  rw [e, hl, EReal.neg_add (Or.inr (EReal.coe_ne_top l)) (Or.inr (EReal.coe_ne_bot l))]
  congr 1
  rcases le_total z 0 with h | h
  · rw [max_eq_left (EReal.le_neg_of_le_neg (by rw [neg_zero]; exact h)), min_eq_left h, neg_neg]
  · rw [max_eq_right (by rw [EReal.neg_le, neg_zero]; exact h), min_eq_right h, neg_zero]

end Cert.LogSigmoid

end
-- ==== Proof.PostSample.Kernel.lean ====
/-
  The norm of the keys' heads and the log forget gates of the sample group: what the one grid point stores and the arrays that
  the run leaves.
-/
module

public import proofs.«01_k».proof.Proof.Gen.Kernel8Ideal.Value
public import proofs.«01_k».proof.Proof.InProj.Norm
public import proofs.«01_k».proof.Proof.PostSample.LogSigmoid
public import Idealize.ShloMosaic.Lib.Pointwise
public import Idealize.ShloMosaic.Lib.Pipeline.ValueKit
public import Idealize.ShloMosaic.Lib.Pipeline.Covers

@[expose] public section

noncomputable section

namespace Cert.Kernel8Ideal.Hand

open Cert.Kernel8Ideal Cert.Kernel8Ideal.Gen
open Idealize.ShloMosaic Idealize.ShloMosaic.TcCoe Idealize.ShloMosaic.Pointwise Idealize.SL.Sem

set_option maxRecDepth 16384

theorem hz : (![0, 0] : Fin 2 → Nat) = fun _ => 0 := funext fun a => by fin_cases a <;> rfl

theorem pay2_apply (v : S128x128.Idx → EReal) (g : S1x128.Idx → EReal) (r k : Fin 128) :
    k0_pay2 (F := Ideal) v g (ix2 r k) = Norm.headNormed (fun j => v (ix2 r j)) (fun j => g (ix2 0 j)) k := by
  pointwise [k0_pay2]
  rfl

/-- The normed keys as a function of the block's index. -/
def keys (x : S128x2048.Idx → EReal) (g : S1x128.Idx → EReal) : S128x2048.Idx → EReal := fun y =>
  Norm.headNormed (fun j => x (ix2 (y 0) ⟨(y 1).val / 128 * 128 + j.val, by have := (y 1).isLt; simp at this; omega⟩)) (fun j => g (ix2 0 j))
    ⟨(y 1).val % 128, by omega⟩

/-- One head's store agrees with it. -/
theorem piece_eq (x : S128x2048.Idx → EReal) (g : S1x128.Idx → EReal) (o : ℕ) (ho : o % 128 = 0) (inb inb')
    (y : S128x128.Idx) :
    k0_pay2 (F := Ideal) (View.ld x (Rect.unit (s := S128x2048) ![0, o] S128x128.size inb)) (View.ld g (Rect.unit (s := S1x128) ![0, 0] S1x128.size inb')) y
      = keys x g ((Rect.unit (s := S128x2048) ![0, o] S128x128.size inb).emb y) := by
  obtain ⟨r, k, rfl⟩ : ∃ r k : Fin 128, y = ix2 r k := ⟨y 0, y 1, eq_ix2 y⟩
  rw [pay2_apply]
  have h1 : o + 128 ≤ 2048 := inb 1
  have e1 : (((Rect.unit (s := S128x2048) ![0, o] S128x128.size inb).emb (ix2 r k)) 1).val = o + k.val := by
    show o + 1 * k.val = _; omega
  have e0 : ((Rect.unit (s := S128x2048) ![0, o] S128x128.size inb).emb (ix2 r k)) 0 = r := Fin.ext (by
    show 0 + 1 * r.val = _; omega)
  unfold keys
  have hk := k.isLt
  congr 1
  · funext j
    have hj := j.isLt
    refine congrArg x (funext fun a => Fin.ext ?_)
    fin_cases a
    · show 0 + 1 * r.val = _
      rw [e0]; show _ = r.val; omega
    · show o + 1 * j.val = _ / 128 * 128 + j.val
      rw [e1]; omega
  · funext j
    refine congrArg g (funext fun a => Fin.ext ?_)
    fin_cases a
    · rfl
    · show 0 + 1 * j.val = j.val
      omega
  · refine Fin.ext ?_
    show k.val = _ % 128
    rw [e1]; omega

set_option maxHeartbeats 1000000 in
theorem out8_eq (x0 x1 x2 : S128x2048.Idx → EReal) (x3 : S128x128.Idx → EReal) (x4 x5 x6 : S1x128.Idx → EReal) :
    out0_8 (F := Ideal) x0 x1 x2 x3 x4 x5 x6 = keys x1 x6 := by
  funext y
  unfold_out out0_8
  refine View.canon_apply_of_pieces (Val := Elt Ideal) (keys x1 x6) _ ?_ y (cover0_8 _ _ _ _ _ _ _ _ _ _ _ _ _ _ _ _ y)
  simp only [List.forall_mem_cons, List.not_mem_nil, false_imp_iff, implies_true, and_true]
  refine ⟨?_, ?_, ?_, ?_, ?_, ?_, ?_, ?_, ?_, ?_, ?_, ?_, ?_, ?_, ?_, ?_⟩ <;> exact fun z => piece_eq x1 x6 _ (by rfl) _ _ z

/-- The gates' payload, entry by entry. -/
theorem pay60_apply (f : S128x128.Idx → EReal) (b : S1x128.Idx → EReal) (r k : Fin 128) :
    k0_pay60 (F := Ideal) f b (ix2 r k) = LogSigmoid.logSig (f (ix2 r k) + b (ix2 0 k)) := by
  pointwise [k0_pay60]
  rfl

theorem out11_eq (x0 x1 x2 : S128x2048.Idx → EReal) (x3 : S128x128.Idx → EReal) (x4 x5 x6 : S1x128.Idx → EReal) :
    out0_11 (F := Ideal) x0 x1 x2 x3 x4 x5 x6 = k0_pay60 (F := Ideal) x3 x4 := by
  unfold_out out0_11
  rw [View.canon_unit_zero hz]
  simp only [View.ld_unit_zero (S := S128x128) hz, View.ld_unit_zero (S := S1x128) hz]

variable (m : (ℓ : Loc nD τ sig) → Buf (Elt Ideal) ℓ) (c : Dev nD)

theorem entry_g (k : Fin 128) : (V m c main_v2 : S1x128.Idx → EReal) (ix2 0 k) = (m ((c : Thread nD τ).loc main_arg4) : S128.Idx → EReal) (ix1 k) := by
  entry_read
  pointwise

theorem entry_b (k : Fin 128) : (V m c main_v0 : S1x128.Idx → EReal) (ix2 0 k) = (m ((c : Thread nD τ).loc main_arg2) : S128.Idx → EReal) (ix1 k) := by
  entry_read
  pointwise

/-- The arguments as functions of their indices. -/
abbrev argP : S128x6144.Idx → EReal := m ((c : Thread nD τ).loc main_arg0)
abbrev argF : S128x128.Idx → EReal := m ((c : Thread nD τ).loc main_arg1)
abbrev argB : S128.Idx → EReal := m ((c : Thread nD τ).loc main_arg2)
abbrev argG : S128.Idx → EReal := m ((c : Thread nD τ).loc main_arg4)

theorem idx1 (t : Fin cfg0.N) : win0_1.index t = ![0, 1] := by
  revert t; decide +kernel
theorem idx3 (t : Fin cfg0.N) : win0_3.index t = ![0, 0] := by
  revert t; decide +kernel
theorem idx4 (t : Fin cfg0.N) : win0_4.index t = ![0, 0] := by
  revert t; decide +kernel
theorem idx6 (t : Fin cfg0.N) : win0_6.index t = ![0, 0] := by
  revert t; decide +kernel
theorem idx8 (t : Fin cfg0.N) : win0_8.index t = ![0, 0] := by
  revert t; decide +kernel
theorem idx11 (t : Fin cfg0.N) : win0_11.index t = ![0, 0] := by
  revert t; decide +kernel

theorem entry_p : (V m c main_arg0 : S128x6144.Idx → EReal) = argP m c := V_main_arg0 m c
theorem entry_f : (V m c main_arg1 : S128x128.Idx → EReal) = argF m c := V_main_arg1 m c

theorem iblk_p (t : Fin cfg0.N) (r : Fin 128) (k : Fin 2048) (h) : (iblk m c 1 t : S128x2048.Idx → EReal) (ix2 r k)
    = argP m c (ix2 r ⟨2048 + k.val, h⟩) := by
  rw [← entry_p]
  blk_ext [iblk, idx1 t]

theorem iblk_f (t : Fin cfg0.N) (r k : Fin 128) : (iblk m c 3 t : S128x128.Idx → EReal) (ix2 r k) = argF m c (ix2 r k) := by
  rw [← entry_f]
  blk_ext [iblk, idx3 t]

theorem iblk_b (t : Fin cfg0.N) (k : Fin 128) : (iblk m c 4 t : S1x128.Idx → EReal) (ix2 0 k) = argB m c (ix1 k) := by
  refine Eq.trans ?_ (entry_b m c k)
  blk_ext [iblk, idx4 t]

theorem iblk_g (t : Fin cfg0.N) (k : Fin 128) : (iblk m c 6 t : S1x128.Idx → EReal) (ix2 0 k) = argG m c (ix1 k) := by
  refine Eq.trans ?_ (entry_g m c k)
  blk_ext [iblk, idx6 t]

/-- The keys' heads, each normed: columns 2048 to 4095 of the projection. -/
def outK (P : S128x6144.Idx → EReal) (G : S128.Idx → EReal) : S128x2048.Idx → EReal := fun y =>
  Norm.headNormed (fun j => P (ix2 (y 0) ⟨2048 + ((y 1).val / 128 * 128 + j.val), by have := (y 1).isLt; simp at this; omega⟩))
    (fun j => G (ix1 j)) ⟨(y 1).val % 128, by omega⟩

/-- The log forget gates. -/
def outF (f : S128x128.Idx → EReal) (b : S128.Idx → EReal) : S128x128.Idx → EReal := fun y =>
  LogSigmoid.logSig (f y + b (ix1 (y 1)))

/-- What the run leaves in the keys' array. -/
theorem arr_k : (dats m 0 c).arrAt 8 cfg0.N = outK (argP m c) (argG m c) := by
  refine (dats m 0 c).arrAt_eq_of_covers 8 _ (by decide +kernel) fun t hf y => ?_
  obtain ⟨r, e, rfl⟩ : ∃ (r : Fin 128) (e : Fin 2048), y = ix2 r e := ⟨y 0, y 1, eq_ix2 y⟩
  have e0 : (win0_8.blk t).view.emb (ix2 r e) = (ix2 r e : S128x2048.Idx) := funext fun a => Fin.ext (by
    fin_cases a
    · show (win0_8.index t 0) * 128 + 1 * r.val = r.val
      rw [idx8]; simp
    · show (win0_8.index t 1) * 2048 + 1 * e.val = e.val
      rw [idx8]; simp)
  have ha : ((dats m 0 c).after 8 t : S128x2048.Idx → EReal) = keys (iblk m c 1 t : S128x2048.Idx → EReal) (iblk m c 6 t : S1x128.Idx → EReal) := by
    rw [after0_8]
    exact out8_eq _ _ _ _ _ _ _
  refine (congrFun ha (ix2 r e)).trans ?_
  show _ = outK _ _ ((win0_8.blk t).view.emb (ix2 r e))
  rw [e0]
  unfold keys outK
  congr 1
  · funext j
    exact iblk_p m c t r _ _
  · funext j
    exact iblk_g m c t j

/-- What the run leaves in the gates' array. -/
theorem arr_f : (dats m 0 c).arrAt 11 cfg0.N = outF (argF m c) (argB m c) := by
  refine (dats m 0 c).arrAt_eq_of_covers 11 _ (by decide +kernel) fun t hf y => ?_
  obtain ⟨r, e, rfl⟩ : ∃ (r e : Fin 128), y = ix2 r e := ⟨y 0, y 1, eq_ix2 y⟩
  have e0 : (win0_11.blk t).view.emb (ix2 r e) = (ix2 r e : S128x128.Idx) := funext fun a => Fin.ext (by
    fin_cases a
    · show (win0_11.index t 0) * 128 + 1 * r.val = r.val
      rw [idx11]; simp
    · show (win0_11.index t 1) * 128 + 1 * e.val = e.val
      rw [idx11]; simp)
  have ha : ((dats m 0 c).after 11 t : S128x128.Idx → EReal) = k0_pay60 (F := Ideal) (iblk m c 3 t : S128x128.Idx → EReal) (iblk m c 4 t : S1x128.Idx → EReal) := by
    rw [after0_11]
    exact out11_eq _ _ _ _ _ _ _
  refine (congrFun ha (ix2 r e)).trans ?_
  show _ = outF _ _ ((win0_11.blk t).view.emb (ix2 r e))
  rw [e0, pay60_apply, iblk_f, iblk_b]
  rfl

end Cert.Kernel8Ideal.Hand

end
-- ==== Proof.PostSample.Ref.lean ====
/-
  The reference's normed keys and log forget gates of the sample group, entry by entry.
-/
module

public import proofs.«01_k».proof.Proof.PostSample.Kernel
public import proofs.«01_k».proof.Proof.Gen.Reference8Ideal.Run
public import Idealize.ShloMosaic.Lib.Pointwise

@[expose] public section

noncomputable section

namespace Cert.Reference8Ideal.Hand

open Cert.Reference8Ideal Cert.Reference8Ideal.Gen
open Idealize.ShloMosaic Idealize.ShloMosaic.TcCoe Idealize.ShloMosaic.Pointwise Idealize.SL.Sem

set_option maxRecDepth 16384

variable (P : S128x6144.Idx → EReal) (f : S128x128.Idx → EReal) (b g : S128.Idx → EReal)

/-- The normed keys. -/
def keys : S128x2048.Idx → EReal :=
  shapeCast _ (mulf (F := Ideal) (φ := .f32) (mulf (F := Ideal) (φ := .f32) (shapeCast _ (extractStridedSlice S128x2048 ![0, 2048] P slices_S128x6144_S128x2048_0_2048) shapeCasts_S128x2048_S128x16x128) (broadcastInDim S128x16x128 ![0, 1, 2] bcast_S128x16x1_S128x16x128_0_1_2 (Host.rsqrt (addf (Host.divf (broadcastInDim S128x16x1 ![0, 1] bcast_S128x16_S128x16x1_0_1 (Host.reduceAdd (F := Ideal) (φ := .f32) (mulf (shapeCast _ (extractStridedSlice S128x2048 ![0, 2048] P slices_S128x6144_S128x2048_0_2048) shapeCasts_S128x2048_S128x16x128) (shapeCast _ (extractStridedSlice S128x2048 ![0, 2048] P slices_S128x6144_S128x2048_0_2048) shapeCasts_S128x2048_S128x16x128)) (constant S_ .f32 0x00000000#32) reducesTo_S128x16x128_S128x16_d2 h_S_)) (broadcastInDim S128x16x1 ![] bcast_S_S128x16x1 (constant S_ .f32 0x43000000#32))) (broadcastInDim S128x16x1 ![] bcast_S_S128x16x1 (constant S_ .f32 0x358637BD#32)))))) (broadcastInDim S128x16x128 ![0, 1, 2] bcast_S1x1x128_S128x16x128_0_1_2 (broadcastInDim S1x1x128 ![2] bcast_S128_S1x1x128_2 g))) shapeCasts_S128x16x128_S128x2048

/-- The log forget gates. -/
def gates : S128x128.Idx → EReal :=
  Host.negf (F := Ideal) (φ := .f32) (select (cmpf .une (subf (Host.negf (F := Ideal) (φ := .f32) (addf f (broadcastInDim S128x128 ![0, 1] bcast_S1x128_S128x128_0_1 (broadcastInDim S1x128 ![1] bcast_S128_S1x128_1 b)))) (broadcastInDim S128x128 ![] bcast_S_S128x128 (constant S_ .f32 0x00000000#32))) (subf (Host.negf (F := Ideal) (φ := .f32) (addf f (broadcastInDim S128x128 ![0, 1] bcast_S1x128_S128x128_0_1 (broadcastInDim S1x128 ![1] bcast_S128_S1x128_1 b)))) (broadcastInDim S128x128 ![] bcast_S_S128x128 (constant S_ .f32 0x00000000#32)))) (addf (Host.negf (F := Ideal) (φ := .f32) (addf f (broadcastInDim S128x128 ![0, 1] bcast_S1x128_S128x128_0_1 (broadcastInDim S1x128 ![1] bcast_S128_S1x128_1 b)))) (broadcastInDim S128x128 ![] bcast_S_S128x128 (constant S_ .f32 0x00000000#32))) (addf (maximumf (Host.negf (F := Ideal) (φ := .f32) (addf f (broadcastInDim S128x128 ![0, 1] bcast_S1x128_S128x128_0_1 (broadcastInDim S1x128 ![1] bcast_S128_S1x128_1 b)))) (broadcastInDim S128x128 ![] bcast_S_S128x128 (constant S_ .f32 0x00000000#32))) (Host.log1p (Host.exp (Host.negf (Host.absf (subf (Host.negf (F := Ideal) (φ := .f32) (addf f (broadcastInDim S128x128 ![0, 1] bcast_S1x128_S128x128_0_1 (broadcastInDim S1x128 ![1] bcast_S128_S1x128_1 b)))) (broadcastInDim S128x128 ![] bcast_S_S128x128 (constant S_ .f32 0x00000000#32)))))))))

theorem keys_apply (r : Fin 128) (e : Fin 2048) : keys P g (ix2 r e)
    = P (ix2 r ⟨2048 + e.val, by omega⟩) * Ideal.rsqrt (Ideal.div (∑ j : Fin 128, P (ix2 r ⟨2048 + (e.val / 128 * 128 + j.val), by omega⟩) * P (ix2 r ⟨2048 + (e.val / 128 * 128 + j.val), by omega⟩))
        (Ideal.ofBits .f32 0x43000000#32) + Ideal.ofBits .f32 0x358637BD#32) * g (ix1 ⟨e.val % 128, by omega⟩) := by
  pointwise [keys]

theorem gates_apply (r k : Fin 128) : gates f b (ix2 r k) = LogSigmoid.logSig (f (ix2 r k) + b (ix1 k)) := by
  rw [← LogSigmoid.logSig_eq]
  pointwise [gates]
  rw [if_neg (fun h => h rfl)]
  rfl

/-- The normed keys are the kernel's. -/
theorem keys_eq : keys P g = Kernel8Ideal.Hand.outK P g := by
  funext i
  obtain ⟨r, e, rfl⟩ : ∃ (r : Fin 128) (e : Fin 2048), i = ix2 r e := ⟨i 0, i 1, eq_ix2 i⟩
  rw [keys_apply]
  show _ = Norm.headNormed _ _ _
  unfold Norm.headNormed
  have h : P (ix2 r ⟨2048 + e.val, by omega⟩) = P (ix2 r ⟨2048 + (e.val / 128 * 128 + e.val % 128), by omega⟩) :=
    congrArg (fun j => P (ix2 r j)) (Fin.ext (by show 2048 + e.val = 2048 + (e.val / 128 * 128 + e.val % 128); omega))
  rw [h]
  rfl

/-- The log forget gates are the kernel's. -/
theorem gates_eq : gates f b = Kernel8Ideal.Hand.outF f b := by
  funext i
  obtain ⟨r, e, rfl⟩ : ∃ (r e : Fin 128), i = ix2 r e := ⟨i 0, i 1, eq_ix2 i⟩
  exact gates_apply f b r e

end Cert.Reference8Ideal.Hand

end
-- ==== Proof.PostSample.Claims.lean ====
/-
  The claims about the sample group's normed keys and log forget gates.
-/
module

public import proofs.«01_k».proof.Defs
public import proofs.«01_k».proof.Proof.PostSample.Kernel
public import proofs.«01_k».proof.Proof.PostSample.Ref
public import proofs.«01_k».proof.Proof.Gen.Kernel8.Frame
public import Idealize.ShloMosaic.Lib.Quiescent

@[expose] public section

noncomputable section

namespace Cert.PostSample

open Idealize.ShloMosaic Idealize.ShloMosaic.TcCoe Idealize.SL.Sem

theorem frame_kernel : Cert.quiescent_Kernel8 := fun m g _ => Cert.Kernel8.Gen.frame m g

theorem frame_ideal : Cert.quiescent_Kernel8Ideal := fun m g _ => Cert.Kernel8Ideal.Gen.frame m g

theorem frame_ref : Cert.quiescent_Reference8Ideal := fun m g _ =>
  (θ_run Cert.Reference8Ideal.defs _ _).mono (fun r h => ⟨fun c => (h c).2.2, sem_eq_zero_of_no_sems (by decide) r.2⟩) (Cert.Reference8Ideal.Value.run m g)

theorem preserves : Cert.preserves_Kernel8_Kernel8Ideal := trivial

theorem algebraic : Cert.algebraic_Kernel8Ideal_Reference8Ideal := by
  intro m g m' g' _ hagree
  refine ⟨fun c => (Kernel8Ideal.Gen.dats m 0 c).arrAt 8 Kernel8Ideal.cfg0.N, fun c => (Kernel8Ideal.Gen.dats m 0 c).arrAt 11 Kernel8Ideal.cfg0.N,
    (θ_run _ _ _).mono (fun _ h c => ⟨(h c).2.1, (h c).2.2.2.2.1, (h c).2.2.2.2.2⟩) (Kernel8Ideal.Value.run_blocks m g), ?_⟩
  refine (θ_run _ _ _).mono (fun r h c => ⟨(h c).1.trans ?_, (h c).2.1.trans ?_, (h c).2.2⟩) (Cert.Reference8Ideal.Value.run m' g')
  · rw [(hagree c).1, (hagree c).2.2.2.2]
    exact (Reference8Ideal.Hand.keys_eq _ _).trans (Kernel8Ideal.Hand.arr_k m c).symm
  · rw [(hagree c).2.1, (hagree c).2.2.1]
    exact (Reference8Ideal.Hand.gates_eq _ _).trans (Kernel8Ideal.Hand.arr_f m c).symm

end Cert.PostSample

end
-- ==== Proof.PostPrompt.Kernel.lean ====
/-
  The norm of the keys' heads and the log forget gates of the prompt: what each grid point stores and the arrays that
  the run leaves.
-/
module

public import proofs.«01_k».proof.Proof.Gen.Kernel9Ideal.Value
public import proofs.«01_k».proof.Proof.InProj.Norm
public import proofs.«01_k».proof.Proof.PostSample.LogSigmoid
public import Idealize.ShloMosaic.Lib.Pointwise
public import Idealize.ShloMosaic.Lib.Pipeline.ValueKit
public import Idealize.ShloMosaic.Lib.Pipeline.Covers

@[expose] public section

noncomputable section

namespace Cert.Kernel9Ideal.Hand

open Cert.Kernel9Ideal Cert.Kernel9Ideal.Gen
open Idealize.ShloMosaic Idealize.ShloMosaic.TcCoe Idealize.ShloMosaic.Pointwise Idealize.SL.Sem

set_option maxRecDepth 16384

theorem hz : (![0, 0] : Fin 2 → Nat) = fun _ => 0 := funext fun a => by fin_cases a <;> rfl

theorem pay5_apply (v : S256x128.Idx → EReal) (g : S1x128.Idx → EReal) (r : Fin 256) (k : Fin 128) :
    k0_pay5 (F := Ideal) v g (ix2 r k) = Norm.headNormed (fun j => v (ix2 r j)) (fun j => g (ix2 0 j)) k := by
  pointwise [k0_pay5]
  rfl

/-- The normed keys as a function of the block's index. -/
def keys (x : S256x2048.Idx → EReal) (g : S1x128.Idx → EReal) : S256x2048.Idx → EReal := fun y =>
  Norm.headNormed (fun j => x (ix2 (y 0) ⟨(y 1).val / 128 * 128 + j.val, by have := (y 1).isLt; simp at this; omega⟩)) (fun j => g (ix2 0 j))
    ⟨(y 1).val % 128, by omega⟩

/-- One head's store agrees with it. -/
theorem piece_eq (x : S256x2048.Idx → EReal) (g : S1x128.Idx → EReal) (o : ℕ) (ho : o % 128 = 0) (inb inb')
    (y : S256x128.Idx) :
    k0_pay5 (F := Ideal) (View.ld x (Rect.unit (s := S256x2048) ![0, o] S256x128.size inb)) (View.ld g (Rect.unit (s := S1x128) ![0, 0] S1x128.size inb')) y
      = keys x g ((Rect.unit (s := S256x2048) ![0, o] S256x128.size inb).emb y) := by
  obtain ⟨r, k, rfl⟩ : ∃ (r : Fin 256) (k : Fin 128), y = ix2 r k := ⟨y 0, y 1, eq_ix2 y⟩
  rw [pay5_apply]
  have h1 : o + 128 ≤ 2048 := inb 1
  have e1 : (((Rect.unit (s := S256x2048) ![0, o] S256x128.size inb).emb (ix2 r k)) 1).val = o + k.val := by
    show o + 1 * k.val = _; omega
  have e0 : ((Rect.unit (s := S256x2048) ![0, o] S256x128.size inb).emb (ix2 r k)) 0 = r := Fin.ext (by
    show 0 + 1 * r.val = _; omega)
  unfold keys
  have hk := k.isLt
  congr 1
  · funext j
    have hj := j.isLt
    refine congrArg x (funext fun a => Fin.ext ?_)
    fin_cases a
    · show 0 + 1 * r.val = _
      rw [e0]; show _ = r.val; omega
    · show o + 1 * j.val = _ / 128 * 128 + j.val
      rw [e1]; omega
  · funext j
    refine congrArg g (funext fun a => Fin.ext ?_)
    fin_cases a
    · rfl
    · show 0 + 1 * j.val = j.val
      omega
  · refine Fin.ext ?_
    show k.val = _ % 128
    rw [e1]; omega

/-- The gates' payload, entry by entry. -/
theorem pay83_apply (f : S256x128.Idx → EReal) (b : S1x128.Idx → EReal) (r : Fin 256) (k : Fin 128) :
    k0_pay83 (F := Ideal) (k0_pay81 f b) (k0_pay82 f b) (ix2 r k) = LogSigmoid.logSig (f (ix2 r k) + b (ix2 0 k)) := by
  pointwise [k0_pay83, k0_pay82, k0_pay81]
  rfl

section points

variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S256x2048 .f32) (h3 : a3.IsWhole)
  (a4 : Memref sig .tc .vmem S256x128 .f32) (h4 : a4.IsWhole)
  (a5 : Memref sig .tc .vmem S1x128 .f32) (h5 : a5.IsWhole)
  (a6 : Memref sig .tc .vmem S1x128 .f32) (h6 : a6.IsWhole)
  (a7 : Memref sig .tc .vmem S1x128 .f32) (h7 : a7.IsWhole)
  (a8 : Memref sig .tc .vmem S256x2048 .bf16) (h8 : a8.IsWhole)
  (a9 : Memref sig .tc .vmem S256x2048 .f32) (h9 : a9.IsWhole)
  (a10 : Memref sig .tc .vmem S256x2048 .bf16) (h10 : a10.IsWhole)
  (a11 : Memref sig .tc .vmem S2048x256 .bf16) (h11 : a11.IsWhole)
  (a12 : Memref sig .tc .vmem S256x128 .f32) (h12 : a12.IsWhole)
  (a13 : Memref sig .tc .vmem S16x256x128 .f32) (h13 : a13.IsWhole)
  (a14 : Memref sig .tc .vmem S256x2048 .f32) (h14 : a14.IsWhole)
  (a15 : Memref sig .tc .vmem S1x128 .f32) (h15 : a15.IsWhole)
  (x0 x1 x2 : S256x2048.Idx → EReal) (x3 : S256x128.Idx → EReal) (x4 x5 x6 s : S1x128.Idx → EReal)

set_option maxHeartbeats 1000000

theorem keys_A (hc : cond0_0 i) : out0_A_8 (F := Ideal) c i a1 h1 a2 h2 a3 h3 a4 h4 a5 h5 a6 h6 a7 h7 a8 h8 a9 h9 a10 h10 a11 h11 a12 h12 a13 h13 a14 h14 a15 h15 hc x0 x1 x2 x3 x4 x5 x6 = keys x1 x6 := by
  unfold out0_A_8
  rw [View.read_writes_eq_canon _ _ _ (cover0_A_8 (F := Ideal) c i a1 h1 a2 h2 a3 h3 a4 h4 a5 h5 a6 h6 a7 h7 a8 h8 a9 h9 a10 h10 a11 h11 a12 h12 a13 h13 a14 h14 a15 h15 hc x0 x1 x2 x3 x4 x5 x6)]
  funext y
  refine View.canon_apply_of_pieces (Val := Elt Ideal) (keys x1 x6) _ ?_ y (cover0_A_8 (F := Ideal) c i a1 h1 a2 h2 a3 h3 a4 h4 a5 h5 a6 h6 a7 h7 a8 h8 a9 h9 a10 h10 a11 h11 a12 h12 a13 h13 a14 h14 a15 h15 hc x0 x1 x2 x3 x4 x5 x6 y)
  unfold kernelRun0_A
  dsimp only
  sl_unfold_words
  simp only [View.readAt_eq_ld, h2.read_unread, h7.read_unread, List.forall_mem_cons, List.not_mem_nil, false_imp_iff, implies_true, and_true]
  refine ⟨?_, ?_, ?_, ?_, ?_, ?_, ?_, ?_, ?_, ?_, ?_, ?_, ?_, ?_, ?_, ?_⟩ <;> exact fun z => piece_eq x1 x6 _ (by rfl) _ _ z

theorem gates_A (hc : cond0_0 i) : out0_A_11 (F := Ideal) c i a1 h1 a2 h2 a3 h3 a4 h4 a5 h5 a6 h6 a7 h7 a8 h8 a9 h9 a10 h10 a11 h11 a12 h12 a13 h13 a14 h14 a15 h15 hc x0 x1 x2 x3 x4 x5 x6 = k0_pay83 (F := Ideal) (k0_pay81 x3 x4) (k0_pay82 x3 x4) := by
  unfold out0_A_11
  rw [View.read_writes_eq_canon _ _ _ (cover0_A_11 (F := Ideal) c i a1 h1 a2 h2 a3 h3 a4 h4 a5 h5 a6 h6 a7 h7 a8 h8 a9 h9 a10 h10 a11 h11 a12 h12 a13 h13 a14 h14 a15 h15 hc x0 x1 x2 x3 x4 x5 x6)]
  unfold kernelRun0_A
  dsimp only
  sl_unfold_words
  rw [View.canon_unit_zero hz]
  simp only [View.readAt_eq_ld, h4.read_unread, h5.read_unread, View.ld_unit_zero (S := S256x128) hz, View.ld_unit_zero (S := S1x128) hz]

theorem keys_B (hc : ¬cond0_0 i) : out0_B_8 (F := Ideal) c i a1 h1 a2 h2 a3 h3 a4 h4 a5 h5 a6 h6 a7 h7 a8 h8 a9 h9 a10 h10 a11 h11 a12 h12 a13 h13 a14 h14 a15 h15 hc x0 x1 x2 x3 x4 x5 x6 s = keys x1 x6 := by
  unfold out0_B_8
  rw [View.read_writes_eq_canon _ _ _ (cover0_B_8 (F := Ideal) c i a1 h1 a2 h2 a3 h3 a4 h4 a5 h5 a6 h6 a7 h7 a8 h8 a9 h9 a10 h10 a11 h11 a12 h12 a13 h13 a14 h14 a15 h15 hc x0 x1 x2 x3 x4 x5 x6 s)]
  funext y
  refine View.canon_apply_of_pieces (Val := Elt Ideal) (keys x1 x6) _ ?_ y (cover0_B_8 (F := Ideal) c i a1 h1 a2 h2 a3 h3 a4 h4 a5 h5 a6 h6 a7 h7 a8 h8 a9 h9 a10 h10 a11 h11 a12 h12 a13 h13 a14 h14 a15 h15 hc x0 x1 x2 x3 x4 x5 x6 s y)
  unfold kernelRun0_B
  dsimp only
  sl_unfold_words
  simp only [View.readAt_eq_ld, h2.read_unread, h7.read_unread, List.forall_mem_cons, List.not_mem_nil, false_imp_iff, implies_true, and_true]
  refine ⟨?_, ?_, ?_, ?_, ?_, ?_, ?_, ?_, ?_, ?_, ?_, ?_, ?_, ?_, ?_, ?_⟩ <;> exact fun z => piece_eq x1 x6 _ (by rfl) _ _ z

theorem gates_B (hc : ¬cond0_0 i) : out0_B_11 (F := Ideal) c i a1 h1 a2 h2 a3 h3 a4 h4 a5 h5 a6 h6 a7 h7 a8 h8 a9 h9 a10 h10 a11 h11 a12 h12 a13 h13 a14 h14 a15 h15 hc x0 x1 x2 x3 x4 x5 x6 s = k0_pay83 (F := Ideal) (k0_pay81 x3 x4) (k0_pay82 x3 x4) := by
  unfold out0_B_11
  rw [View.read_writes_eq_canon _ _ _ (cover0_B_11 (F := Ideal) c i a1 h1 a2 h2 a3 h3 a4 h4 a5 h5 a6 h6 a7 h7 a8 h8 a9 h9 a10 h10 a11 h11 a12 h12 a13 h13 a14 h14 a15 h15 hc x0 x1 x2 x3 x4 x5 x6 s)]
  unfold kernelRun0_B
  dsimp only
  sl_unfold_words
  rw [View.canon_unit_zero hz]
  simp only [View.readAt_eq_ld, h4.read_unread, h5.read_unread, View.ld_unit_zero (S := S256x128) hz, View.ld_unit_zero (S := S1x128) hz]

end points

variable (m : (ℓ : Loc nD τ sig) → Buf (Elt Ideal) ℓ) (c : Dev nD)

theorem entry_g (k : Fin 128) : (V m c main_v2 : S1x128.Idx → EReal) (ix2 0 k) = (m ((c : Thread nD τ).loc main_arg4) : S128.Idx → EReal) (ix1 k) := by
  entry_read
  pointwise

theorem entry_b (k : Fin 128) : (V m c main_v0 : S1x128.Idx → EReal) (ix2 0 k) = (m ((c : Thread nD τ).loc main_arg2) : S128.Idx → EReal) (ix1 k) := by
  entry_read
  pointwise

/-- The arguments as functions of their indices. -/
abbrev argP : S8192x6144.Idx → EReal := m ((c : Thread nD τ).loc main_arg0)
abbrev argF : S8192x128.Idx → EReal := m ((c : Thread nD τ).loc main_arg1)
abbrev argB : S128.Idx → EReal := m ((c : Thread nD τ).loc main_arg2)
abbrev argG : S128.Idx → EReal := m ((c : Thread nD τ).loc main_arg4)

theorem idx1 (t : Fin cfg0.N) : win0_1.index t = ![t.val, 1] := by
  revert t; decide +kernel
theorem idx3 (t : Fin cfg0.N) : win0_3.index t = ![t.val, 0] := by
  revert t; decide +kernel
theorem idx4 (t : Fin cfg0.N) : win0_4.index t = ![0, 0] := by
  revert t; decide +kernel
theorem idx6 (t : Fin cfg0.N) : win0_6.index t = ![0, 0] := by
  revert t; decide +kernel
theorem idx8 (t : Fin cfg0.N) : win0_8.index t = ![t.val, 0] := by
  revert t; decide +kernel
theorem idx11 (t : Fin cfg0.N) : win0_11.index t = ![t.val, 0] := by
  revert t; decide +kernel

theorem point_lt (t : Fin cfg0.N) : t.val < 32 := lt_of_lt_of_eq t.isLt (show cfg0.N = 32 from N_0)

theorem entry_p : (V m c main_arg0 : S8192x6144.Idx → EReal) = argP m c := V_main_arg0 m c
theorem entry_f : (V m c main_arg1 : S8192x128.Idx → EReal) = argF m c := V_main_arg1 m c

theorem iblk_p (t : Fin cfg0.N) (r : Fin 256) (k : Fin 2048) (hr) (h) : (iblk m c 1 t : S256x2048.Idx → EReal) (ix2 r k)
    = argP m c (ix2 ⟨256 * t.val + r.val, hr⟩ ⟨2048 + k.val, h⟩) := by
  rw [← entry_p]
  blk_ext [iblk, idx1 t]

theorem iblk_f (t : Fin cfg0.N) (r : Fin 256) (k : Fin 128) (hr) : (iblk m c 3 t : S256x128.Idx → EReal) (ix2 r k) = argF m c (ix2 ⟨256 * t.val + r.val, hr⟩ k) := by
  rw [← entry_f]
  blk_ext [iblk, idx3 t]

theorem iblk_b (t : Fin cfg0.N) (k : Fin 128) : (iblk m c 4 t : S1x128.Idx → EReal) (ix2 0 k) = argB m c (ix1 k) := by
  refine Eq.trans ?_ (entry_b m c k)
  blk_ext [iblk, idx4 t]

theorem iblk_g (t : Fin cfg0.N) (k : Fin 128) : (iblk m c 6 t : S1x128.Idx → EReal) (ix2 0 k) = argG m c (ix1 k) := by
  refine Eq.trans ?_ (entry_g m c k)
  blk_ext [iblk, idx6 t]

/-- The keys' heads, each normed: columns 2048 to 4095 of the projection. -/
def outK (P : S8192x6144.Idx → EReal) (G : S128.Idx → EReal) : S8192x2048.Idx → EReal := fun y =>
  Norm.headNormed (fun j => P (ix2 (y 0) ⟨2048 + ((y 1).val / 128 * 128 + j.val), by have := (y 1).isLt; simp at this; omega⟩))
    (fun j => G (ix1 j)) ⟨(y 1).val % 128, by omega⟩

/-- The log forget gates. -/
def outF (f : S8192x128.Idx → EReal) (b : S128.Idx → EReal) : S8192x128.Idx → EReal := fun y =>
  LogSigmoid.logSig (f y + b (ix1 (y 1)))

/-- What a point leaves in the keys' block. -/
theorem after_keys (t : Fin cfg0.N) : ((dats m 0 c).after 8 t : S256x2048.Idx → EReal) = keys (iblk m c 1 t : S256x2048.Idx → EReal) (iblk m c 6 t : S1x128.Idx → EReal) := by
  rw [after0_8]
  by_cases h0 : t.val % 32 = 0
  · rw [outsAt0_A m c t h0]
    dsimp only
    exact keys_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) ((hcond0_0 t).mpr h0)
  · rw [outsAt0_B m c t h0]
    dsimp only
    exact keys_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2.2 (fun h => h0 ((hcond0_0 t).mp h))

/-- What the run leaves in the keys' array. -/
theorem arr_k : (dats m 0 c).arrAt 8 cfg0.N = outK (argP m c) (argG m c) := by
  refine (dats m 0 c).arrAt_eq_of_covers 8 _ (by decide +kernel) fun t hf y => ?_
  have hN := point_lt t
  obtain ⟨r, e, rfl⟩ : ∃ (r : Fin 256) (e : Fin 2048), y = ix2 r e := ⟨y 0, y 1, eq_ix2 y⟩
  have e0 : (win0_8.blk t).view.emb (ix2 r e) = (ix2 ⟨256 * t.val + r.val, by omega⟩ e : S8192x2048.Idx) := funext fun a => Fin.ext (by
    fin_cases a
    · show (win0_8.index t 0) * 256 + 1 * r.val = 256 * t.val + r.val
      rw [idx8]; simp; omega
    · show (win0_8.index t 1) * 2048 + 1 * e.val = e.val
      rw [idx8]; simp)
  have ha := after_keys m c t
  refine (congrFun ha (ix2 r e)).trans ?_
  show _ = outK _ _ ((win0_8.blk t).view.emb (ix2 r e))
  rw [e0]
  unfold keys outK
  congr 1
  · funext j
    exact iblk_p m c t r _ _ _
  · funext j
    exact iblk_g m c t j

/-- What a point leaves in the gates' block. -/
theorem after_gates (t : Fin cfg0.N) : ((dats m 0 c).after 11 t : S256x128.Idx → EReal)
      = k0_pay83 (F := Ideal) (k0_pay81 (iblk m c 3 t : S256x128.Idx → EReal) (iblk m c 4 t : S1x128.Idx → EReal)) (k0_pay82 (iblk m c 3 t : S256x128.Idx → EReal) (iblk m c 4 t : S1x128.Idx → EReal)) := by
  rw [after0_11]
  by_cases h0 : t.val % 32 = 0
  · rw [outsAt0_A m c t h0]
    dsimp only
    exact gates_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) ((hcond0_0 t).mpr h0)
  · rw [outsAt0_B m c t h0]
    dsimp only
    exact gates_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2.2 (fun h => h0 ((hcond0_0 t).mp h))

/-- What the run leaves in the gates' array. -/
theorem arr_f : (dats m 0 c).arrAt 11 cfg0.N = outF (argF m c) (argB m c) := by
  refine (dats m 0 c).arrAt_eq_of_covers 11 _ (by decide +kernel) fun t hf y => ?_
  have hN := point_lt t
  obtain ⟨r, e, rfl⟩ : ∃ (r : Fin 256) (e : Fin 128), y = ix2 r e := ⟨y 0, y 1, eq_ix2 y⟩
  have e0 : (win0_11.blk t).view.emb (ix2 r e) = (ix2 ⟨256 * t.val + r.val, by omega⟩ e : S8192x128.Idx) := funext fun a => Fin.ext (by
    fin_cases a
    · show (win0_11.index t 0) * 256 + 1 * r.val = 256 * t.val + r.val
      rw [idx11]; simp; omega
    · show (win0_11.index t 1) * 128 + 1 * e.val = e.val
      rw [idx11]; simp)
  have ha := after_gates m c t
  refine (congrFun ha (ix2 r e)).trans ?_
  show _ = outF _ _ ((win0_11.blk t).view.emb (ix2 r e))
  rw [e0, pay83_apply, iblk_f m c t r e (by omega), iblk_b]
  rfl

end Cert.Kernel9Ideal.Hand

end
-- ==== Proof.PostPrompt.Ref.lean ====
/-
  The reference's normed keys and log forget gates of the prompt, entry by entry.
-/
module

public import proofs.«01_k».proof.Proof.PostPrompt.Kernel
public import proofs.«01_k».proof.Proof.Gen.Reference9Ideal.Run
public import Idealize.ShloMosaic.Lib.Pointwise

@[expose] public section

noncomputable section

namespace Cert.Reference9Ideal.Hand

open Cert.Reference9Ideal Cert.Reference9Ideal.Gen
open Idealize.ShloMosaic Idealize.ShloMosaic.TcCoe Idealize.ShloMosaic.Pointwise Idealize.SL.Sem

set_option maxRecDepth 16384

variable (P : S8192x6144.Idx → EReal) (f : S8192x128.Idx → EReal) (b g : S128.Idx → EReal)

/-- The normed keys. -/
def keys : S8192x2048.Idx → EReal :=
  shapeCast _ (mulf (F := Ideal) (φ := .f32) (mulf (F := Ideal) (φ := .f32) (shapeCast _ (extractStridedSlice S8192x2048 ![0, 2048] P slices_S8192x6144_S8192x2048_0_2048) shapeCasts_S8192x2048_S8192x16x128) (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (F := Ideal) (φ := .f32) (mulf (shapeCast _ (extractStridedSlice S8192x2048 ![0, 2048] P slices_S8192x6144_S8192x2048_0_2048) shapeCasts_S8192x2048_S8192x16x128) (shapeCast _ (extractStridedSlice S8192x2048 ![0, 2048] P slices_S8192x6144_S8192x2048_0_2048) shapeCasts_S8192x2048_S8192x16x128)) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32)))))) (broadcastInDim S8192x16x128 ![0, 1, 2] bcast_S1x1x128_S8192x16x128_0_1_2 (broadcastInDim S1x1x128 ![2] bcast_S128_S1x1x128_2 g))) shapeCasts_S8192x16x128_S8192x2048

/-- The log forget gates. -/
def gates : S8192x128.Idx → EReal :=
  Host.negf (F := Ideal) (φ := .f32) (select (cmpf .une (subf (Host.negf (F := Ideal) (φ := .f32) (addf f (broadcastInDim S8192x128 ![0, 1] bcast_S1x128_S8192x128_0_1 (broadcastInDim S1x128 ![1] bcast_S128_S1x128_1 b)))) (broadcastInDim S8192x128 ![] bcast_S_S8192x128 (constant S_ .f32 0x00000000#32))) (subf (Host.negf (F := Ideal) (φ := .f32) (addf f (broadcastInDim S8192x128 ![0, 1] bcast_S1x128_S8192x128_0_1 (broadcastInDim S1x128 ![1] bcast_S128_S1x128_1 b)))) (broadcastInDim S8192x128 ![] bcast_S_S8192x128 (constant S_ .f32 0x00000000#32)))) (addf (Host.negf (F := Ideal) (φ := .f32) (addf f (broadcastInDim S8192x128 ![0, 1] bcast_S1x128_S8192x128_0_1 (broadcastInDim S1x128 ![1] bcast_S128_S1x128_1 b)))) (broadcastInDim S8192x128 ![] bcast_S_S8192x128 (constant S_ .f32 0x00000000#32))) (addf (maximumf (Host.negf (F := Ideal) (φ := .f32) (addf f (broadcastInDim S8192x128 ![0, 1] bcast_S1x128_S8192x128_0_1 (broadcastInDim S1x128 ![1] bcast_S128_S1x128_1 b)))) (broadcastInDim S8192x128 ![] bcast_S_S8192x128 (constant S_ .f32 0x00000000#32))) (Host.log1p (Host.exp (Host.negf (Host.absf (subf (Host.negf (F := Ideal) (φ := .f32) (addf f (broadcastInDim S8192x128 ![0, 1] bcast_S1x128_S8192x128_0_1 (broadcastInDim S1x128 ![1] bcast_S128_S1x128_1 b)))) (broadcastInDim S8192x128 ![] bcast_S_S8192x128 (constant S_ .f32 0x00000000#32)))))))))

theorem keys_apply (r : Fin 8192) (e : Fin 2048) : keys P g (ix2 r e)
    = P (ix2 r ⟨2048 + e.val, by omega⟩) * Ideal.rsqrt (Ideal.div (∑ j : Fin 128, P (ix2 r ⟨2048 + (e.val / 128 * 128 + j.val), by omega⟩) * P (ix2 r ⟨2048 + (e.val / 128 * 128 + j.val), by omega⟩))
        (Ideal.ofBits .f32 0x43000000#32) + Ideal.ofBits .f32 0x358637BD#32) * g (ix1 ⟨e.val % 128, by omega⟩) := by
  pointwise [keys]

theorem gates_apply (r : Fin 8192) (k : Fin 128) : gates f b (ix2 r k) = LogSigmoid.logSig (f (ix2 r k) + b (ix1 k)) := by
  rw [← LogSigmoid.logSig_eq]
  pointwise [gates]
  rw [if_neg (fun h => h rfl)]
  rfl

/-- The normed keys are the kernel's. -/
theorem keys_eq : keys P g = Kernel9Ideal.Hand.outK P g := by
  funext i
  obtain ⟨r, e, rfl⟩ : ∃ (r : Fin 8192) (e : Fin 2048), i = ix2 r e := ⟨i 0, i 1, eq_ix2 i⟩
  rw [keys_apply]
  show _ = Norm.headNormed _ _ _
  unfold Norm.headNormed
  have h : P (ix2 r ⟨2048 + e.val, by omega⟩) = P (ix2 r ⟨2048 + (e.val / 128 * 128 + e.val % 128), by omega⟩) :=
    congrArg (fun j => P (ix2 r j)) (Fin.ext (by show 2048 + e.val = 2048 + (e.val / 128 * 128 + e.val % 128); omega))
  rw [h]
  rfl

/-- The log forget gates are the kernel's. -/
theorem gates_eq : gates f b = Kernel9Ideal.Hand.outF f b := by
  funext i
  obtain ⟨r, e, rfl⟩ : ∃ (r : Fin 8192) (e : Fin 128), i = ix2 r e := ⟨i 0, i 1, eq_ix2 i⟩
  exact gates_apply f b r e

end Cert.Reference9Ideal.Hand

end
-- ==== Proof.PostPrompt.Claims.lean ====
/-
  The claims about the prompt's normed keys and log forget gates.
-/
module

public import proofs.«01_k».proof.Defs
public import proofs.«01_k».proof.Proof.PostPrompt.Kernel
public import proofs.«01_k».proof.Proof.PostPrompt.Ref
public import proofs.«01_k».proof.Proof.Gen.Kernel9.Frame
public import Idealize.ShloMosaic.Lib.Quiescent

@[expose] public section

noncomputable section

namespace Cert.PostPrompt

open Idealize.ShloMosaic Idealize.ShloMosaic.TcCoe Idealize.SL.Sem

theorem frame_kernel : Cert.quiescent_Kernel9 := fun m g _ => Cert.Kernel9.Gen.frame m g

theorem frame_ideal : Cert.quiescent_Kernel9Ideal := fun m g _ => Cert.Kernel9Ideal.Gen.frame m g

theorem frame_ref : Cert.quiescent_Reference9Ideal := fun m g _ =>
  (θ_run Cert.Reference9Ideal.defs _ _).mono (fun r h => ⟨fun c => (h c).2.2, sem_eq_zero_of_no_sems (by decide) r.2⟩) (Cert.Reference9Ideal.Value.run m g)

theorem preserves : Cert.preserves_Kernel9_Kernel9Ideal := trivial

theorem algebraic : Cert.algebraic_Kernel9Ideal_Reference9Ideal := by
  intro m g m' g' _ hagree
  refine ⟨fun c => (Kernel9Ideal.Gen.dats m 0 c).arrAt 8 Kernel9Ideal.cfg0.N, fun c => (Kernel9Ideal.Gen.dats m 0 c).arrAt 11 Kernel9Ideal.cfg0.N,
    (θ_run _ _ _).mono (fun _ h c => ⟨(h c).2.1, (h c).2.2.2.2.1, (h c).2.2.2.2.2.2.2⟩) (Kernel9Ideal.Value.run_blocks m g), ?_⟩
  refine (θ_run _ _ _).mono (fun r h c => ⟨(h c).1.trans ?_, (h c).2.1.trans ?_, (h c).2.2⟩) (Cert.Reference9Ideal.Value.run m' g')
  · rw [(hagree c).1, (hagree c).2.2.2.2]
    exact (Reference9Ideal.Hand.keys_eq _ _).trans (Kernel9Ideal.Hand.arr_k m c).symm
  · rw [(hagree c).2.1, (hagree c).2.2.1]
    exact (Reference9Ideal.Hand.gates_eq _ _).trans (Kernel9Ideal.Hand.arr_f m c).symm

end Cert.PostPrompt

end
-- ==== Proof.RgSample.Math.lean ====
/-
  One step of the gated recurrence over the extended reals, in the two forms the programs compute it.
-/
module

public import proofs.«01_k».proof.Proof.PostSample.LogSigmoid
public import Idealize.ShloMosaic.PureOps.Ideal

@[expose] public section

noncomputable section

namespace Cert.Recurrence

open Idealize.ShloMosaic

/-- The constants eight, two and minus two, as they are written in the programs. -/
abbrev eight : EReal := Ideal.ofBits .f32 0x41000000#32
abbrev two : EReal := Ideal.ofBits .f32 0x40000000#32
abbrev minusTwo : EReal := Ideal.ofBits .f32 0xC0000000#32

theorem eight_eq : eight = ((8 : ℝ) : EReal) := by
  simp [eight, Ideal.ofBits, Ideal.ieee, -EReal.coe_mul]; norm_num
theorem two_eq : two = ((2 : ℝ) : EReal) := by
  simp [two, Ideal.ofBits, Ideal.ieee, -EReal.coe_mul]; norm_num
theorem minusTwo_eq : minusTwo = ((-2 : ℝ) : EReal) := by
  simp [minusTwo, Ideal.ofBits, Ideal.ieee, -EReal.coe_mul]; norm_num

/-- The causal convolution's four taps and the bias. -/
def taps (c x0 w0 x1 w1 x2 w2 x3 w3 : EReal) : EReal := c + x0 * w0 + x1 * w1 + x2 * w2 + x3 * w3

/-- The logistic function of `z`. -/
def sig (z : EReal) : EReal := Ideal.div 1 (1 + Ideal.exp (0 - z))

/-- The logarithm of the decay at the gate's argument `z` and the parameter `l`. -/
def logDecay (z l : EReal) : EReal := eight * sig z * LogSigmoid.logSig l

/-- One step: the state `h` decayed, and the gated input added. -/
def step (h x zi L : EReal) : EReal :=
  Ideal.exp L * h + Ideal.sqrt (Ideal.div (minusTwo * Ideal.tanh L) (1 - Ideal.tanh L)) * (sig zi * x)

theorem exp_nonneg (z : EReal) : 0 ≤ Ideal.exp z := by
  induction z with
  | bot => exact le_refl _
  | top => exact le_top
  | coe r => exact EReal.coe_nonneg.mpr (Real.exp_pos r).le

theorem sig_nonneg (z : EReal) : 0 ≤ sig z := by
  have h := exp_nonneg (0 - z)
  have h1 : (1 : EReal) ≤ 1 + Ideal.exp (0 - z) := le_add_of_nonneg_right h
  have h0 : (0 : EReal) < 1 + Ideal.exp (0 - z) := lt_of_lt_of_le zero_lt_one h1
  unfold sig Ideal.div
  rw [if_neg h0.ne', one_mul]
  exact EReal.inv_nonneg_of_nonneg h0.le

theorem correction_nonneg (y : EReal) : 0 ≤ Ideal.log1p (Ideal.exp y) := by
  unfold Ideal.log1p
  induction y with
  | bot =>
    show 0 ≤ Ideal.log (1 + 0)
    rw [add_zero, ← EReal.coe_one]
    show 0 ≤ (if (1 : ℝ) ≤ 0 then ⊥ else (Real.log 1 : EReal))
    rw [if_neg (by norm_num), Real.log_one]
    exact le_refl _
  | top => exact le_top
  | coe r =>
    show 0 ≤ Ideal.log (1 + (Real.exp r : EReal))
    rw [← EReal.coe_one, ← EReal.coe_add]
    show 0 ≤ (if 1 + Real.exp r ≤ 0 then ⊥ else (Real.log (1 + Real.exp r) : EReal))
    have := Real.exp_pos r
    rw [if_neg (by linarith)]
    exact EReal.coe_nonneg.mpr (Real.log_nonneg (by linarith))

theorem logSig_nonpos (l : EReal) : LogSigmoid.logSig l ≤ 0 := by
  unfold LogSigmoid.logSig
  rw [sub_eq_add_neg]
  refine add_nonpos (min_le_right _ _) ?_
  rw [EReal.neg_le, neg_zero]
  exact correction_nonneg _

theorem logDecay_ne_top (z l : EReal) : logDecay z l ≠ ⊤ := by
  have h : logDecay z l ≤ 0 := by
    unfold logDecay
    refine mul_nonpos_of_nonneg_of_nonpos (mul_nonneg ?_ (sig_nonneg z)) (logSig_nonpos l)
    rw [eight_eq]
    exact EReal.coe_nonneg.mpr (by norm_num)
  exact ne_top_of_le_ne_top EReal.zero_ne_top h

/-- Through the hyperbolic tangent and through the exponential less one, the input's factor is the same wherever the logarithm of
the decay is below infinity. -/
theorem factor_eq (L : EReal) (hL : L ≠ ⊤) :
    Ideal.div (minusTwo * Ideal.tanh L) (1 - Ideal.tanh L) = -(Ideal.expm1 (two * L)) := by
  rw [minusTwo_eq, two_eq]
  induction L with
  | bot =>
    rw [EReal.coe_mul_bot_of_pos (by norm_num)]
    have e1 : Ideal.tanh ⊥ = ((-1 : ℝ) : EReal) := by rfl
    have e2 : Ideal.expm1 ⊥ = ((-1 : ℝ) : EReal) := by
      unfold Ideal.expm1
      show (0 : EReal) - 1 = _
      rw [zero_sub]; rfl
    rw [e1, e2, ← EReal.coe_one, ← EReal.coe_sub, ← EReal.coe_mul, Ideal.div_coe (by norm_num), ← EReal.coe_mul, ← EReal.coe_neg]
    norm_num
  | top => exact absurd rfl hL
  | coe l =>
    have e1 : Ideal.tanh (l : EReal) = ((Real.tanh l : ℝ) : EReal) := rfl
    have e2 : Ideal.expm1 (((2 : ℝ) : EReal) * (l : EReal)) = ((Real.exp (2 * l) - 1 : ℝ) : EReal) := by
      rw [← EReal.coe_mul]; rfl
    have hp := Real.exp_pos l
    have hn := Real.exp_pos (-l)
    have ht : 1 - Real.tanh l = 2 * Real.exp (-l) / (Real.exp l + Real.exp (-l)) := by
      rw [Real.tanh_eq]; field_simp; ring
    have hne : 1 - Real.tanh l ≠ 0 := by rw [ht]; positivity
    rw [e1, e2, ← EReal.coe_one, ← EReal.coe_sub, ← EReal.coe_mul, Ideal.div_coe hne, ← EReal.coe_mul, ← EReal.coe_neg]
    refine congrArg _ ?_
    have hexp : Real.exp (2 * l) * Real.exp (-l) = Real.exp l := by rw [← Real.exp_add]; congr 1; ring
    rw [mul_one_div, div_eq_iff hne, ht, Real.tanh_eq]
    field_simp
    linear_combination hexp

/-- The step in the reference's form. -/
theorem step_eq (h x zi z l : EReal) :
    Ideal.exp (logDecay z l) * h + Ideal.sqrt (-(Ideal.expm1 (two * logDecay z l))) * (sig zi * x) = step h x zi (logDecay z l) := by
  unfold step
  rw [factor_eq _ (logDecay_ne_top z l)]

end Cert.Recurrence

end
-- ==== Proof.RgSample.Block.lean ====
/-
  The gated recurrence over the sample's positions: one step over a block of columns, entry by entry.
-/
module

public import proofs.«01_k».proof.Proof.Gen.Kernel10Ideal.Value
public import proofs.«01_k».proof.Proof.RgSample.Math
public import Idealize.ShloMosaic.Lib.Pointwise
public import Idealize.ShloMosaic.Lib.Pipeline.ValueKit
public import Idealize.ShloMosaic.Lib.Pipeline.Covers

@[expose] public section

noncomputable section

namespace Cert.Kernel10Ideal.Hand

open Cert.Kernel10Ideal Cert.Kernel10Ideal.Gen
open Idealize.ShloMosaic Idealize.ShloMosaic.TcCoe Idealize.ShloMosaic.Pointwise Idealize.SL.Sem

set_option maxRecDepth 16384

theorem hz : (![0, 0] : Fin 2 → Nat) = fun _ => 0 := funext fun a => by fin_cases a <;> rfl
theorem hz3 : (![0, 0, 0] : Fin 3 → Nat) = fun _ => 0 := funext fun a => by fin_cases a <;> rfl

/-- One step over a whole block, from the convolution's value. -/
def stepArr (h x : S32x256.Idx → EReal) (wa wi : S1x256x256.Idx → EReal) (ba bi lam : S1x256.Idx → EReal) : S32x256.Idx → EReal :=
  k0_pay9 (F := Ideal) h x (k0_pay6 x wi bi) (k0_pay7 x (k0_pay4 wa) ba lam) (k0_pay8 x (k0_pay4 wa) ba lam)

theorem pay6_apply (x : S32x256.Idx → EReal) (w : S1x256x256.Idx → EReal) (b : S1x256.Idx → EReal) (p : Fin 32) (k : Fin 256) :
    k0_pay6 (F := Ideal) x w b (ix2 p k) = Recurrence.sig ((∑ j : Fin 256, x (ix2 p j) * w (ix3 0 j k)) + b (ix2 0 k)) := by
  pointwise [k0_pay6, k0_pay5]
  rfl

theorem pay7_apply (x : S32x256.Idx → EReal) (w : S1x256x256.Idx → EReal) (b lam : S1x256.Idx → EReal) (p : Fin 32) (k : Fin 256) :
    k0_pay7 (F := Ideal) x (k0_pay4 w) b lam (ix2 p k) = Recurrence.logDecay ((∑ j : Fin 256, x (ix2 p j) * w (ix3 0 j k)) + b (ix2 0 k)) (lam (ix2 0 k)) := by
  pointwise [k0_pay7, k0_pay5, k0_pay4]
  rfl

theorem stepArr_apply (h x : S32x256.Idx → EReal) (wa wi : S1x256x256.Idx → EReal) (ba bi lam : S1x256.Idx → EReal) (p : Fin 32) (k : Fin 256) :
    stepArr h x wa wi ba bi lam (ix2 p k) = Recurrence.step (h (ix2 p k)) (x (ix2 p k)) ((∑ j : Fin 256, x (ix2 p j) * wi (ix3 0 j k)) + bi (ix2 0 k))
      (Recurrence.logDecay ((∑ j : Fin 256, x (ix2 p j) * wa (ix3 0 j k)) + ba (ix2 0 k)) (lam (ix2 0 k))) := by
  have e : stepArr h x wa wi ba bi lam (ix2 p k) = Ideal.exp (k0_pay7 (F := Ideal) x (k0_pay4 wa) ba lam (ix2 p k)) * h (ix2 p k)
      + Ideal.sqrt (Ideal.div (Recurrence.minusTwo * Ideal.tanh (k0_pay7 (F := Ideal) x (k0_pay4 wa) ba lam (ix2 p k))) (1 - Ideal.tanh (k0_pay7 (F := Ideal) x (k0_pay4 wa) ba lam (ix2 p k)))) * (k0_pay6 (F := Ideal) x wi bi (ix2 p k) * x (ix2 p k)) := by
    pointwise [stepArr, k0_pay9, k0_pay8]
  rw [e, pay6_apply, pay7_apply]
  rfl

theorem pay3_apply (v : S1x256.Idx → EReal) (e0 : S1x32x256.Idx → EReal) (w0 : S1x256.Idx → EReal) (e1 : S1x32x256.Idx → EReal) (w1 : S1x256.Idx → EReal) (e2 : S1x32x256.Idx → EReal) (w2 : S1x256.Idx → EReal) (e3 : S1x32x256.Idx → EReal) (w3 : S1x256.Idx → EReal) (p : Fin 32) (k : Fin 256) :
    k0_pay3 (F := Ideal) v e0 w0 e1 w1 e2 w2 e3 w3 (ix2 p k) = Recurrence.taps (v (ix2 0 k)) (e0 (ix3 0 p k)) (w0 (ix2 0 k)) (e1 (ix3 0 p k)) (w1 (ix2 0 k)) (e2 (ix3 0 p k)) (w2 (ix2 0 k)) (e3 (ix3 0 p k)) (w3 (ix2 0 k)) := by
  pointwise [k0_pay3]
  rfl

/-- The position `s`'s row of the extended input, and the tap `k`'s row. -/
def erow (x1 : S7x32x256.Idx → EReal) (s : ℕ) (hs : s < 7) : S1x32x256.Idx → EReal := fun y => x1 (ix3 ⟨s, hs⟩ (y 1) (y 2))
def wrow (x2 : S4x256.Idx → EReal) (s : ℕ) (hs : s < 4) : S1x256.Idx → EReal := fun y => x2 (ix2 ⟨s, hs⟩ (y 1))

theorem ld_erow (x1 : S7x32x256.Idx → EReal) (s : ℕ) (hs : s < 7) (inb) :
    View.ld (Val := Elt Ideal) (e' := .f32) x1 (Rect.unit (s := S7x32x256) ![s, 0, 0] S1x32x256.size inb) = erow x1 s hs := by
  funext y
  refine congrArg x1 (funext fun a => Fin.ext ?_)
  fin_cases a
  · show s + 1 * (y 0).val = s
    have h : (y 0).val < 1 := (y 0).isLt; omega
  · show 0 + 1 * (y 1).val = (y 1).val
    omega
  · show 0 + 1 * (y 2).val = (y 2).val
    omega

theorem ld_wrow (x2 : S4x256.Idx → EReal) (s : ℕ) (hs : s < 4) (inb) :
    View.ld (Val := Elt Ideal) (e' := .f32) x2 (Rect.unit (s := S4x256) ![s, 0] S1x256.size inb) = wrow x2 s hs := by
  funext y
  refine congrArg x2 (funext fun a => Fin.ext ?_)
  fin_cases a
  · show s + 1 * (y 0).val = s
    have h : (y 0).val < 1 := (y 0).isLt; omega
  · show 0 + 1 * (y 1).val = (y 1).val
    omega

/-- The convolution's value over a whole block at the position `s`. -/
def conv (x1 : S7x32x256.Idx → EReal) (x2 : S4x256.Idx → EReal) (x3 : S1x256.Idx → EReal) (s : ℕ) (hs : s < 4) : S32x256.Idx → EReal :=
  k0_pay3 (F := Ideal) x3 (erow x1 s (by omega)) (wrow x2 0 (by omega)) (erow x1 (s + 1) (by omega)) (wrow x2 1 (by omega)) (erow x1 (s + 2) (by omega)) (wrow x2 2 (by omega)) (erow x1 (s + 3) (by omega)) (wrow x2 3 (by omega))

end Cert.Kernel10Ideal.Hand

end
-- ==== Proof.RgSample.Store.lean ====
/-
  The gated recurrence over the sample's positions: what one grid point stores.
-/
module

public import proofs.«01_k».proof.Proof.Gen.Kernel10Ideal.Value
public import proofs.«01_k».proof.Proof.RgSample.Block
public import Idealize.ShloMosaic.Lib.Pointwise
public import Idealize.ShloMosaic.Lib.Pipeline.ValueKit
public import Idealize.ShloMosaic.Lib.Pipeline.Covers

@[expose] public section

noncomputable section

namespace Cert.Kernel10Ideal.Hand

open Cert.Kernel10Ideal Cert.Kernel10Ideal.Gen
open Idealize.ShloMosaic Idealize.ShloMosaic.TcCoe Idealize.ShloMosaic.Pointwise Idealize.SL.Sem

set_option maxRecDepth 16384

section steps

variable {F : FTy → Type} [FloatOps F] (h : Vec F S32x256 .f32) (v : Vec F S1x256 .f32) (e0 : Vec F S1x32x256 .f32) (w0 : Vec F S1x256 .f32) (e1 : Vec F S1x32x256 .f32) (w1 : Vec F S1x256 .f32) (e2 : Vec F S1x32x256 .f32) (w2 : Vec F S1x256 .f32) (e3 : Vec F S1x32x256 .f32) (w3 : Vec F S1x256 .f32) (wa wi : Vec F S1x256x256 .bf16) (ba bi lam : Vec F S1x256 .f32)

theorem step1 : k0_pay18 h (k0_pay12 (k0_pay11 v e0 w0) e1 w1 e2 w2 e3 w3) (k0_pay13 wi) (k0_pay14 bi) (k0_pay15 lam) (k0_pay16 (k0_pay11 v e0 w0) e1 w1 e2 w2 e3 w3) (k0_pay17 (k0_pay11 v e0 w0) e1 w1 e2 w2 e3 w3 wa ba) (FloatOps.ofBits FTy.f32 0#32)
    = k0_pay9 h (k0_pay3 v e0 w0 e1 w1 e2 w2 e3 w3) (k0_pay6 (k0_pay3 v e0 w0 e1 w1 e2 w2 e3 w3) wi bi) (k0_pay7 (k0_pay3 v e0 w0 e1 w1 e2 w2 e3 w3) (k0_pay4 wa) ba lam) (k0_pay8 (k0_pay3 v e0 w0 e1 w1 e2 w2 e3 w3) (k0_pay4 wa) ba lam) := rfl

theorem step2 : k0_pay28 h (k0_pay23 (k0_pay22 v e0 w0 e1 w1 e2 w2) e3 w3) (k0_pay24 lam) (k0_pay26 (k0_pay22 v e0 w0 e1 w1 e2 w2) e3 w3 wa ba) (k0_pay27 (k0_pay22 v e0 w0 e1 w1 e2 w2) e3 w3 wi bi) (FloatOps.ofBits FTy.f32 1065353216#32)
    = k0_pay9 h (k0_pay3 v e0 w0 e1 w1 e2 w2 e3 w3) (k0_pay6 (k0_pay3 v e0 w0 e1 w1 e2 w2 e3 w3) wi bi) (k0_pay7 (k0_pay3 v e0 w0 e1 w1 e2 w2 e3 w3) (k0_pay4 wa) ba lam) (k0_pay8 (k0_pay3 v e0 w0 e1 w1 e2 w2 e3 w3) (k0_pay4 wa) ba lam) := rfl

theorem step3 : k0_pay1 h (k0_pay30 v e0 w0 e1 w1 e2 w2 e3 w3) (k0_pay34 (k0_pay30 v e0 w0 e1 w1 e2 w2 e3 w3) (k0_pay32 wi) bi) (k0_pay36 (k0_pay30 v e0 w0 e1 w1 e2 w2 e3 w3) (k0_pay31 wa) ba lam) (k0_pay37 (k0_pay30 v e0 w0 e1 w1 e2 w2 e3 w3) (k0_pay31 wa) ba lam) k0_pay38
    = k0_pay9 h (k0_pay3 v e0 w0 e1 w1 e2 w2 e3 w3) (k0_pay6 (k0_pay3 v e0 w0 e1 w1 e2 w2 e3 w3) wi bi) (k0_pay7 (k0_pay3 v e0 w0 e1 w1 e2 w2 e3 w3) (k0_pay4 wa) ba lam) (k0_pay8 (k0_pay3 v e0 w0 e1 w1 e2 w2 e3 w3) (k0_pay4 wa) ba lam) := rfl

end steps

set_option maxHeartbeats 4000000 in
theorem out11_eq (x0 : S4x32x256.Idx → EReal) (x1 : S7x32x256.Idx → EReal) (x2 : S4x256.Idx → EReal) (x3 : S1x256.Idx → EReal) (x4 x5 : S1x256x256.Idx → EReal) (x6 x7 x8 : S1x256.Idx → EReal) (x9 : S32x256.Idx → EReal) :
    out0_11 (F := Ideal) x0 x1 x2 x3 x4 x5 x6 x7 x8 x9 = stepArr (stepArr (stepArr (stepArr x9 (conv x1 x2 x3 0 (by omega)) x4 x5 x6 x7 x8)
      (conv x1 x2 x3 1 (by omega)) x4 x5 x6 x7 x8) (conv x1 x2 x3 2 (by omega)) x4 x5 x6 x7 x8) (conv x1 x2 x3 3 (by omega)) x4 x5 x6 x7 x8 := by
  unfold_out out0_11
  rw [View.canon_unit_zero hz]
  simp only [View.ld_unit_zero (S := S32x256) hz, View.ld_unit_zero (S := S1x256) hz, View.ld_unit_zero (S := S1x256x256) hz3,
    ld_erow x1 0 (by omega), ld_erow x1 1 (by omega), ld_erow x1 2 (by omega), ld_erow x1 3 (by omega), ld_erow x1 4 (by omega), ld_erow x1 5 (by omega), ld_erow x1 6 (by omega),
    ld_wrow x2 0 (by omega), ld_wrow x2 1 (by omega), ld_wrow x2 2 (by omega), ld_wrow x2 3 (by omega)]
  rw [step3, step2, step1]
  rfl

end Cert.Kernel10Ideal.Hand

end
-- ==== Proof.RgSample.Values.lean ====
/-
  The gated recurrence over the sample's positions: the last state as a function of the arguments.
-/
module

public import proofs.«01_k».proof.Proof.Gen.Kernel10Ideal.Value
public import proofs.«01_k».proof.Proof.RgSample.Block
public import Idealize.ShloMosaic.Lib.Pointwise
public import Idealize.ShloMosaic.Lib.Pipeline.ValueKit
public import Idealize.ShloMosaic.Lib.Pipeline.Covers

@[expose] public section

noncomputable section

namespace Cert.Kernel10Ideal.Hand

open Cert.Kernel10Ideal Cert.Kernel10Ideal.Gen
open Idealize.ShloMosaic Idealize.ShloMosaic.TcCoe Idealize.ShloMosaic.Pointwise Idealize.SL.Sem

set_option maxRecDepth 16384

/-! ### The whole array -/

/-- Column `k` of the block `n`. -/
def col (n : Fin 8) (k : Fin 256) : Fin 2048 := ⟨n.val * 256 + k.val, by omega⟩

/-- The convolution's value at the position `s`, from the extended input. -/
def convAt (E : S32x7x2048.Idx → EReal) (cw : S4x2048.Idx → EReal) (cb : S2048.Idx → EReal) (s : Fin 4) (p : Fin 32) (e : Fin 2048) : EReal :=
  Recurrence.taps (cb (ix1 e)) (E (ix3 p ⟨s.val, by omega⟩ e)) (cw (ix2 0 e)) (E (ix3 p ⟨s.val + 1, by omega⟩ e)) (cw (ix2 1 e))
    (E (ix3 p ⟨s.val + 2, by omega⟩ e)) (cw (ix2 2 e)) (E (ix3 p ⟨s.val + 3, by omega⟩ e)) (cw (ix2 3 e))

/-- The argument of a gate at the column `e`: the product with the column's block of weights, and the bias. -/
def gateArg (X : Fin 2048 → EReal) (W : S8x256x256.Idx → EReal) (b : S2048.Idx → EReal) (e : Fin 2048) : EReal :=
  (∑ j : Fin 256, X ⟨e.val / 256 * 256 + j.val, by omega⟩ * W (ix3 ⟨e.val / 256, by omega⟩ j ⟨e.val % 256, by omega⟩)) + b (ix1 e)

theorem gateArg_col (X : Fin 2048 → EReal) (W : S8x256x256.Idx → EReal) (b : S2048.Idx → EReal) (n : Fin 8) (k : Fin 256) :
    gateArg X W b (col n k) = (∑ j : Fin 256, X (col n j) * W (ix3 n j k)) + b (ix1 (col n k)) := by
  have hk := k.isLt
  unfold gateArg
  refine congrArg (fun z : EReal => z + b (ix1 (col n k))) (Finset.sum_congr rfl fun j _ => ?_)
  have h1 : (⟨(col n k).val / 256 * 256 + j.val, by have := (col n k).isLt; omega⟩ : Fin 2048) = col n j := Fin.ext (by
    show (n.val * 256 + k.val) / 256 * 256 + j.val = n.val * 256 + j.val; omega)
  have h2 : (⟨(col n k).val / 256, by have := (col n k).isLt; omega⟩ : Fin 8) = n := Fin.ext (by
    show (n.val * 256 + k.val) / 256 = n.val; omega)
  have h3 : (⟨(col n k).val % 256, by omega⟩ : Fin 256) = k := Fin.ext (by
    show (n.val * 256 + k.val) % 256 = k.val; omega)
  rw [h1, h2, h3]

section values

variable (E : S32x7x2048.Idx → EReal) (H : S32x2048.Idx → EReal) (cw : S4x2048.Idx → EReal) (cb : S2048.Idx → EReal)
  (wa : S8x256x256.Idx → EReal) (ba : S2048.Idx → EReal) (wi : S8x256x256.Idx → EReal) (bi lam : S2048.Idx → EReal)

/-- The state after the position `s`, from the state `h` before it. -/
def next (h : EReal) (s : Fin 4) (p : Fin 32) (e : Fin 2048) : EReal :=
  Recurrence.step h (convAt E cw cb s p e) (gateArg (convAt E cw cb s p) wi bi e) (Recurrence.logDecay (gateArg (convAt E cw cb s p) wa ba e) (lam (ix1 e)))

/-- The state after the four positions. -/
def lastAt (p : Fin 32) (e : Fin 2048) : EReal :=
  next E cw cb wa ba wi bi lam (next E cw cb wa ba wi bi lam (next E cw cb wa ba wi bi lam (next E cw cb wa ba wi bi lam (H (ix2 p e)) 0 p e) 1 p e) 2 p e) 3 p e

/-- The last state as an array. -/
def outArr : S32x2048.Idx → EReal := fun y => lastAt E H cw cb wa ba wi bi lam (y 0) (y 1)

/-- One step of a block is one step of the array's columns, where the blocks are the arrays' columns. -/
theorem step_block (n : Fin 8) (x1 : S7x32x256.Idx → EReal) (x2 : S4x256.Idx → EReal) (x3 : S1x256.Idx → EReal) (x4 x5 : S1x256x256.Idx → EReal) (x6 x7 x8 : S1x256.Idx → EReal)
    (e1 : ∀ s p k, x1 (ix3 s p k) = E (ix3 p s (col n k))) (e2 : ∀ s k, x2 (ix2 s k) = cw (ix2 s (col n k))) (e3 : ∀ k, x3 (ix2 0 k) = cb (ix1 (col n k)))
    (e4 : ∀ j k, x4 (ix3 0 j k) = wa (ix3 n j k)) (e5 : ∀ j k, x5 (ix3 0 j k) = wi (ix3 n j k)) (e6 : ∀ k, x6 (ix2 0 k) = ba (ix1 (col n k)))
    (e7 : ∀ k, x7 (ix2 0 k) = bi (ix1 (col n k))) (e8 : ∀ k, x8 (ix2 0 k) = lam (ix1 (col n k))) (h : S32x256.Idx → EReal) (s : Fin 4) (p : Fin 32) (k : Fin 256) :
    stepArr h (conv x1 x2 x3 s.val s.isLt) x4 x5 x6 x7 x8 (ix2 p k) = next E cw cb wa ba wi bi lam (h (ix2 p k)) s p (col n k) := by
  have hc (j : Fin 256) : conv x1 x2 x3 s.val s.isLt (ix2 p j) = convAt E cw cb s p (col n j) := by
    unfold conv convAt
    rw [pay3_apply, e3, ← e1, ← e1, ← e1, ← e1, ← e2, ← e2, ← e2, ← e2]
    rfl
  rw [stepArr_apply]
  unfold next
  rw [gateArg_col, gateArg_col]
  simp only [hc, e4, e5, e6, e7, e8]

end values

end Cert.Kernel10Ideal.Hand

end
-- ==== Proof.RgSample.Kernel.lean ====
/-
  The gated recurrence over the sample's positions: the array that the run leaves.
-/
module

public import proofs.«01_k».proof.Proof.Gen.Kernel10Ideal.Value
public import proofs.«01_k».proof.Proof.RgSample.Store
public import proofs.«01_k».proof.Proof.RgSample.Values
public import Idealize.ShloMosaic.Lib.Pointwise
public import Idealize.ShloMosaic.Lib.Pipeline.ValueKit
public import Idealize.ShloMosaic.Lib.Pipeline.Covers

@[expose] public section

noncomputable section

namespace Cert.Kernel10Ideal.Hand

open Cert.Kernel10Ideal Cert.Kernel10Ideal.Gen
open Idealize.ShloMosaic Idealize.ShloMosaic.TcCoe Idealize.ShloMosaic.Pointwise Idealize.SL.Sem

set_option maxRecDepth 16384

variable (m : (ℓ : Loc nD τ sig) → Buf (Elt Ideal) ℓ) (c : Dev nD)

/-- The arguments as functions of their indices. -/
abbrev argX : S32x4x2048.Idx → EReal := m ((c : Thread nD τ).loc main_arg1)
abbrev argC : S32x3x2048.Idx → EReal := m ((c : Thread nD τ).loc main_arg2)
abbrev argH : S32x2048.Idx → EReal := m ((c : Thread nD τ).loc main_arg3)
abbrev argCw : S4x2048.Idx → EReal := m ((c : Thread nD τ).loc main_arg4)
abbrev argCb : S2048.Idx → EReal := m ((c : Thread nD τ).loc main_arg5)
abbrev argWa : S8x256x256.Idx → EReal := m ((c : Thread nD τ).loc main_arg6)
abbrev argBa : S2048.Idx → EReal := m ((c : Thread nD τ).loc main_arg7)
abbrev argWi : S8x256x256.Idx → EReal := m ((c : Thread nD τ).loc main_arg8)
abbrev argBi : S2048.Idx → EReal := m ((c : Thread nD τ).loc main_arg9)
abbrev argLam : S2048.Idx → EReal := m ((c : Thread nD τ).loc main_arg10)

/-- The carried positions in front of the new ones. -/
abbrev ext (C : S32x3x2048.Idx → EReal) (X : S32x4x2048.Idx → EReal) : S32x7x2048.Idx → EReal :=
  concatenate S32x7x2048 1 [⟨S32x3x2048, C⟩, ⟨S32x4x2048, X⟩] concatenates_S32x3x2048_S32x4x2048_S32x7x2048_d1

theorem idx1 (t : Fin cfg0.N) : win0_1.index t = ![0, 0, t.val] := by
  revert t; decide +kernel
theorem idx2 (t : Fin cfg0.N) : win0_2.index t = ![0, t.val] := by
  revert t; decide +kernel
theorem idx3 (t : Fin cfg0.N) : win0_3.index t = ![0, t.val] := by
  revert t; decide +kernel
theorem idx4 (t : Fin cfg0.N) : win0_4.index t = ![t.val, 0, 0] := by
  revert t; decide +kernel
theorem idx5 (t : Fin cfg0.N) : win0_5.index t = ![t.val, 0, 0] := by
  revert t; decide +kernel
theorem idx6 (t : Fin cfg0.N) : win0_6.index t = ![0, t.val] := by
  revert t; decide +kernel
theorem idx7 (t : Fin cfg0.N) : win0_7.index t = ![0, t.val] := by
  revert t; decide +kernel
theorem idx8 (t : Fin cfg0.N) : win0_8.index t = ![0, t.val] := by
  revert t; decide +kernel
theorem idx9 (t : Fin cfg0.N) : win0_9.index t = ![0, t.val] := by
  revert t; decide +kernel
theorem idx11 (t : Fin cfg0.N) : win0_11.index t = ![0, t.val] := by
  revert t; decide +kernel

theorem entry_ext (s : Fin 7) (p : Fin 32) (e : Fin 2048) : (V m c main_v2 : S7x32x2048.Idx → EReal) (ix3 s p e) = ext (argC m c) (argX m c) (ix3 p s e) := by
  entry_read
  show transpose S7x32x2048 [1, 0, 2] (ext (argC m c) (argX m c)) transposes_S32x7x2048_S7x32x2048_1_0_2 (ix3 s p e) = _
  generalize ext (argC m c) (argX m c) = E
  pointwise
theorem entry_cb (k : Fin 2048) : (V m c main_v3 : S1x2048.Idx → EReal) (ix2 0 k) = argCb m c (ix1 k) := by
  entry_read
  pointwise
theorem entry_wa (n : Fin 8) (j k : Fin 256) : (V m c main_v4 : S8x256x256.Idx → EReal) (ix3 n j k) = argWa m c (ix3 n j k) := by
  entry_read
  pointwise
theorem entry_wi (n : Fin 8) (j k : Fin 256) : (V m c main_v5 : S8x256x256.Idx → EReal) (ix3 n j k) = argWi m c (ix3 n j k) := by
  entry_read
  pointwise
theorem entry_ba (k : Fin 2048) : (V m c main_v6 : S1x2048.Idx → EReal) (ix2 0 k) = argBa m c (ix1 k) := by
  entry_read
  pointwise
theorem entry_bi (k : Fin 2048) : (V m c main_v7 : S1x2048.Idx → EReal) (ix2 0 k) = argBi m c (ix1 k) := by
  entry_read
  pointwise
theorem entry_lam (k : Fin 2048) : (V m c main_v8 : S1x2048.Idx → EReal) (ix2 0 k) = argLam m c (ix1 k) := by
  entry_read
  pointwise
theorem entry_h : (V m c main_arg3 : S32x2048.Idx → EReal) = argH m c := V_main_arg3 m c
theorem entry_cw : (V m c main_arg4 : S4x2048.Idx → EReal) = argCw m c := V_main_arg4 m c

/-- The grid point's block number. -/
abbrev blkNo (t : Fin cfg0.N) : Fin 8 := ⟨t.val, t.isLt⟩

theorem iblk_ext (t : Fin cfg0.N) (s : Fin 7) (p : Fin 32) (k : Fin 256) : (iblk m c 1 t : S7x32x256.Idx → EReal) (ix3 s p k) = ext (argC m c) (argX m c) (ix3 p s (col (blkNo t) k)) := by
  refine Eq.trans ?_ (entry_ext m c s p (col (blkNo t) k))
  blk_ext [iblk, idx1 t, col]
theorem iblk_cw (t : Fin cfg0.N) (s : Fin 4) (k : Fin 256) : (iblk m c 2 t : S4x256.Idx → EReal) (ix2 s k) = argCw m c (ix2 s (col (blkNo t) k)) := by
  rw [← entry_cw]
  blk_ext [iblk, idx2 t, col]
theorem iblk_cb (t : Fin cfg0.N) (k : Fin 256) : (iblk m c 3 t : S1x256.Idx → EReal) (ix2 0 k) = argCb m c (ix1 (col (blkNo t) k)) := by
  refine Eq.trans ?_ (entry_cb m c (col (blkNo t) k))
  blk_ext [iblk, idx3 t, col]
theorem iblk_wa (t : Fin cfg0.N) (j k : Fin 256) : (iblk m c 4 t : S1x256x256.Idx → EReal) (ix3 0 j k) = argWa m c (ix3 (blkNo t) j k) := by
  refine Eq.trans ?_ (entry_wa m c (blkNo t) j k)
  blk_ext [iblk, idx4 t]
theorem iblk_wi (t : Fin cfg0.N) (j k : Fin 256) : (iblk m c 5 t : S1x256x256.Idx → EReal) (ix3 0 j k) = argWi m c (ix3 (blkNo t) j k) := by
  refine Eq.trans ?_ (entry_wi m c (blkNo t) j k)
  blk_ext [iblk, idx5 t]
theorem iblk_ba (t : Fin cfg0.N) (k : Fin 256) : (iblk m c 6 t : S1x256.Idx → EReal) (ix2 0 k) = argBa m c (ix1 (col (blkNo t) k)) := by
  refine Eq.trans ?_ (entry_ba m c (col (blkNo t) k))
  blk_ext [iblk, idx6 t, col]
theorem iblk_bi (t : Fin cfg0.N) (k : Fin 256) : (iblk m c 7 t : S1x256.Idx → EReal) (ix2 0 k) = argBi m c (ix1 (col (blkNo t) k)) := by
  refine Eq.trans ?_ (entry_bi m c (col (blkNo t) k))
  blk_ext [iblk, idx7 t, col]
theorem iblk_lam (t : Fin cfg0.N) (k : Fin 256) : (iblk m c 8 t : S1x256.Idx → EReal) (ix2 0 k) = argLam m c (ix1 (col (blkNo t) k)) := by
  refine Eq.trans ?_ (entry_lam m c (col (blkNo t) k))
  blk_ext [iblk, idx8 t, col]
theorem iblk_h (t : Fin cfg0.N) (p : Fin 32) (k : Fin 256) : (iblk m c 9 t : S32x256.Idx → EReal) (ix2 p k) = argH m c (ix2 p (col (blkNo t) k)) := by
  rw [← entry_h]
  blk_ext [iblk, idx9 t, col]

/-- One step of the grid point's block. -/
theorem step_at (t : Fin cfg0.N) (h : S32x256.Idx → EReal) (s : Fin 4) (p : Fin 32) (k : Fin 256) :
    stepArr h (conv (iblk m c 1 t : S7x32x256.Idx → EReal) (iblk m c 2 t : S4x256.Idx → EReal) (iblk m c 3 t : S1x256.Idx → EReal) s.val s.isLt)
        (iblk m c 4 t : S1x256x256.Idx → EReal) (iblk m c 5 t : S1x256x256.Idx → EReal) (iblk m c 6 t : S1x256.Idx → EReal) (iblk m c 7 t : S1x256.Idx → EReal) (iblk m c 8 t : S1x256.Idx → EReal) (ix2 p k)
      = next (ext (argC m c) (argX m c)) (argCw m c) (argCb m c) (argWa m c) (argBa m c) (argWi m c) (argBi m c) (argLam m c) (h (ix2 p k)) s p (col (blkNo t) k) :=
  step_block (ext (argC m c) (argX m c)) (argCw m c) (argCb m c) (argWa m c) (argBa m c) (argWi m c) (argBi m c) (argLam m c) (blkNo t) _ _ _ _ _ _ _ _
    (iblk_ext m c t) (iblk_cw m c t) (iblk_cb m c t) (iblk_wa m c t) (iblk_wi m c t) (iblk_ba m c t) (iblk_bi m c t) (iblk_lam m c t) h s p k

/-- What the run leaves in the states' array. -/
theorem arr_eq : (dats m 0 c).arrAt 11 cfg0.N = outArr (ext (argC m c) (argX m c)) (argH m c) (argCw m c) (argCb m c) (argWa m c) (argBa m c) (argWi m c) (argBi m c) (argLam m c) := by
  refine (dats m 0 c).arrAt_eq_of_covers 11 _ (by decide +kernel) fun t hf y => ?_
  obtain ⟨p, k, rfl⟩ : ∃ (p : Fin 32) (k : Fin 256), y = ix2 p k := ⟨y 0, y 1, eq_ix2 y⟩
  have e0 : (win0_11.blk t).view.emb (ix2 p k) = (ix2 p (col (blkNo t) k) : S32x2048.Idx) := funext fun a => Fin.ext (by
    fin_cases a
    · show (win0_11.index t 0) * 32 + 1 * p.val = p.val
      rw [idx11]; simp
    · show (win0_11.index t 1) * 256 + 1 * k.val = t.val * 256 + k.val
      rw [idx11]; simp)
  have ha : ((dats m 0 c).after 11 t : S32x256.Idx → EReal) = stepArr (stepArr (stepArr (stepArr (iblk m c 9 t : S32x256.Idx → EReal) (conv (iblk m c 1 t : S7x32x256.Idx → EReal) (iblk m c 2 t : S4x256.Idx → EReal) (iblk m c 3 t : S1x256.Idx → EReal) (0 : Fin 4).val (0 : Fin 4).isLt)
      (iblk m c 4 t : S1x256x256.Idx → EReal) (iblk m c 5 t : S1x256x256.Idx → EReal) (iblk m c 6 t : S1x256.Idx → EReal) (iblk m c 7 t : S1x256.Idx → EReal) (iblk m c 8 t : S1x256.Idx → EReal))
      (conv (iblk m c 1 t : S7x32x256.Idx → EReal) (iblk m c 2 t : S4x256.Idx → EReal) (iblk m c 3 t : S1x256.Idx → EReal) (1 : Fin 4).val (1 : Fin 4).isLt)
      (iblk m c 4 t : S1x256x256.Idx → EReal) (iblk m c 5 t : S1x256x256.Idx → EReal) (iblk m c 6 t : S1x256.Idx → EReal) (iblk m c 7 t : S1x256.Idx → EReal) (iblk m c 8 t : S1x256.Idx → EReal))
      (conv (iblk m c 1 t : S7x32x256.Idx → EReal) (iblk m c 2 t : S4x256.Idx → EReal) (iblk m c 3 t : S1x256.Idx → EReal) (2 : Fin 4).val (2 : Fin 4).isLt)
      (iblk m c 4 t : S1x256x256.Idx → EReal) (iblk m c 5 t : S1x256x256.Idx → EReal) (iblk m c 6 t : S1x256.Idx → EReal) (iblk m c 7 t : S1x256.Idx → EReal) (iblk m c 8 t : S1x256.Idx → EReal))
      (conv (iblk m c 1 t : S7x32x256.Idx → EReal) (iblk m c 2 t : S4x256.Idx → EReal) (iblk m c 3 t : S1x256.Idx → EReal) (3 : Fin 4).val (3 : Fin 4).isLt)
      (iblk m c 4 t : S1x256x256.Idx → EReal) (iblk m c 5 t : S1x256x256.Idx → EReal) (iblk m c 6 t : S1x256.Idx → EReal) (iblk m c 7 t : S1x256.Idx → EReal) (iblk m c 8 t : S1x256.Idx → EReal) := by
    rw [after0_11]
    exact out11_eq _ _ _ _ _ _ _ _ _ _
  refine (congrFun ha (ix2 p k)).trans ?_
  show _ = outArr _ _ _ _ _ _ _ _ _ ((win0_11.blk t).view.emb (ix2 p k))
  rw [e0, step_at, step_at, step_at, step_at, iblk_h]
  rfl

end Cert.Kernel10Ideal.Hand

end
-- ==== Proof.RgSample.Ref.lean ====
/-
  The reference's recurrence over the sample's positions, entry by entry.
-/
module

public import proofs.«01_k».proof.Proof.RgSample.Kernel
public import proofs.«01_k».proof.Proof.Gen.Reference10Ideal.Run
public import Idealize.ShloMosaic.Lib.Pointwise

@[expose] public section

noncomputable section

namespace Cert.Reference10Ideal.Hand

open Cert.Reference10Ideal Cert.Reference10Ideal.Gen
open Idealize.ShloMosaic Idealize.ShloMosaic.TcCoe Idealize.ShloMosaic.Pointwise Idealize.SL.Sem

set_option maxRecDepth 16384

/-- The carried positions in front of the new ones. -/
def ext (conv : S32x3x2048.Idx → EReal) (xr : S32x4x2048.Idx → EReal) : S32x7x2048.Idx → EReal :=
  concatenate S32x7x2048 1 [⟨S32x3x2048, conv⟩, ⟨S32x4x2048, xr⟩] concatenates_S32x3x2048_S32x4x2048_S32x7x2048_d1

/-- The convolution and its bias. -/
def xc (xr : S32x4x2048.Idx → EReal) (conv : S32x3x2048.Idx → EReal) (cw : S4x2048.Idx → EReal) (cb : S2048.Idx → EReal) : S32x4x2048.Idx → EReal :=
  addf (F := Ideal) (φ := .f32) (broadcastInDim S32x4x2048 ![0, 1, 2] bcast_S1x1x2048_S32x4x2048_0_1_2 (broadcastInDim S1x1x2048 ![2] bcast_S2048_S1x1x2048_2 cb)) (addf (addf (addf (addf (broadcastInDim S32x4x2048 ![] bcast_S_S32x4x2048 (constant (F := Ideal) S_ .f32 0x00000000#32)) (mulf (extractStridedSlice S32x4x2048 ![0, 0, 0] (ext conv xr) slices_S32x7x2048_S32x4x2048_0_0_0) (broadcastInDim S32x4x2048 ![0, 1, 2] bcast_S1x1x2048_S32x4x2048_0_1_2 (broadcastInDim S1x1x2048 ![2] bcast_S2048_S1x1x2048_2 (shapeCast _ (extractStridedSlice S1x2048 ![0, 0] cw slices_S4x2048_S1x2048_0_0) shapeCasts_S1x2048_S2048))))) (mulf (extractStridedSlice S32x4x2048 ![0, 1, 0] (ext conv xr) slices_S32x7x2048_S32x4x2048_0_1_0) (broadcastInDim S32x4x2048 ![0, 1, 2] bcast_S1x1x2048_S32x4x2048_0_1_2 (broadcastInDim S1x1x2048 ![2] bcast_S2048_S1x1x2048_2 (shapeCast _ (extractStridedSlice S1x2048 ![1, 0] cw slices_S4x2048_S1x2048_1_0) shapeCasts_S1x2048_S2048))))) (mulf (extractStridedSlice S32x4x2048 ![0, 2, 0] (ext conv xr) slices_S32x7x2048_S32x4x2048_0_2_0) (broadcastInDim S32x4x2048 ![0, 1, 2] bcast_S1x1x2048_S32x4x2048_0_1_2 (broadcastInDim S1x1x2048 ![2] bcast_S2048_S1x1x2048_2 (shapeCast _ (extractStridedSlice S1x2048 ![2, 0] cw slices_S4x2048_S1x2048_2_0) shapeCasts_S1x2048_S2048))))) (mulf (extractStridedSlice S32x4x2048 ![0, 3, 0] (ext conv xr) slices_S32x7x2048_S32x4x2048_0_3_0) (broadcastInDim S32x4x2048 ![0, 1, 2] bcast_S1x1x2048_S32x4x2048_0_1_2 (broadcastInDim S1x1x2048 ![2] bcast_S2048_S1x1x2048_2 (shapeCast _ (extractStridedSlice S1x2048 ![3, 0] cw slices_S4x2048_S1x2048_3_0) shapeCasts_S1x2048_S2048)))))

/-- The logarithm of the logistic function of the parameter. -/
def ls (lam : S2048.Idx → EReal) : S2048.Idx → EReal :=
  Host.negf (F := Ideal) (φ := .f32) (select (cmpf .une (subf (Host.negf lam) (broadcastInDim S2048 ![] bcast_S_S2048 (constant (F := Ideal) S_ .f32 0x00000000#32))) (subf (Host.negf lam) (broadcastInDim S2048 ![] bcast_S_S2048 (constant (F := Ideal) S_ .f32 0x00000000#32)))) (addf (Host.negf lam) (broadcastInDim S2048 ![] bcast_S_S2048 (constant (F := Ideal) S_ .f32 0x00000000#32))) (addf (maximumf (Host.negf lam) (broadcastInDim S2048 ![] bcast_S_S2048 (constant (F := Ideal) S_ .f32 0x00000000#32))) (Host.log1p (Host.exp (Host.negf (Host.absf (subf (Host.negf lam) (broadcastInDim S2048 ![] bcast_S_S2048 (constant (F := Ideal) S_ .f32 0x00000000#32)))))))))

/-- The gate of the decay. -/
def gateA (xr : S32x4x2048.Idx → EReal) (conv : S32x3x2048.Idx → EReal) (cw : S4x2048.Idx → EReal) (cb : S2048.Idx → EReal) (wa : S8x256x256.Idx → EReal) (ba : S2048.Idx → EReal) : S32x4x2048.Idx → EReal :=
  Host.divf (F := Ideal) (φ := .f32) (broadcastInDim S32x4x2048 ![] bcast_S_S32x4x2048 (constant (F := Ideal) S_ .f32 0x3F800000#32)) (addf (broadcastInDim S32x4x2048 ![] bcast_S_S32x4x2048 (constant (F := Ideal) S_ .f32 0x3F800000#32)) (Host.exp (Host.negf (addf (shapeCast _ (transpose S32x4x8x256 [2, 3, 0, 1] (Host.dotGeneral (F := Ideal) (φ₁ := .f32) (φ₂ := .f32) dot_S8x256x256_S32x4x8x256_S8x256x32x4_1_3_2_01_0_2 none wa (shapeCast _ (xc xr conv cw cb) shapeCasts_S32x4x2048_S32x4x8x256)) transposes_S8x256x32x4_S32x4x8x256_2_3_0_1) shapeCasts_S32x4x8x256_S32x4x2048) (broadcastInDim S32x4x2048 ![0, 1, 2] bcast_S1x1x2048_S32x4x2048_0_1_2 (broadcastInDim S1x1x2048 ![2] bcast_S2048_S1x1x2048_2 ba))))))

/-- The gate of the input. -/
def gateI (xr : S32x4x2048.Idx → EReal) (conv : S32x3x2048.Idx → EReal) (cw : S4x2048.Idx → EReal) (cb : S2048.Idx → EReal) (wi : S8x256x256.Idx → EReal) (bi : S2048.Idx → EReal) : S32x4x2048.Idx → EReal :=
  Host.divf (F := Ideal) (φ := .f32) (broadcastInDim S32x4x2048 ![] bcast_S_S32x4x2048 (constant (F := Ideal) S_ .f32 0x3F800000#32)) (addf (broadcastInDim S32x4x2048 ![] bcast_S_S32x4x2048 (constant (F := Ideal) S_ .f32 0x3F800000#32)) (Host.exp (Host.negf (addf (shapeCast _ (transpose S32x4x8x256 [2, 3, 0, 1] (Host.dotGeneral (F := Ideal) (φ₁ := .f32) (φ₂ := .f32) dot_S8x256x256_S32x4x8x256_S8x256x32x4_1_3_2_01_0_2 none wi (shapeCast _ (xc xr conv cw cb) shapeCasts_S32x4x2048_S32x4x8x256)) transposes_S8x256x32x4_S32x4x8x256_2_3_0_1) shapeCasts_S32x4x8x256_S32x4x2048) (broadcastInDim S32x4x2048 ![0, 1, 2] bcast_S1x1x2048_S32x4x2048_0_1_2 (broadcastInDim S1x1x2048 ![2] bcast_S2048_S1x1x2048_2 bi))))))

/-- The logarithm of the decay. -/
def la (xr : S32x4x2048.Idx → EReal) (conv : S32x3x2048.Idx → EReal) (cw : S4x2048.Idx → EReal) (cb : S2048.Idx → EReal) (wa : S8x256x256.Idx → EReal) (ba : S2048.Idx → EReal) (lam : S2048.Idx → EReal) : S32x4x2048.Idx → EReal :=
  mulf (F := Ideal) (φ := .f32) (mulf (broadcastInDim S32x4x2048 ![] bcast_S_S32x4x2048 (constant (F := Ideal) S_ .f32 0x41000000#32)) (gateA xr conv cw cb wa ba)) (broadcastInDim S32x4x2048 ![0, 1, 2] bcast_S1x1x2048_S32x4x2048_0_1_2 (broadcastInDim S1x1x2048 ![2] bcast_S2048_S1x1x2048_2 (ls lam)))

/-- The decay. -/
def decay (xr : S32x4x2048.Idx → EReal) (conv : S32x3x2048.Idx → EReal) (cw : S4x2048.Idx → EReal) (cb : S2048.Idx → EReal) (wa : S8x256x256.Idx → EReal) (ba : S2048.Idx → EReal) (lam : S2048.Idx → EReal) : S32x4x2048.Idx → EReal :=
  Host.exp (F := Ideal) (φ := .f32) (la xr conv cw cb wa ba lam)

/-- The gated input with its factor. -/
def inp (xr : S32x4x2048.Idx → EReal) (conv : S32x3x2048.Idx → EReal) (cw : S4x2048.Idx → EReal) (cb : S2048.Idx → EReal) (wa : S8x256x256.Idx → EReal) (ba : S2048.Idx → EReal) (wi : S8x256x256.Idx → EReal) (bi : S2048.Idx → EReal) (lam : S2048.Idx → EReal) : S32x4x2048.Idx → EReal :=
  mulf (F := Ideal) (φ := .f32) (Host.sqrt (Host.negf (Host.expm1 (mulf (broadcastInDim S32x4x2048 ![] bcast_S_S32x4x2048 (constant (F := Ideal) S_ .f32 0x40000000#32)) (la xr conv cw cb wa ba lam))))) (mulf (gateI xr conv cw cb wi bi) (xc xr conv cw cb))

/-- The last state. -/
def out (conv : S32x3x2048.Idx → EReal) (xr : S32x4x2048.Idx → EReal) (h0 : S32x2048.Idx → EReal) (cw : S4x2048.Idx → EReal) (cb : S2048.Idx → EReal) (wa : S8x256x256.Idx → EReal) (ba : S2048.Idx → EReal) (wi : S8x256x256.Idx → EReal) (bi : S2048.Idx → EReal) (lam : S2048.Idx → EReal) : S32x2048.Idx → EReal :=
  addf (F := Ideal) (φ := .f32) (mulf (shapeCast _ (extractStridedSlice S32x1x2048 ![0, 3, 0] (decay xr conv cw cb wa ba lam) slices_S32x4x2048_S32x1x2048_0_3_0) shapeCasts_S32x1x2048_S32x2048) (addf (mulf (shapeCast _ (extractStridedSlice S32x1x2048 ![0, 2, 0] (decay xr conv cw cb wa ba lam) slices_S32x4x2048_S32x1x2048_0_2_0) shapeCasts_S32x1x2048_S32x2048) (addf (mulf (shapeCast _ (extractStridedSlice S32x1x2048 ![0, 1, 0] (decay xr conv cw cb wa ba lam) slices_S32x4x2048_S32x1x2048_0_1_0) shapeCasts_S32x1x2048_S32x2048) (addf (mulf (shapeCast _ (extractStridedSlice S32x1x2048 ![0, 0, 0] (decay xr conv cw cb wa ba lam) slices_S32x4x2048_S32x1x2048_0_0_0) shapeCasts_S32x1x2048_S32x2048) h0) (shapeCast _ (extractStridedSlice S32x1x2048 ![0, 0, 0] (inp xr conv cw cb wa ba wi bi lam) slices_S32x4x2048_S32x1x2048_0_0_0) shapeCasts_S32x1x2048_S32x2048))) (shapeCast _ (extractStridedSlice S32x1x2048 ![0, 1, 0] (inp xr conv cw cb wa ba wi bi lam) slices_S32x4x2048_S32x1x2048_0_1_0) shapeCasts_S32x1x2048_S32x2048))) (shapeCast _ (extractStridedSlice S32x1x2048 ![0, 2, 0] (inp xr conv cw cb wa ba wi bi lam) slices_S32x4x2048_S32x1x2048_0_2_0) shapeCasts_S32x1x2048_S32x2048))) (shapeCast _ (extractStridedSlice S32x1x2048 ![0, 3, 0] (inp xr conv cw cb wa ba wi bi lam) slices_S32x4x2048_S32x1x2048_0_3_0) shapeCasts_S32x1x2048_S32x2048)

variable (conv : S32x3x2048.Idx → EReal) (xr : S32x4x2048.Idx → EReal) (h0 : S32x2048.Idx → EReal) (cw : S4x2048.Idx → EReal) (cb : S2048.Idx → EReal)
  (wa : S8x256x256.Idx → EReal) (ba : S2048.Idx → EReal) (wi : S8x256x256.Idx → EReal) (bi lam : S2048.Idx → EReal)

theorem xc_apply (p : Fin 32) (s : Fin 4) (e : Fin 2048) : xc xr conv cw cb (ix3 p s e) = Kernel10Ideal.Hand.convAt (ext conv xr) cw cb s p e := by
  generalize hE : ext conv xr = E
  have h : xc xr conv cw cb (ix3 p s e) = cb (ix1 e) + (0 + E (ix3 p ⟨s.val, by omega⟩ e) * cw (ix2 0 e) + E (ix3 p ⟨s.val + 1, by omega⟩ e) * cw (ix2 1 e)
      + E (ix3 p ⟨s.val + 2, by omega⟩ e) * cw (ix2 2 e) + E (ix3 p ⟨s.val + 3, by omega⟩ e) * cw (ix2 3 e)) := by
    unfold xc
    rw [hE]
    pointwise
    simp only [Nat.add_comm 1, Nat.add_comm 2, Nat.add_comm 3]
  rw [h]
  unfold Kernel10Ideal.Hand.convAt Recurrence.taps
  rw [zero_add]
  simp only [add_assoc]

theorem ls_apply (e : Fin 2048) : ls lam (ix1 e) = LogSigmoid.logSig (lam (ix1 e)) := by
  rw [← LogSigmoid.logSig_eq]
  pointwise [ls]
  rw [if_neg (fun h => h rfl)]
  rfl

/-- The gate of the decay, over any value of the convolution. -/
theorem gateA_sum (p : Fin 32) (s : Fin 4) (e : Fin 2048) : gateA xr conv cw cb wa ba (ix3 p s e)
    = Ideal.div 1 (1 + Ideal.exp (-((∑ j : Fin 256, wa (ix3 ⟨e.val / 256, by omega⟩ j ⟨e.val % 256, by omega⟩) * xc xr conv cw cb (ix3 p s ⟨e.val / 256 * 256 + j.val, by omega⟩)) + ba (ix1 e)))) := by
  unfold gateA
  generalize xc xr conv cw cb = X
  pointwise

theorem gateA_apply (p : Fin 32) (s : Fin 4) (e : Fin 2048) : gateA xr conv cw cb wa ba (ix3 p s e)
    = Recurrence.sig (Kernel10Ideal.Hand.gateArg (fun j => xc xr conv cw cb (ix3 p s j)) wa ba e) := by
  rw [gateA_sum]
  unfold Recurrence.sig
  rw [zero_sub]
  refine congrArg (fun z : EReal => Ideal.div 1 (1 + Ideal.exp (-(z + ba (ix1 e))))) ?_
  exact Finset.sum_congr rfl fun j _ => mul_comm _ _

/-- The gate of the input, over any value of the convolution. -/
theorem gateI_sum (p : Fin 32) (s : Fin 4) (e : Fin 2048) : gateI xr conv cw cb wi bi (ix3 p s e)
    = Ideal.div 1 (1 + Ideal.exp (-((∑ j : Fin 256, wi (ix3 ⟨e.val / 256, by omega⟩ j ⟨e.val % 256, by omega⟩) * xc xr conv cw cb (ix3 p s ⟨e.val / 256 * 256 + j.val, by omega⟩)) + bi (ix1 e)))) := by
  unfold gateI
  generalize xc xr conv cw cb = X
  pointwise

theorem gateI_apply (p : Fin 32) (s : Fin 4) (e : Fin 2048) : gateI xr conv cw cb wi bi (ix3 p s e)
    = Recurrence.sig (Kernel10Ideal.Hand.gateArg (fun j => xc xr conv cw cb (ix3 p s j)) wi bi e) := by
  rw [gateI_sum]
  unfold Recurrence.sig
  rw [zero_sub]
  refine congrArg (fun z : EReal => Ideal.div 1 (1 + Ideal.exp (-(z + bi (ix1 e))))) ?_
  exact Finset.sum_congr rfl fun j _ => mul_comm _ _

theorem la_apply (p : Fin 32) (s : Fin 4) (e : Fin 2048) : la xr conv cw cb wa ba lam (ix3 p s e)
    = Recurrence.logDecay (Kernel10Ideal.Hand.gateArg (fun j => xc xr conv cw cb (ix3 p s j)) wa ba e) (lam (ix1 e)) := by
  unfold Recurrence.logDecay
  rw [← gateA_apply, ← ls_apply]
  unfold la
  generalize gateA xr conv cw cb wa ba = X
  generalize ls lam = Y
  pointwise

theorem decay_apply (p : Fin 32) (s : Fin 4) (e : Fin 2048) : decay xr conv cw cb wa ba lam (ix3 p s e) = Ideal.exp (la xr conv cw cb wa ba lam (ix3 p s e)) := by
  unfold decay
  generalize la xr conv cw cb wa ba lam = X
  pointwise

theorem inp_apply (p : Fin 32) (s : Fin 4) (e : Fin 2048) : inp xr conv cw cb wa ba wi bi lam (ix3 p s e)
    = Ideal.sqrt (-(Ideal.expm1 (Recurrence.two * la xr conv cw cb wa ba lam (ix3 p s e)))) * (gateI xr conv cw cb wi bi (ix3 p s e) * xc xr conv cw cb (ix3 p s e)) := by
  unfold inp
  generalize la xr conv cw cb wa ba lam = X
  generalize gateI xr conv cw cb wi bi = Y
  generalize xc xr conv cw cb = Z
  pointwise
  rfl

/-- One position's step. -/
theorem next_eq (h : EReal) (p : Fin 32) (s : Fin 4) (e : Fin 2048) :
    decay xr conv cw cb wa ba lam (ix3 p s e) * h + inp xr conv cw cb wa ba wi bi lam (ix3 p s e)
      = Kernel10Ideal.Hand.next (ext conv xr) cw cb wa ba wi bi lam h s p e := by
  rw [decay_apply, inp_apply, la_apply, gateI_apply, Recurrence.step_eq]
  simp only [xc_apply]
  rfl

theorem out_apply (p : Fin 32) (e : Fin 2048) : out conv xr h0 cw cb wa ba wi bi lam (ix2 p e)
    = decay xr conv cw cb wa ba lam (ix3 p 3 e) * (decay xr conv cw cb wa ba lam (ix3 p 2 e) * (decay xr conv cw cb wa ba lam (ix3 p 1 e)
        * (decay xr conv cw cb wa ba lam (ix3 p 0 e) * h0 (ix2 p e) + inp xr conv cw cb wa ba wi bi lam (ix3 p 0 e)) + inp xr conv cw cb wa ba wi bi lam (ix3 p 1 e))
        + inp xr conv cw cb wa ba wi bi lam (ix3 p 2 e)) + inp xr conv cw cb wa ba wi bi lam (ix3 p 3 e) := by
  unfold out
  generalize decay xr conv cw cb wa ba lam = X
  generalize inp xr conv cw cb wa ba wi bi lam = Y
  pointwise

/-- The last state is the kernel's. -/
theorem out_eq : out conv xr h0 cw cb wa ba wi bi lam = Kernel10Ideal.Hand.outArr (Kernel10Ideal.Hand.ext conv xr) h0 cw cb wa ba wi bi lam := by
  funext i
  obtain ⟨p, e, rfl⟩ : ∃ (p : Fin 32) (e : Fin 2048), i = ix2 p e := ⟨i 0, i 1, eq_ix2 i⟩
  rw [out_apply, next_eq, next_eq, next_eq, next_eq]
  rfl

end Cert.Reference10Ideal.Hand

end
-- ==== Proof.RgSample.Claims.lean ====
/-
  The claims about the gated recurrence over the sample's positions.
-/
module

public import proofs.«01_k».proof.Defs
public import proofs.«01_k».proof.Proof.RgSample.Ref
public import proofs.«01_k».proof.Proof.Gen.Kernel10.Frame
public import proofs.«01_k».proof.Proof.Gen.Reference10Ideal.Run
public import Idealize.ShloMosaic.Lib.Quiescent

@[expose] public section

noncomputable section

namespace Cert.Reference10Ideal.Hand

open Cert.Reference10Ideal Cert.Reference10Ideal.Gen
open Idealize.ShloMosaic Idealize.ShloMosaic.TcCoe Idealize.SL.Sem

set_option maxRecDepth 16384

/-- The run's result is the last state of the arguments. -/
theorem res_eq (m : (ℓ : Loc nD τ sig) → Buf (Elt Ideal) ℓ) (c : Dev nD) :
    Value.res_main_v95 m c = out (m ((c.tc : Thread nD τ).loc main_arg2)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Value.res_main_v95 out inp decay la gateI gateA ls xc ext
  rfl

end Cert.Reference10Ideal.Hand

namespace Cert.RgSample

open Idealize.ShloMosaic Idealize.ShloMosaic.TcCoe Idealize.SL.Sem

theorem frame_kernel : Cert.quiescent_Kernel10 := fun m g _ => Cert.Kernel10.Gen.frame m g

theorem frame_ideal : Cert.quiescent_Kernel10Ideal := fun m g _ => Cert.Kernel10Ideal.Gen.frame m g

theorem frame_ref : Cert.quiescent_Reference10Ideal := fun m g _ =>
  (θ_run Cert.Reference10Ideal.defs _ _).mono (fun r h => ⟨fun c => (h c).2, sem_eq_zero_of_no_sems (by decide) r.2⟩) (Cert.Reference10Ideal.Value.run m g)

theorem preserves : Cert.preserves_Kernel10_Kernel10Ideal := trivial

theorem algebraic : Cert.algebraic_Kernel10Ideal_Reference10Ideal := by
  intro m g m' g' _ hagree
  refine ⟨fun c => (Kernel10Ideal.Gen.dats m 0 c).arrAt 11 Kernel10Ideal.cfg0.N, (θ_run _ _ _).mono (fun r h c => (h c).2) (Kernel10Ideal.Value.run_blocks m g), ?_⟩
  refine (θ_run _ _ _).mono (fun r h c => ⟨(h c).1.trans ?_, (h c).2⟩) (Cert.Reference10Ideal.Value.run m' g')
  obtain ⟨_, h1, h2, h3, h4, h5, h6, h7, h8, h9, h10⟩ := hagree c
  rw [Reference10Ideal.Hand.res_eq, h1, h2, h3, h4, h5, h6, h7, h8, h9, h10]
  exact (Reference10Ideal.Hand.out_eq _ _ _ _ _ _ _ _ _ _).trans (Kernel10Ideal.Hand.arr_eq m c).symm

end Cert.RgSample

end
-- ==== Proof.lean ====
module

public import proofs.«01_k».proof.Defs
public import proofs.«01_k».proof.Proof.Flash.Claims
public import proofs.«01_k».proof.Proof.InProj.Claims
public import proofs.«01_k».proof.Proof.OutProj.Claims
public import proofs.«01_k».proof.Proof.AttProj.Claims
public import proofs.«01_k».proof.Proof.PeerProj.Claims
public import proofs.«01_k».proof.Proof.InProjSample.Claims
public import proofs.«01_k».proof.Proof.AttProjSample.Claims
public import proofs.«01_k».proof.Proof.PostSample.Claims
public import proofs.«01_k».proof.Proof.PostPrompt.Claims
public import proofs.«01_k».proof.Proof.RgSample.Claims

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Pre_finite.Gen.facts,
    Cert.Flash.frame_kernel, Cert.Flash.frame_ideal, Cert.Flash.frame_ideal_pre, Cert.Flash.frame_ref, Cert.Flash.frame_ref_pre,
    Cert.InProj.frame_kernel, Cert.InProj.frame_ideal, Cert.InProj.frame_ref,
    Cert.OutProj.frame_kernel, Cert.OutProj.frame_ideal, Cert.OutProj.frame_ref,
    Cert.AttProj.frame_kernel, Cert.AttProj.frame_ideal, Cert.AttProj.frame_ref,
    Cert.PeerProj.frame_kernel, Cert.PeerProj.frame_ideal, Cert.PeerProj.frame_ref,
    Cert.InProjSample.frame_kernel, Cert.InProjSample.frame_ideal, Cert.InProjSample.frame_ref,
    Cert.AttProjSample.frame_kernel, Cert.AttProjSample.frame_ideal, Cert.AttProjSample.frame_ref,
    Cert.PostSample.frame_kernel, Cert.PostSample.frame_ideal, Cert.PostSample.frame_ref,
    Cert.PostPrompt.frame_kernel, Cert.PostPrompt.frame_ideal, Cert.PostPrompt.frame_ref,
    Cert.RgSample.frame_kernel, Cert.RgSample.frame_ideal, Cert.RgSample.frame_ref,
    Cert.Flash.preserves, Cert.Flash.algebraic, Cert.InProj.preserves, Cert.InProj.algebraic,
    Cert.OutProj.preserves, Cert.OutProj.algebraic, Cert.AttProj.preserves, Cert.AttProj.algebraic,
    Cert.PeerProj.preserves, Cert.PeerProj.algebraic,
    Cert.InProjSample.preserves, Cert.InProjSample.algebraic,
    Cert.AttProjSample.preserves, Cert.AttProjSample.algebraic,
    Cert.PostSample.preserves, Cert.PostSample.algebraic,
    Cert.PostPrompt.preserves, Cert.PostPrompt.algebraic,
    Cert.RgSample.preserves, Cert.RgSample.algebraic⟩

end Cert.Proof

end
